-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S8x2048x128 : Shape := ⟨3, ![8, 2048, 128]⟩
abbrev S8x4x512x128 : Shape := ⟨4, ![8, 4, 512, 128]⟩
abbrev S8x3x512x128 : Shape := ⟨4, ![8, 3, 512, 128]⟩
abbrev S8x4x128x128 : Shape := ⟨4, ![8, 4, 128, 128]⟩
abbrev S8x3x128x128 : Shape := ⟨4, ![8, 3, 128, 128]⟩
abbrev S8x128x128 : Shape := ⟨3, ![8, 128, 128]⟩
abbrev S8x512x128 : Shape := ⟨3, ![8, 512, 128]⟩
abbrev S8 : Shape := ⟨1, ![8]⟩
abbrev S8x3 : Shape := ⟨2, ![8, 3]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S1x512x128 : Shape := ⟨3, ![1, 512, 128]⟩
abbrev S512x128 : Shape := ⟨2, ![512, 128]⟩
abbrev S1x1x512x128 : Shape := ⟨4, ![1, 1, 512, 128]⟩
abbrev S1x1 : Shape := ⟨2, ![1, 1]⟩
abbrev S1x3x512x128 : Shape := ⟨4, ![1, 3, 512, 128]⟩
abbrev S3x512x128 : Shape := ⟨3, ![3, 512, 128]⟩
abbrev S1x4x512x128 : Shape := ⟨4, ![1, 4, 512, 128]⟩
abbrev S4x512x128 : Shape := ⟨3, ![4, 512, 128]⟩
abbrev S128x128 : Shape := ⟨2, ![128, 128]⟩
abbrev S1x1x128x128 : Shape := ⟨4, ![1, 1, 128, 128]⟩
abbrev S1x3x128x128 : Shape := ⟨4, ![1, 3, 128, 128]⟩
abbrev S3x128x128 : Shape := ⟨3, ![3, 128, 128]⟩
abbrev S1x128x128 : Shape := ⟨3, ![1, 128, 128]⟩
abbrev S1x4x128x128 : Shape := ⟨4, ![1, 4, 128, 128]⟩
abbrev S4x128x128 : Shape := ⟨3, ![4, 128, 128]⟩

abbrev nBuf : Space → Nat
  | .hbm => 2
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .bf16⟩
  | .local _ .vmem, ⟨1, _⟩ => ⟨S8x2048x128, .f32⟩
  | .local _ .vmem, ⟨2, _⟩ => ⟨S8x4x512x128, .bf16⟩
  | .local _ .vmem, ⟨3, _⟩ => ⟨S8x3x512x128, .bf16⟩
  | .local _ .vmem, ⟨4, _⟩ => ⟨S8x4x128x128, .bf16⟩
  | .local _ .vmem, ⟨5, _⟩ => ⟨S8x3x128x128, .bf16⟩
  | .local _ .vmem, ⟨6, _⟩ => ⟨S8x128x128, .bf16⟩
  | .local _ .vmem, ⟨7, _⟩ => ⟨S8x512x128, .bf16⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 201 → Bool
  | ⟨i, _⟩ => dmaSemScopedAt i

abbrev sig : RefSig :=
  (ofTc nBuf bufTy 1 201 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_59 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v30 : BitVec 32 := Scalar.muli c4_i32_11 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_12 : BitVec 32 := 1#32
  let v31 : BitVec 32 := Scalar.addi v12 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_58 : BitVec 32 := 1#32
  let v109 : BitVec 32 := Scalar.muli v42 c1_i32_58
  let v110 : BitVec 32 := Scalar.addi c0_i32_59 v109
  v110.toNat
def k0_dev2 (d0 : Dev nD) : Nat :=
  let c0_i32_62 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v43 : BitVec 32 := Scalar.muli c4_i32_19 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v44 : BitVec 32 := Scalar.addi v12 c2_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_61 : BitVec 32 := 1#32
  let v111 : BitVec 32 := Scalar.muli v55 c1_i32_61
  let v112 : BitVec 32 := Scalar.addi c0_i32_62 v111
  v112.toNat
def k0_dev3 (d0 : Dev nD) : Nat :=
  let c0_i32_65 : BitVec 32 := 0#32
  let c4_i32_26 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v56 : BitVec 32 := Scalar.muli c4_i32_26 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v57 : BitVec 32 := Scalar.addi v12 c3_i32
  let c4_i32_27 : BitVec 32 := 4#32
  let c0_i32_28 : BitVec 32 := 0#32
  let v58 : BitVec 1 := Scalar.cmpi .eq c4_i32_27 c0_i32_28
  let c1_i32_29 : BitVec 32 := 1#32
  let v59 : BitVec 32 := Scalar.select v58 c1_i32_29 c4_i32_27
  let v60 : BitVec 32 := Scalar.remsi v57 v59
  let c0_i32_31 : BitVec 32 := 0#32
  let v62 : BitVec 1 := Scalar.cmpi .slt v60 c0_i32_31
  let c0_i32_32 : BitVec 32 := 0#32
  let v63 : BitVec 1 := Scalar.cmpi .slt v59 c0_i32_32
  let v64 : BitVec 1 := Scalar.xori v62 v63
  let c0_i32_30 : BitVec 32 := 0#32
  let v61 : BitVec 1 := Scalar.cmpi .ne v60 c0_i32_30
  let v65 : BitVec 1 := Scalar.andi v64 v61
  let v66 : BitVec 32 := Scalar.addi v60 v59
  let v67 : BitVec 32 := Scalar.select v65 v66 v60
  let v68 : BitVec 32 := Scalar.addi v56 v67
  let c1_i32_64 : BitVec 32 := 1#32
  let v113 : BitVec 32 := Scalar.muli v68 c1_i32_64
  let v114 : BitVec 32 := Scalar.addi c0_i32_65 v113
  v114.toNat
def k0_dev4 (d0 : Dev nD) : Nat :=
  let c0_i32_68 : BitVec 32 := 0#32
  let c4_i32_40 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v69 : BitVec 32 := Scalar.addi v29 c1_i32_33
  let c4_i32_34 : BitVec 32 := 4#32
  let c0_i32_35 : BitVec 32 := 0#32
  let v70 : BitVec 1 := Scalar.cmpi .eq c4_i32_34 c0_i32_35
  let c1_i32_36 : BitVec 32 := 1#32
  let v71 : BitVec 32 := Scalar.select v70 c1_i32_36 c4_i32_34
  let v72 : BitVec 32 := Scalar.remsi v69 v71
  let c0_i32_38 : BitVec 32 := 0#32
  let v74 : BitVec 1 := Scalar.cmpi .slt v72 c0_i32_38
  let c0_i32_39 : BitVec 32 := 0#32
  let v75 : BitVec 1 := Scalar.cmpi .slt v71 c0_i32_39
  let v76 : BitVec 1 := Scalar.xori v74 v75
  let c0_i32_37 : BitVec 32 := 0#32
  let v73 : BitVec 1 := Scalar.cmpi .ne v72 c0_i32_37
  let v77 : BitVec 1 := Scalar.andi v76 v73
  let v78 : BitVec 32 := Scalar.addi v72 v71
  let v79 : BitVec 32 := Scalar.select v77 v78 v72
  let v80 : BitVec 32 := Scalar.muli c4_i32_40 v79
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v81 : BitVec 32 := Scalar.addi v80 v12
  let c1_i32_67 : BitVec 32 := 1#32
  let v115 : BitVec 32 := Scalar.muli v81 c1_i32_67
  let v116 : BitVec 32 := Scalar.addi c0_i32_68 v115
  v116.toNat
def k0_dev5 (d0 : Dev nD) : Nat :=
  let c0_i32_71 : BitVec 32 := 0#32
  let c4_i32_48 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_41 : BitVec 32 := 2#32
  let v82 : BitVec 32 := Scalar.addi v29 c2_i32_41
  let c4_i32_42 : BitVec 32 := 4#32
  let c0_i32_43 : BitVec 32 := 0#32
  let v83 : BitVec 1 := Scalar.cmpi .eq c4_i32_42 c0_i32_43
  let c1_i32_44 : BitVec 32 := 1#32
  let v84 : BitVec 32 := Scalar.select v83 c1_i32_44 c4_i32_42
  let v85 : BitVec 32 := Scalar.remsi v82 v84
  let c0_i32_46 : BitVec 32 := 0#32
  let v87 : BitVec 1 := Scalar.cmpi .slt v85 c0_i32_46
  let c0_i32_47 : BitVec 32 := 0#32
  let v88 : BitVec 1 := Scalar.cmpi .slt v84 c0_i32_47
  let v89 : BitVec 1 := Scalar.xori v87 v88
  let c0_i32_45 : BitVec 32 := 0#32
  let v86 : BitVec 1 := Scalar.cmpi .ne v85 c0_i32_45
  let v90 : BitVec 1 := Scalar.andi v89 v86
  let v91 : BitVec 32 := Scalar.addi v85 v84
  let v92 : BitVec 32 := Scalar.select v90 v91 v85
  let v93 : BitVec 32 := Scalar.muli c4_i32_48 v92
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v94 : BitVec 32 := Scalar.addi v93 v12
  let c1_i32_70 : BitVec 32 := 1#32
  let v117 : BitVec 32 := Scalar.muli v94 c1_i32_70
  let v118 : BitVec 32 := Scalar.addi c0_i32_71 v117
  v118.toNat
def k0_dev6 (d0 : Dev nD) : Nat :=
  let c0_i32_74 : BitVec 32 := 0#32
  let c4_i32_56 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_49 : BitVec 32 := 3#32
  let v95 : BitVec 32 := Scalar.addi v29 c3_i32_49
  let c4_i32_50 : BitVec 32 := 4#32
  let c0_i32_51 : BitVec 32 := 0#32
  let v96 : BitVec 1 := Scalar.cmpi .eq c4_i32_50 c0_i32_51
  let c1_i32_52 : BitVec 32 := 1#32
  let v97 : BitVec 32 := Scalar.select v96 c1_i32_52 c4_i32_50
  let v98 : BitVec 32 := Scalar.remsi v95 v97
  let c0_i32_54 : BitVec 32 := 0#32
  let v100 : BitVec 1 := Scalar.cmpi .slt v98 c0_i32_54
  let c0_i32_55 : BitVec 32 := 0#32
  let v101 : BitVec 1 := Scalar.cmpi .slt v97 c0_i32_55
  let v102 : BitVec 1 := Scalar.xori v100 v101
  let c0_i32_53 : BitVec 32 := 0#32
  let v99 : BitVec 1 := Scalar.cmpi .ne v98 c0_i32_53
  let v103 : BitVec 1 := Scalar.andi v102 v99
  let v104 : BitVec 32 := Scalar.addi v98 v97
  let v105 : BitVec 32 := Scalar.select v103 v104 v98
  let v106 : BitVec 32 := Scalar.muli c4_i32_56 v105
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v107 : BitVec 32 := Scalar.addi v106 v12
  let c1_i32_73 : BitVec 32 := 1#32
  let v119 : BitVec 32 := Scalar.muli v107 c1_i32_73
  let v120 : BitVec 32 := Scalar.addi c0_i32_74 v119
  v120.toNat
def k0_off1 (d0 : Dev nD) (c1_i32_141 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v190 : BitVec 32 := Scalar.addi v12 c1_i32_141
  let c4_i32_142 : BitVec 32 := 4#32
  let c0_i32_143 : BitVec 32 := 0#32
  let v191 : BitVec 1 := Scalar.cmpi .eq c4_i32_142 c0_i32_143
  let c1_i32_144 : BitVec 32 := 1#32
  let v192 : BitVec 32 := Scalar.select v191 c1_i32_144 c4_i32_142
  let v193 : BitVec 32 := Scalar.remsi v190 v192
  let c0_i32_146 : BitVec 32 := 0#32
  let v195 : BitVec 1 := Scalar.cmpi .slt v193 c0_i32_146
  let c0_i32_147 : BitVec 32 := 0#32
  let v196 : BitVec 1 := Scalar.cmpi .slt v192 c0_i32_147
  let v197 : BitVec 1 := Scalar.xori v195 v196
  let c0_i32_145 : BitVec 32 := 0#32
  let v194 : BitVec 1 := Scalar.cmpi .ne v193 c0_i32_145
  let v198 : BitVec 1 := Scalar.andi v197 v194
  let v199 : BitVec 32 := Scalar.addi v193 v192
  let v200 : BitVec 32 := Scalar.select v198 v199 v193
  let c0_i32_166 : BitVec 32 := 0#32
  let c0_i32_167 : BitVec 32 := 0#32
  ![v200.toNat, 0, 0]
def k0_off2 (d0 : Dev nD) (c1_i32_141 : BitVec 32) : Fin 4 → Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v190 : BitVec 32 := Scalar.addi v12 c1_i32_141
  let c4_i32_142 : BitVec 32 := 4#32
  let c0_i32_143 : BitVec 32 := 0#32
  let v191 : BitVec 1 := Scalar.cmpi .eq c4_i32_142 c0_i32_143
  let c1_i32_144 : BitVec 32 := 1#32
  let v192 : BitVec 32 := Scalar.select v191 c1_i32_144 c4_i32_142
  let v193 : BitVec 32 := Scalar.remsi v190 v192
  let c0_i32_146 : BitVec 32 := 0#32
  let v195 : BitVec 1 := Scalar.cmpi .slt v193 c0_i32_146
  let c0_i32_147 : BitVec 32 := 0#32
  let v196 : BitVec 1 := Scalar.cmpi .slt v192 c0_i32_147
  let v197 : BitVec 1 := Scalar.xori v195 v196
  let c0_i32_145 : BitVec 32 := 0#32
  let v194 : BitVec 1 := Scalar.cmpi .ne v193 c0_i32_145
  let v198 : BitVec 1 := Scalar.andi v197 v194
  let v199 : BitVec 32 := Scalar.addi v193 v192
  let v200 : BitVec 32 := Scalar.select v198 v199 v193
  let c0_i32_164 : BitVec 32 := 0#32
  let c0_i32_165 : BitVec 32 := 0#32
  ![0, v200.toNat, 0, 0]
def k0_dev7 (d0 : Dev nD) : Nat :=
  let c0_i32_157 : BitVec 32 := 0#32
  let c4_i32_148 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v201 : BitVec 32 := Scalar.muli c4_i32_148 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_141 : BitVec 32 := 1#32
  let v190 : BitVec 32 := Scalar.addi v12 c1_i32_141
  let c4_i32_142 : BitVec 32 := 4#32
  let c0_i32_143 : BitVec 32 := 0#32
  let v191 : BitVec 1 := Scalar.cmpi .eq c4_i32_142 c0_i32_143
  let c1_i32_144 : BitVec 32 := 1#32
  let v192 : BitVec 32 := Scalar.select v191 c1_i32_144 c4_i32_142
  let v193 : BitVec 32 := Scalar.remsi v190 v192
  let c0_i32_146 : BitVec 32 := 0#32
  let v195 : BitVec 1 := Scalar.cmpi .slt v193 c0_i32_146
  let c0_i32_147 : BitVec 32 := 0#32
  let v196 : BitVec 1 := Scalar.cmpi .slt v192 c0_i32_147
  let v197 : BitVec 1 := Scalar.xori v195 v196
  let c0_i32_145 : BitVec 32 := 0#32
  let v194 : BitVec 1 := Scalar.cmpi .ne v193 c0_i32_145
  let v198 : BitVec 1 := Scalar.andi v197 v194
  let v199 : BitVec 32 := Scalar.addi v193 v192
  let v200 : BitVec 32 := Scalar.select v198 v199 v193
  let v202 : BitVec 32 := Scalar.addi v201 v200
  let c1_i32_156 : BitVec 32 := 1#32
  let v203 : BitVec 32 := Scalar.muli v202 c1_i32_156
  let v204 : BitVec 32 := Scalar.addi c0_i32_157 v203
  v204.toNat
def k0_dev8 (d0 : Dev nD) : Nat :=
  let c0_i32_184 : BitVec 32 := 0#32
  let c4_i32_175 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v228 : BitVec 32 := Scalar.muli c4_i32_175 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_168 : BitVec 32 := 2#32
  let v217 : BitVec 32 := Scalar.addi v12 c2_i32_168
  let c4_i32_169 : BitVec 32 := 4#32
  let c0_i32_170 : BitVec 32 := 0#32
  let v218 : BitVec 1 := Scalar.cmpi .eq c4_i32_169 c0_i32_170
  let c1_i32_171 : BitVec 32 := 1#32
  let v219 : BitVec 32 := Scalar.select v218 c1_i32_171 c4_i32_169
  let v220 : BitVec 32 := Scalar.remsi v217 v219
  let c0_i32_173 : BitVec 32 := 0#32
  let v222 : BitVec 1 := Scalar.cmpi .slt v220 c0_i32_173
  let c0_i32_174 : BitVec 32 := 0#32
  let v223 : BitVec 1 := Scalar.cmpi .slt v219 c0_i32_174
  let v224 : BitVec 1 := Scalar.xori v222 v223
  let c0_i32_172 : BitVec 32 := 0#32
  let v221 : BitVec 1 := Scalar.cmpi .ne v220 c0_i32_172
  let v225 : BitVec 1 := Scalar.andi v224 v221
  let v226 : BitVec 32 := Scalar.addi v220 v219
  let v227 : BitVec 32 := Scalar.select v225 v226 v220
  let v229 : BitVec 32 := Scalar.addi v228 v227
  let c1_i32_183 : BitVec 32 := 1#32
  let v230 : BitVec 32 := Scalar.muli v229 c1_i32_183
  let v231 : BitVec 32 := Scalar.addi c0_i32_184 v230
  v231.toNat
def k0_dev9 (d0 : Dev nD) : Nat :=
  let c0_i32_211 : BitVec 32 := 0#32
  let c4_i32_202 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v255 : BitVec 32 := Scalar.muli c4_i32_202 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_195 : BitVec 32 := 3#32
  let v244 : BitVec 32 := Scalar.addi v12 c3_i32_195
  let c4_i32_196 : BitVec 32 := 4#32
  let c0_i32_197 : BitVec 32 := 0#32
  let v245 : BitVec 1 := Scalar.cmpi .eq c4_i32_196 c0_i32_197
  let c1_i32_198 : BitVec 32 := 1#32
  let v246 : BitVec 32 := Scalar.select v245 c1_i32_198 c4_i32_196
  let v247 : BitVec 32 := Scalar.remsi v244 v246
  let c0_i32_200 : BitVec 32 := 0#32
  let v249 : BitVec 1 := Scalar.cmpi .slt v247 c0_i32_200
  let c0_i32_201 : BitVec 32 := 0#32
  let v250 : BitVec 1 := Scalar.cmpi .slt v246 c0_i32_201
  let v251 : BitVec 1 := Scalar.xori v249 v250
  let c0_i32_199 : BitVec 32 := 0#32
  let v248 : BitVec 1 := Scalar.cmpi .ne v247 c0_i32_199
  let v252 : BitVec 1 := Scalar.andi v251 v248
  let v253 : BitVec 32 := Scalar.addi v247 v246
  let v254 : BitVec 32 := Scalar.select v252 v253 v247
  let v256 : BitVec 32 := Scalar.addi v255 v254
  let c1_i32_210 : BitVec 32 := 1#32
  let v257 : BitVec 32 := Scalar.muli v256 c1_i32_210
  let v258 : BitVec 32 := Scalar.addi c0_i32_211 v257
  v258.toNat
def k0_off3 (d0 : Dev nD) (c1_i32_256 : BitVec 32) : Fin 4 → Nat :=
  let c1_i32_264 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v300 : BitVec 32 := Scalar.addi v12 c1_i32_256
  let c4_i32_257 : BitVec 32 := 4#32
  let c0_i32_258 : BitVec 32 := 0#32
  let v301 : BitVec 1 := Scalar.cmpi .eq c4_i32_257 c0_i32_258
  let c1_i32_259 : BitVec 32 := 1#32
  let v302 : BitVec 32 := Scalar.select v301 c1_i32_259 c4_i32_257
  let v303 : BitVec 32 := Scalar.remsi v300 v302
  let c0_i32_261 : BitVec 32 := 0#32
  let v305 : BitVec 1 := Scalar.cmpi .slt v303 c0_i32_261
  let c0_i32_262 : BitVec 32 := 0#32
  let v306 : BitVec 1 := Scalar.cmpi .slt v302 c0_i32_262
  let v307 : BitVec 1 := Scalar.xori v305 v306
  let c0_i32_260 : BitVec 32 := 0#32
  let v304 : BitVec 1 := Scalar.cmpi .ne v303 c0_i32_260
  let v308 : BitVec 1 := Scalar.andi v307 v304
  let v309 : BitVec 32 := Scalar.addi v303 v302
  let v310 : BitVec 32 := Scalar.select v308 v309 v303
  let c0_i32_279 : BitVec 32 := 0#32
  let c0_i32_280 : BitVec 32 := 0#32
  ![1, v310.toNat, 0, 0]
def k0_dev10 (d0 : Dev nD) : Nat :=
  let c0_i32_272 : BitVec 32 := 0#32
  let c4_i32_263 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v311 : BitVec 32 := Scalar.muli c4_i32_263 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_256 : BitVec 32 := 1#32
  let v300 : BitVec 32 := Scalar.addi v12 c1_i32_256
  let c4_i32_257 : BitVec 32 := 4#32
  let c0_i32_258 : BitVec 32 := 0#32
  let v301 : BitVec 1 := Scalar.cmpi .eq c4_i32_257 c0_i32_258
  let c1_i32_259 : BitVec 32 := 1#32
  let v302 : BitVec 32 := Scalar.select v301 c1_i32_259 c4_i32_257
  let v303 : BitVec 32 := Scalar.remsi v300 v302
  let c0_i32_261 : BitVec 32 := 0#32
  let v305 : BitVec 1 := Scalar.cmpi .slt v303 c0_i32_261
  let c0_i32_262 : BitVec 32 := 0#32
  let v306 : BitVec 1 := Scalar.cmpi .slt v302 c0_i32_262
  let v307 : BitVec 1 := Scalar.xori v305 v306
  let c0_i32_260 : BitVec 32 := 0#32
  let v304 : BitVec 1 := Scalar.cmpi .ne v303 c0_i32_260
  let v308 : BitVec 1 := Scalar.andi v307 v304
  let v309 : BitVec 32 := Scalar.addi v303 v302
  let v310 : BitVec 32 := Scalar.select v308 v309 v303
  let v312 : BitVec 32 := Scalar.addi v311 v310
  let c1_i32_271 : BitVec 32 := 1#32
  let v313 : BitVec 32 := Scalar.muli v312 c1_i32_271
  let v314 : BitVec 32 := Scalar.addi c0_i32_272 v313
  v314.toNat
def k0_dev11 (d0 : Dev nD) : Nat :=
  let c0_i32_299 : BitVec 32 := 0#32
  let c4_i32_290 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v338 : BitVec 32 := Scalar.muli c4_i32_290 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_283 : BitVec 32 := 2#32
  let v327 : BitVec 32 := Scalar.addi v12 c2_i32_283
  let c4_i32_284 : BitVec 32 := 4#32
  let c0_i32_285 : BitVec 32 := 0#32
  let v328 : BitVec 1 := Scalar.cmpi .eq c4_i32_284 c0_i32_285
  let c1_i32_286 : BitVec 32 := 1#32
  let v329 : BitVec 32 := Scalar.select v328 c1_i32_286 c4_i32_284
  let v330 : BitVec 32 := Scalar.remsi v327 v329
  let c0_i32_288 : BitVec 32 := 0#32
  let v332 : BitVec 1 := Scalar.cmpi .slt v330 c0_i32_288
  let c0_i32_289 : BitVec 32 := 0#32
  let v333 : BitVec 1 := Scalar.cmpi .slt v329 c0_i32_289
  let v334 : BitVec 1 := Scalar.xori v332 v333
  let c0_i32_287 : BitVec 32 := 0#32
  let v331 : BitVec 1 := Scalar.cmpi .ne v330 c0_i32_287
  let v335 : BitVec 1 := Scalar.andi v334 v331
  let v336 : BitVec 32 := Scalar.addi v330 v329
  let v337 : BitVec 32 := Scalar.select v335 v336 v330
  let v339 : BitVec 32 := Scalar.addi v338 v337
  let c1_i32_298 : BitVec 32 := 1#32
  let v340 : BitVec 32 := Scalar.muli v339 c1_i32_298
  let v341 : BitVec 32 := Scalar.addi c0_i32_299 v340
  v341.toNat
def k0_dev12 (d0 : Dev nD) : Nat :=
  let c0_i32_326 : BitVec 32 := 0#32
  let c4_i32_317 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v365 : BitVec 32 := Scalar.muli c4_i32_317 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_310 : BitVec 32 := 3#32
  let v354 : BitVec 32 := Scalar.addi v12 c3_i32_310
  let c4_i32_311 : BitVec 32 := 4#32
  let c0_i32_312 : BitVec 32 := 0#32
  let v355 : BitVec 1 := Scalar.cmpi .eq c4_i32_311 c0_i32_312
  let c1_i32_313 : BitVec 32 := 1#32
  let v356 : BitVec 32 := Scalar.select v355 c1_i32_313 c4_i32_311
  let v357 : BitVec 32 := Scalar.remsi v354 v356
  let c0_i32_315 : BitVec 32 := 0#32
  let v359 : BitVec 1 := Scalar.cmpi .slt v357 c0_i32_315
  let c0_i32_316 : BitVec 32 := 0#32
  let v360 : BitVec 1 := Scalar.cmpi .slt v356 c0_i32_316
  let v361 : BitVec 1 := Scalar.xori v359 v360
  let c0_i32_314 : BitVec 32 := 0#32
  let v358 : BitVec 1 := Scalar.cmpi .ne v357 c0_i32_314
  let v362 : BitVec 1 := Scalar.andi v361 v358
  let v363 : BitVec 32 := Scalar.addi v357 v356
  let v364 : BitVec 32 := Scalar.select v362 v363 v357
  let v366 : BitVec 32 := Scalar.addi v365 v364
  let c1_i32_325 : BitVec 32 := 1#32
  let v367 : BitVec 32 := Scalar.muli v366 c1_i32_325
  let v368 : BitVec 32 := Scalar.addi c0_i32_326 v367
  v368.toNat
def k0_off4 (d0 : Dev nD) (c1_i32_371 : BitVec 32) : Fin 4 → Nat :=
  let c2_i32_379 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v410 : BitVec 32 := Scalar.addi v12 c1_i32_371
  let c4_i32_372 : BitVec 32 := 4#32
  let c0_i32_373 : BitVec 32 := 0#32
  let v411 : BitVec 1 := Scalar.cmpi .eq c4_i32_372 c0_i32_373
  let c1_i32_374 : BitVec 32 := 1#32
  let v412 : BitVec 32 := Scalar.select v411 c1_i32_374 c4_i32_372
  let v413 : BitVec 32 := Scalar.remsi v410 v412
  let c0_i32_376 : BitVec 32 := 0#32
  let v415 : BitVec 1 := Scalar.cmpi .slt v413 c0_i32_376
  let c0_i32_377 : BitVec 32 := 0#32
  let v416 : BitVec 1 := Scalar.cmpi .slt v412 c0_i32_377
  let v417 : BitVec 1 := Scalar.xori v415 v416
  let c0_i32_375 : BitVec 32 := 0#32
  let v414 : BitVec 1 := Scalar.cmpi .ne v413 c0_i32_375
  let v418 : BitVec 1 := Scalar.andi v417 v414
  let v419 : BitVec 32 := Scalar.addi v413 v412
  let v420 : BitVec 32 := Scalar.select v418 v419 v413
  let c0_i32_394 : BitVec 32 := 0#32
  let c0_i32_395 : BitVec 32 := 0#32
  ![2, v420.toNat, 0, 0]
def k0_dev13 (d0 : Dev nD) : Nat :=
  let c0_i32_387 : BitVec 32 := 0#32
  let c4_i32_378 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v421 : BitVec 32 := Scalar.muli c4_i32_378 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_371 : BitVec 32 := 1#32
  let v410 : BitVec 32 := Scalar.addi v12 c1_i32_371
  let c4_i32_372 : BitVec 32 := 4#32
  let c0_i32_373 : BitVec 32 := 0#32
  let v411 : BitVec 1 := Scalar.cmpi .eq c4_i32_372 c0_i32_373
  let c1_i32_374 : BitVec 32 := 1#32
  let v412 : BitVec 32 := Scalar.select v411 c1_i32_374 c4_i32_372
  let v413 : BitVec 32 := Scalar.remsi v410 v412
  let c0_i32_376 : BitVec 32 := 0#32
  let v415 : BitVec 1 := Scalar.cmpi .slt v413 c0_i32_376
  let c0_i32_377 : BitVec 32 := 0#32
  let v416 : BitVec 1 := Scalar.cmpi .slt v412 c0_i32_377
  let v417 : BitVec 1 := Scalar.xori v415 v416
  let c0_i32_375 : BitVec 32 := 0#32
  let v414 : BitVec 1 := Scalar.cmpi .ne v413 c0_i32_375
  let v418 : BitVec 1 := Scalar.andi v417 v414
  let v419 : BitVec 32 := Scalar.addi v413 v412
  let v420 : BitVec 32 := Scalar.select v418 v419 v413
  let v422 : BitVec 32 := Scalar.addi v421 v420
  let c1_i32_386 : BitVec 32 := 1#32
  let v423 : BitVec 32 := Scalar.muli v422 c1_i32_386
  let v424 : BitVec 32 := Scalar.addi c0_i32_387 v423
  v424.toNat
def k0_dev14 (d0 : Dev nD) : Nat :=
  let c0_i32_414 : BitVec 32 := 0#32
  let c4_i32_405 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v448 : BitVec 32 := Scalar.muli c4_i32_405 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_398 : BitVec 32 := 2#32
  let v437 : BitVec 32 := Scalar.addi v12 c2_i32_398
  let c4_i32_399 : BitVec 32 := 4#32
  let c0_i32_400 : BitVec 32 := 0#32
  let v438 : BitVec 1 := Scalar.cmpi .eq c4_i32_399 c0_i32_400
  let c1_i32_401 : BitVec 32 := 1#32
  let v439 : BitVec 32 := Scalar.select v438 c1_i32_401 c4_i32_399
  let v440 : BitVec 32 := Scalar.remsi v437 v439
  let c0_i32_403 : BitVec 32 := 0#32
  let v442 : BitVec 1 := Scalar.cmpi .slt v440 c0_i32_403
  let c0_i32_404 : BitVec 32 := 0#32
  let v443 : BitVec 1 := Scalar.cmpi .slt v439 c0_i32_404
  let v444 : BitVec 1 := Scalar.xori v442 v443
  let c0_i32_402 : BitVec 32 := 0#32
  let v441 : BitVec 1 := Scalar.cmpi .ne v440 c0_i32_402
  let v445 : BitVec 1 := Scalar.andi v444 v441
  let v446 : BitVec 32 := Scalar.addi v440 v439
  let v447 : BitVec 32 := Scalar.select v445 v446 v440
  let v449 : BitVec 32 := Scalar.addi v448 v447
  let c1_i32_413 : BitVec 32 := 1#32
  let v450 : BitVec 32 := Scalar.muli v449 c1_i32_413
  let v451 : BitVec 32 := Scalar.addi c0_i32_414 v450
  v451.toNat
def k0_dev15 (d0 : Dev nD) : Nat :=
  let c0_i32_441 : BitVec 32 := 0#32
  let c4_i32_432 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v475 : BitVec 32 := Scalar.muli c4_i32_432 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_425 : BitVec 32 := 3#32
  let v464 : BitVec 32 := Scalar.addi v12 c3_i32_425
  let c4_i32_426 : BitVec 32 := 4#32
  let c0_i32_427 : BitVec 32 := 0#32
  let v465 : BitVec 1 := Scalar.cmpi .eq c4_i32_426 c0_i32_427
  let c1_i32_428 : BitVec 32 := 1#32
  let v466 : BitVec 32 := Scalar.select v465 c1_i32_428 c4_i32_426
  let v467 : BitVec 32 := Scalar.remsi v464 v466
  let c0_i32_430 : BitVec 32 := 0#32
  let v469 : BitVec 1 := Scalar.cmpi .slt v467 c0_i32_430
  let c0_i32_431 : BitVec 32 := 0#32
  let v470 : BitVec 1 := Scalar.cmpi .slt v466 c0_i32_431
  let v471 : BitVec 1 := Scalar.xori v469 v470
  let c0_i32_429 : BitVec 32 := 0#32
  let v468 : BitVec 1 := Scalar.cmpi .ne v467 c0_i32_429
  let v472 : BitVec 1 := Scalar.andi v471 v468
  let v473 : BitVec 32 := Scalar.addi v467 v466
  let v474 : BitVec 32 := Scalar.select v472 v473 v467
  let v476 : BitVec 32 := Scalar.addi v475 v474
  let c1_i32_440 : BitVec 32 := 1#32
  let v477 : BitVec 32 := Scalar.muli v476 c1_i32_440
  let v478 : BitVec 32 := Scalar.addi c0_i32_441 v477
  v478.toNat
def k0_off5 (d0 : Dev nD) (c1_i32_486 : BitVec 32) : Fin 4 → Nat :=
  let c3_i32_494 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v520 : BitVec 32 := Scalar.addi v12 c1_i32_486
  let c4_i32_487 : BitVec 32 := 4#32
  let c0_i32_488 : BitVec 32 := 0#32
  let v521 : BitVec 1 := Scalar.cmpi .eq c4_i32_487 c0_i32_488
  let c1_i32_489 : BitVec 32 := 1#32
  let v522 : BitVec 32 := Scalar.select v521 c1_i32_489 c4_i32_487
  let v523 : BitVec 32 := Scalar.remsi v520 v522
  let c0_i32_491 : BitVec 32 := 0#32
  let v525 : BitVec 1 := Scalar.cmpi .slt v523 c0_i32_491
  let c0_i32_492 : BitVec 32 := 0#32
  let v526 : BitVec 1 := Scalar.cmpi .slt v522 c0_i32_492
  let v527 : BitVec 1 := Scalar.xori v525 v526
  let c0_i32_490 : BitVec 32 := 0#32
  let v524 : BitVec 1 := Scalar.cmpi .ne v523 c0_i32_490
  let v528 : BitVec 1 := Scalar.andi v527 v524
  let v529 : BitVec 32 := Scalar.addi v523 v522
  let v530 : BitVec 32 := Scalar.select v528 v529 v523
  let c0_i32_509 : BitVec 32 := 0#32
  let c0_i32_510 : BitVec 32 := 0#32
  ![3, v530.toNat, 0, 0]
def k0_dev16 (d0 : Dev nD) : Nat :=
  let c0_i32_502 : BitVec 32 := 0#32
  let c4_i32_493 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v531 : BitVec 32 := Scalar.muli c4_i32_493 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_486 : BitVec 32 := 1#32
  let v520 : BitVec 32 := Scalar.addi v12 c1_i32_486
  let c4_i32_487 : BitVec 32 := 4#32
  let c0_i32_488 : BitVec 32 := 0#32
  let v521 : BitVec 1 := Scalar.cmpi .eq c4_i32_487 c0_i32_488
  let c1_i32_489 : BitVec 32 := 1#32
  let v522 : BitVec 32 := Scalar.select v521 c1_i32_489 c4_i32_487
  let v523 : BitVec 32 := Scalar.remsi v520 v522
  let c0_i32_491 : BitVec 32 := 0#32
  let v525 : BitVec 1 := Scalar.cmpi .slt v523 c0_i32_491
  let c0_i32_492 : BitVec 32 := 0#32
  let v526 : BitVec 1 := Scalar.cmpi .slt v522 c0_i32_492
  let v527 : BitVec 1 := Scalar.xori v525 v526
  let c0_i32_490 : BitVec 32 := 0#32
  let v524 : BitVec 1 := Scalar.cmpi .ne v523 c0_i32_490
  let v528 : BitVec 1 := Scalar.andi v527 v524
  let v529 : BitVec 32 := Scalar.addi v523 v522
  let v530 : BitVec 32 := Scalar.select v528 v529 v523
  let v532 : BitVec 32 := Scalar.addi v531 v530
  let c1_i32_501 : BitVec 32 := 1#32
  let v533 : BitVec 32 := Scalar.muli v532 c1_i32_501
  let v534 : BitVec 32 := Scalar.addi c0_i32_502 v533
  v534.toNat
def k0_dev17 (d0 : Dev nD) : Nat :=
  let c0_i32_529 : BitVec 32 := 0#32
  let c4_i32_520 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v558 : BitVec 32 := Scalar.muli c4_i32_520 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_513 : BitVec 32 := 2#32
  let v547 : BitVec 32 := Scalar.addi v12 c2_i32_513
  let c4_i32_514 : BitVec 32 := 4#32
  let c0_i32_515 : BitVec 32 := 0#32
  let v548 : BitVec 1 := Scalar.cmpi .eq c4_i32_514 c0_i32_515
  let c1_i32_516 : BitVec 32 := 1#32
  let v549 : BitVec 32 := Scalar.select v548 c1_i32_516 c4_i32_514
  let v550 : BitVec 32 := Scalar.remsi v547 v549
  let c0_i32_518 : BitVec 32 := 0#32
  let v552 : BitVec 1 := Scalar.cmpi .slt v550 c0_i32_518
  let c0_i32_519 : BitVec 32 := 0#32
  let v553 : BitVec 1 := Scalar.cmpi .slt v549 c0_i32_519
  let v554 : BitVec 1 := Scalar.xori v552 v553
  let c0_i32_517 : BitVec 32 := 0#32
  let v551 : BitVec 1 := Scalar.cmpi .ne v550 c0_i32_517
  let v555 : BitVec 1 := Scalar.andi v554 v551
  let v556 : BitVec 32 := Scalar.addi v550 v549
  let v557 : BitVec 32 := Scalar.select v555 v556 v550
  let v559 : BitVec 32 := Scalar.addi v558 v557
  let c1_i32_528 : BitVec 32 := 1#32
  let v560 : BitVec 32 := Scalar.muli v559 c1_i32_528
  let v561 : BitVec 32 := Scalar.addi c0_i32_529 v560
  v561.toNat
def k0_dev18 (d0 : Dev nD) : Nat :=
  let c0_i32_556 : BitVec 32 := 0#32
  let c4_i32_547 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v585 : BitVec 32 := Scalar.muli c4_i32_547 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_540 : BitVec 32 := 3#32
  let v574 : BitVec 32 := Scalar.addi v12 c3_i32_540
  let c4_i32_541 : BitVec 32 := 4#32
  let c0_i32_542 : BitVec 32 := 0#32
  let v575 : BitVec 1 := Scalar.cmpi .eq c4_i32_541 c0_i32_542
  let c1_i32_543 : BitVec 32 := 1#32
  let v576 : BitVec 32 := Scalar.select v575 c1_i32_543 c4_i32_541
  let v577 : BitVec 32 := Scalar.remsi v574 v576
  let c0_i32_545 : BitVec 32 := 0#32
  let v579 : BitVec 1 := Scalar.cmpi .slt v577 c0_i32_545
  let c0_i32_546 : BitVec 32 := 0#32
  let v580 : BitVec 1 := Scalar.cmpi .slt v576 c0_i32_546
  let v581 : BitVec 1 := Scalar.xori v579 v580
  let c0_i32_544 : BitVec 32 := 0#32
  let v578 : BitVec 1 := Scalar.cmpi .ne v577 c0_i32_544
  let v582 : BitVec 1 := Scalar.andi v581 v578
  let v583 : BitVec 32 := Scalar.addi v577 v576
  let v584 : BitVec 32 := Scalar.select v582 v583 v577
  let v586 : BitVec 32 := Scalar.addi v585 v584
  let c1_i32_555 : BitVec 32 := 1#32
  let v587 : BitVec 32 := Scalar.muli v586 c1_i32_555
  let v588 : BitVec 32 := Scalar.addi c0_i32_556 v587
  v588.toNat
def k0_off6 (d0 : Dev nD) (c1_i32_600 : BitVec 32) : Fin 4 → Nat :=
  let c4_i32_608 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v630 : BitVec 32 := Scalar.addi v12 c1_i32_600
  let c4_i32_601 : BitVec 32 := 4#32
  let c0_i32_602 : BitVec 32 := 0#32
  let v631 : BitVec 1 := Scalar.cmpi .eq c4_i32_601 c0_i32_602
  let c1_i32_603 : BitVec 32 := 1#32
  let v632 : BitVec 32 := Scalar.select v631 c1_i32_603 c4_i32_601
  let v633 : BitVec 32 := Scalar.remsi v630 v632
  let c0_i32_605 : BitVec 32 := 0#32
  let v635 : BitVec 1 := Scalar.cmpi .slt v633 c0_i32_605
  let c0_i32_606 : BitVec 32 := 0#32
  let v636 : BitVec 1 := Scalar.cmpi .slt v632 c0_i32_606
  let v637 : BitVec 1 := Scalar.xori v635 v636
  let c0_i32_604 : BitVec 32 := 0#32
  let v634 : BitVec 1 := Scalar.cmpi .ne v633 c0_i32_604
  let v638 : BitVec 1 := Scalar.andi v637 v634
  let v639 : BitVec 32 := Scalar.addi v633 v632
  let v640 : BitVec 32 := Scalar.select v638 v639 v633
  let c0_i32_623 : BitVec 32 := 0#32
  let c0_i32_624 : BitVec 32 := 0#32
  ![4, v640.toNat, 0, 0]
def k0_dev19 (d0 : Dev nD) : Nat :=
  let c0_i32_616 : BitVec 32 := 0#32
  let c4_i32_607 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v641 : BitVec 32 := Scalar.muli c4_i32_607 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_600 : BitVec 32 := 1#32
  let v630 : BitVec 32 := Scalar.addi v12 c1_i32_600
  let c4_i32_601 : BitVec 32 := 4#32
  let c0_i32_602 : BitVec 32 := 0#32
  let v631 : BitVec 1 := Scalar.cmpi .eq c4_i32_601 c0_i32_602
  let c1_i32_603 : BitVec 32 := 1#32
  let v632 : BitVec 32 := Scalar.select v631 c1_i32_603 c4_i32_601
  let v633 : BitVec 32 := Scalar.remsi v630 v632
  let c0_i32_605 : BitVec 32 := 0#32
  let v635 : BitVec 1 := Scalar.cmpi .slt v633 c0_i32_605
  let c0_i32_606 : BitVec 32 := 0#32
  let v636 : BitVec 1 := Scalar.cmpi .slt v632 c0_i32_606
  let v637 : BitVec 1 := Scalar.xori v635 v636
  let c0_i32_604 : BitVec 32 := 0#32
  let v634 : BitVec 1 := Scalar.cmpi .ne v633 c0_i32_604
  let v638 : BitVec 1 := Scalar.andi v637 v634
  let v639 : BitVec 32 := Scalar.addi v633 v632
  let v640 : BitVec 32 := Scalar.select v638 v639 v633
  let v642 : BitVec 32 := Scalar.addi v641 v640
  let c1_i32_615 : BitVec 32 := 1#32
  let v643 : BitVec 32 := Scalar.muli v642 c1_i32_615
  let v644 : BitVec 32 := Scalar.addi c0_i32_616 v643
  v644.toNat
def k0_dev20 (d0 : Dev nD) : Nat :=
  let c0_i32_643 : BitVec 32 := 0#32
  let c4_i32_634 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v668 : BitVec 32 := Scalar.muli c4_i32_634 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_627 : BitVec 32 := 2#32
  let v657 : BitVec 32 := Scalar.addi v12 c2_i32_627
  let c4_i32_628 : BitVec 32 := 4#32
  let c0_i32_629 : BitVec 32 := 0#32
  let v658 : BitVec 1 := Scalar.cmpi .eq c4_i32_628 c0_i32_629
  let c1_i32_630 : BitVec 32 := 1#32
  let v659 : BitVec 32 := Scalar.select v658 c1_i32_630 c4_i32_628
  let v660 : BitVec 32 := Scalar.remsi v657 v659
  let c0_i32_632 : BitVec 32 := 0#32
  let v662 : BitVec 1 := Scalar.cmpi .slt v660 c0_i32_632
  let c0_i32_633 : BitVec 32 := 0#32
  let v663 : BitVec 1 := Scalar.cmpi .slt v659 c0_i32_633
  let v664 : BitVec 1 := Scalar.xori v662 v663
  let c0_i32_631 : BitVec 32 := 0#32
  let v661 : BitVec 1 := Scalar.cmpi .ne v660 c0_i32_631
  let v665 : BitVec 1 := Scalar.andi v664 v661
  let v666 : BitVec 32 := Scalar.addi v660 v659
  let v667 : BitVec 32 := Scalar.select v665 v666 v660
  let v669 : BitVec 32 := Scalar.addi v668 v667
  let c1_i32_642 : BitVec 32 := 1#32
  let v670 : BitVec 32 := Scalar.muli v669 c1_i32_642
  let v671 : BitVec 32 := Scalar.addi c0_i32_643 v670
  v671.toNat
def k0_dev21 (d0 : Dev nD) : Nat :=
  let c0_i32_670 : BitVec 32 := 0#32
  let c4_i32_661 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v695 : BitVec 32 := Scalar.muli c4_i32_661 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_654 : BitVec 32 := 3#32
  let v684 : BitVec 32 := Scalar.addi v12 c3_i32_654
  let c4_i32_655 : BitVec 32 := 4#32
  let c0_i32_656 : BitVec 32 := 0#32
  let v685 : BitVec 1 := Scalar.cmpi .eq c4_i32_655 c0_i32_656
  let c1_i32_657 : BitVec 32 := 1#32
  let v686 : BitVec 32 := Scalar.select v685 c1_i32_657 c4_i32_655
  let v687 : BitVec 32 := Scalar.remsi v684 v686
  let c0_i32_659 : BitVec 32 := 0#32
  let v689 : BitVec 1 := Scalar.cmpi .slt v687 c0_i32_659
  let c0_i32_660 : BitVec 32 := 0#32
  let v690 : BitVec 1 := Scalar.cmpi .slt v686 c0_i32_660
  let v691 : BitVec 1 := Scalar.xori v689 v690
  let c0_i32_658 : BitVec 32 := 0#32
  let v688 : BitVec 1 := Scalar.cmpi .ne v687 c0_i32_658
  let v692 : BitVec 1 := Scalar.andi v691 v688
  let v693 : BitVec 32 := Scalar.addi v687 v686
  let v694 : BitVec 32 := Scalar.select v692 v693 v687
  let v696 : BitVec 32 := Scalar.addi v695 v694
  let c1_i32_669 : BitVec 32 := 1#32
  let v697 : BitVec 32 := Scalar.muli v696 c1_i32_669
  let v698 : BitVec 32 := Scalar.addi c0_i32_670 v697
  v698.toNat
def k0_off7 (d0 : Dev nD) (c1_i32_714 : BitVec 32) : Fin 4 → Nat :=
  let c5_i32_722 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v740 : BitVec 32 := Scalar.addi v12 c1_i32_714
  let c4_i32_715 : BitVec 32 := 4#32
  let c0_i32_716 : BitVec 32 := 0#32
  let v741 : BitVec 1 := Scalar.cmpi .eq c4_i32_715 c0_i32_716
  let c1_i32_717 : BitVec 32 := 1#32
  let v742 : BitVec 32 := Scalar.select v741 c1_i32_717 c4_i32_715
  let v743 : BitVec 32 := Scalar.remsi v740 v742
  let c0_i32_719 : BitVec 32 := 0#32
  let v745 : BitVec 1 := Scalar.cmpi .slt v743 c0_i32_719
  let c0_i32_720 : BitVec 32 := 0#32
  let v746 : BitVec 1 := Scalar.cmpi .slt v742 c0_i32_720
  let v747 : BitVec 1 := Scalar.xori v745 v746
  let c0_i32_718 : BitVec 32 := 0#32
  let v744 : BitVec 1 := Scalar.cmpi .ne v743 c0_i32_718
  let v748 : BitVec 1 := Scalar.andi v747 v744
  let v749 : BitVec 32 := Scalar.addi v743 v742
  let v750 : BitVec 32 := Scalar.select v748 v749 v743
  let c0_i32_737 : BitVec 32 := 0#32
  let c0_i32_738 : BitVec 32 := 0#32
  ![5, v750.toNat, 0, 0]
def k0_dev22 (d0 : Dev nD) : Nat :=
  let c0_i32_730 : BitVec 32 := 0#32
  let c4_i32_721 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v751 : BitVec 32 := Scalar.muli c4_i32_721 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_714 : BitVec 32 := 1#32
  let v740 : BitVec 32 := Scalar.addi v12 c1_i32_714
  let c4_i32_715 : BitVec 32 := 4#32
  let c0_i32_716 : BitVec 32 := 0#32
  let v741 : BitVec 1 := Scalar.cmpi .eq c4_i32_715 c0_i32_716
  let c1_i32_717 : BitVec 32 := 1#32
  let v742 : BitVec 32 := Scalar.select v741 c1_i32_717 c4_i32_715
  let v743 : BitVec 32 := Scalar.remsi v740 v742
  let c0_i32_719 : BitVec 32 := 0#32
  let v745 : BitVec 1 := Scalar.cmpi .slt v743 c0_i32_719
  let c0_i32_720 : BitVec 32 := 0#32
  let v746 : BitVec 1 := Scalar.cmpi .slt v742 c0_i32_720
  let v747 : BitVec 1 := Scalar.xori v745 v746
  let c0_i32_718 : BitVec 32 := 0#32
  let v744 : BitVec 1 := Scalar.cmpi .ne v743 c0_i32_718
  let v748 : BitVec 1 := Scalar.andi v747 v744
  let v749 : BitVec 32 := Scalar.addi v743 v742
  let v750 : BitVec 32 := Scalar.select v748 v749 v743
  let v752 : BitVec 32 := Scalar.addi v751 v750
  let c1_i32_729 : BitVec 32 := 1#32
  let v753 : BitVec 32 := Scalar.muli v752 c1_i32_729
  let v754 : BitVec 32 := Scalar.addi c0_i32_730 v753
  v754.toNat
def k0_dev23 (d0 : Dev nD) : Nat :=
  let c0_i32_757 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v778 : BitVec 32 := Scalar.muli c4_i32_748 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_741 : BitVec 32 := 2#32
  let v767 : BitVec 32 := Scalar.addi v12 c2_i32_741
  let c4_i32_742 : BitVec 32 := 4#32
  let c0_i32_743 : BitVec 32 := 0#32
  let v768 : BitVec 1 := Scalar.cmpi .eq c4_i32_742 c0_i32_743
  let c1_i32_744 : BitVec 32 := 1#32
  let v769 : BitVec 32 := Scalar.select v768 c1_i32_744 c4_i32_742
  let v770 : BitVec 32 := Scalar.remsi v767 v769
  let c0_i32_746 : BitVec 32 := 0#32
  let v772 : BitVec 1 := Scalar.cmpi .slt v770 c0_i32_746
  let c0_i32_747 : BitVec 32 := 0#32
  let v773 : BitVec 1 := Scalar.cmpi .slt v769 c0_i32_747
  let v774 : BitVec 1 := Scalar.xori v772 v773
  let c0_i32_745 : BitVec 32 := 0#32
  let v771 : BitVec 1 := Scalar.cmpi .ne v770 c0_i32_745
  let v775 : BitVec 1 := Scalar.andi v774 v771
  let v776 : BitVec 32 := Scalar.addi v770 v769
  let v777 : BitVec 32 := Scalar.select v775 v776 v770
  let v779 : BitVec 32 := Scalar.addi v778 v777
  let c1_i32_756 : BitVec 32 := 1#32
  let v780 : BitVec 32 := Scalar.muli v779 c1_i32_756
  let v781 : BitVec 32 := Scalar.addi c0_i32_757 v780
  v781.toNat
def k0_dev24 (d0 : Dev nD) : Nat :=
  let c0_i32_784 : BitVec 32 := 0#32
  let c4_i32_775 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v805 : BitVec 32 := Scalar.muli c4_i32_775 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_768 : BitVec 32 := 3#32
  let v794 : BitVec 32 := Scalar.addi v12 c3_i32_768
  let c4_i32_769 : BitVec 32 := 4#32
  let c0_i32_770 : BitVec 32 := 0#32
  let v795 : BitVec 1 := Scalar.cmpi .eq c4_i32_769 c0_i32_770
  let c1_i32_771 : BitVec 32 := 1#32
  let v796 : BitVec 32 := Scalar.select v795 c1_i32_771 c4_i32_769
  let v797 : BitVec 32 := Scalar.remsi v794 v796
  let c0_i32_773 : BitVec 32 := 0#32
  let v799 : BitVec 1 := Scalar.cmpi .slt v797 c0_i32_773
  let c0_i32_774 : BitVec 32 := 0#32
  let v800 : BitVec 1 := Scalar.cmpi .slt v796 c0_i32_774
  let v801 : BitVec 1 := Scalar.xori v799 v800
  let c0_i32_772 : BitVec 32 := 0#32
  let v798 : BitVec 1 := Scalar.cmpi .ne v797 c0_i32_772
  let v802 : BitVec 1 := Scalar.andi v801 v798
  let v803 : BitVec 32 := Scalar.addi v797 v796
  let v804 : BitVec 32 := Scalar.select v802 v803 v797
  let v806 : BitVec 32 := Scalar.addi v805 v804
  let c1_i32_783 : BitVec 32 := 1#32
  let v807 : BitVec 32 := Scalar.muli v806 c1_i32_783
  let v808 : BitVec 32 := Scalar.addi c0_i32_784 v807
  v808.toNat
def k0_off8 (d0 : Dev nD) (c1_i32_828 : BitVec 32) : Fin 4 → Nat :=
  let c6_i32_836 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v850 : BitVec 32 := Scalar.addi v12 c1_i32_828
  let c4_i32_829 : BitVec 32 := 4#32
  let c0_i32_830 : BitVec 32 := 0#32
  let v851 : BitVec 1 := Scalar.cmpi .eq c4_i32_829 c0_i32_830
  let c1_i32_831 : BitVec 32 := 1#32
  let v852 : BitVec 32 := Scalar.select v851 c1_i32_831 c4_i32_829
  let v853 : BitVec 32 := Scalar.remsi v850 v852
  let c0_i32_833 : BitVec 32 := 0#32
  let v855 : BitVec 1 := Scalar.cmpi .slt v853 c0_i32_833
  let c0_i32_834 : BitVec 32 := 0#32
  let v856 : BitVec 1 := Scalar.cmpi .slt v852 c0_i32_834
  let v857 : BitVec 1 := Scalar.xori v855 v856
  let c0_i32_832 : BitVec 32 := 0#32
  let v854 : BitVec 1 := Scalar.cmpi .ne v853 c0_i32_832
  let v858 : BitVec 1 := Scalar.andi v857 v854
  let v859 : BitVec 32 := Scalar.addi v853 v852
  let v860 : BitVec 32 := Scalar.select v858 v859 v853
  let c0_i32_851 : BitVec 32 := 0#32
  let c0_i32_852 : BitVec 32 := 0#32
  ![6, v860.toNat, 0, 0]
def k0_dev25 (d0 : Dev nD) : Nat :=
  let c0_i32_844 : BitVec 32 := 0#32
  let c4_i32_835 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v861 : BitVec 32 := Scalar.muli c4_i32_835 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_828 : BitVec 32 := 1#32
  let v850 : BitVec 32 := Scalar.addi v12 c1_i32_828
  let c4_i32_829 : BitVec 32 := 4#32
  let c0_i32_830 : BitVec 32 := 0#32
  let v851 : BitVec 1 := Scalar.cmpi .eq c4_i32_829 c0_i32_830
  let c1_i32_831 : BitVec 32 := 1#32
  let v852 : BitVec 32 := Scalar.select v851 c1_i32_831 c4_i32_829
  let v853 : BitVec 32 := Scalar.remsi v850 v852
  let c0_i32_833 : BitVec 32 := 0#32
  let v855 : BitVec 1 := Scalar.cmpi .slt v853 c0_i32_833
  let c0_i32_834 : BitVec 32 := 0#32
  let v856 : BitVec 1 := Scalar.cmpi .slt v852 c0_i32_834
  let v857 : BitVec 1 := Scalar.xori v855 v856
  let c0_i32_832 : BitVec 32 := 0#32
  let v854 : BitVec 1 := Scalar.cmpi .ne v853 c0_i32_832
  let v858 : BitVec 1 := Scalar.andi v857 v854
  let v859 : BitVec 32 := Scalar.addi v853 v852
  let v860 : BitVec 32 := Scalar.select v858 v859 v853
  let v862 : BitVec 32 := Scalar.addi v861 v860
  let c1_i32_843 : BitVec 32 := 1#32
  let v863 : BitVec 32 := Scalar.muli v862 c1_i32_843
  let v864 : BitVec 32 := Scalar.addi c0_i32_844 v863
  v864.toNat
def k0_dev26 (d0 : Dev nD) : Nat :=
  let c0_i32_871 : BitVec 32 := 0#32
  let c4_i32_862 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v888 : BitVec 32 := Scalar.muli c4_i32_862 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_855 : BitVec 32 := 2#32
  let v877 : BitVec 32 := Scalar.addi v12 c2_i32_855
  let c4_i32_856 : BitVec 32 := 4#32
  let c0_i32_857 : BitVec 32 := 0#32
  let v878 : BitVec 1 := Scalar.cmpi .eq c4_i32_856 c0_i32_857
  let c1_i32_858 : BitVec 32 := 1#32
  let v879 : BitVec 32 := Scalar.select v878 c1_i32_858 c4_i32_856
  let v880 : BitVec 32 := Scalar.remsi v877 v879
  let c0_i32_860 : BitVec 32 := 0#32
  let v882 : BitVec 1 := Scalar.cmpi .slt v880 c0_i32_860
  let c0_i32_861 : BitVec 32 := 0#32
  let v883 : BitVec 1 := Scalar.cmpi .slt v879 c0_i32_861
  let v884 : BitVec 1 := Scalar.xori v882 v883
  let c0_i32_859 : BitVec 32 := 0#32
  let v881 : BitVec 1 := Scalar.cmpi .ne v880 c0_i32_859
  let v885 : BitVec 1 := Scalar.andi v884 v881
  let v886 : BitVec 32 := Scalar.addi v880 v879
  let v887 : BitVec 32 := Scalar.select v885 v886 v880
  let v889 : BitVec 32 := Scalar.addi v888 v887
  let c1_i32_870 : BitVec 32 := 1#32
  let v890 : BitVec 32 := Scalar.muli v889 c1_i32_870
  let v891 : BitVec 32 := Scalar.addi c0_i32_871 v890
  v891.toNat
def k0_dev27 (d0 : Dev nD) : Nat :=
  let c0_i32_898 : BitVec 32 := 0#32
  let c4_i32_889 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v915 : BitVec 32 := Scalar.muli c4_i32_889 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_882 : BitVec 32 := 3#32
  let v904 : BitVec 32 := Scalar.addi v12 c3_i32_882
  let c4_i32_883 : BitVec 32 := 4#32
  let c0_i32_884 : BitVec 32 := 0#32
  let v905 : BitVec 1 := Scalar.cmpi .eq c4_i32_883 c0_i32_884
  let c1_i32_885 : BitVec 32 := 1#32
  let v906 : BitVec 32 := Scalar.select v905 c1_i32_885 c4_i32_883
  let v907 : BitVec 32 := Scalar.remsi v904 v906
  let c0_i32_887 : BitVec 32 := 0#32
  let v909 : BitVec 1 := Scalar.cmpi .slt v907 c0_i32_887
  let c0_i32_888 : BitVec 32 := 0#32
  let v910 : BitVec 1 := Scalar.cmpi .slt v906 c0_i32_888
  let v911 : BitVec 1 := Scalar.xori v909 v910
  let c0_i32_886 : BitVec 32 := 0#32
  let v908 : BitVec 1 := Scalar.cmpi .ne v907 c0_i32_886
  let v912 : BitVec 1 := Scalar.andi v911 v908
  let v913 : BitVec 32 := Scalar.addi v907 v906
  let v914 : BitVec 32 := Scalar.select v912 v913 v907
  let v916 : BitVec 32 := Scalar.addi v915 v914
  let c1_i32_897 : BitVec 32 := 1#32
  let v917 : BitVec 32 := Scalar.muli v916 c1_i32_897
  let v918 : BitVec 32 := Scalar.addi c0_i32_898 v917
  v918.toNat
def k0_off9 (d0 : Dev nD) (c1_i32_942 : BitVec 32) : Fin 4 → Nat :=
  let c7_i32_950 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v960 : BitVec 32 := Scalar.addi v12 c1_i32_942
  let c4_i32_943 : BitVec 32 := 4#32
  let c0_i32_944 : BitVec 32 := 0#32
  let v961 : BitVec 1 := Scalar.cmpi .eq c4_i32_943 c0_i32_944
  let c1_i32_945 : BitVec 32 := 1#32
  let v962 : BitVec 32 := Scalar.select v961 c1_i32_945 c4_i32_943
  let v963 : BitVec 32 := Scalar.remsi v960 v962
  let c0_i32_947 : BitVec 32 := 0#32
  let v965 : BitVec 1 := Scalar.cmpi .slt v963 c0_i32_947
  let c0_i32_948 : BitVec 32 := 0#32
  let v966 : BitVec 1 := Scalar.cmpi .slt v962 c0_i32_948
  let v967 : BitVec 1 := Scalar.xori v965 v966
  let c0_i32_946 : BitVec 32 := 0#32
  let v964 : BitVec 1 := Scalar.cmpi .ne v963 c0_i32_946
  let v968 : BitVec 1 := Scalar.andi v967 v964
  let v969 : BitVec 32 := Scalar.addi v963 v962
  let v970 : BitVec 32 := Scalar.select v968 v969 v963
  let c0_i32_965 : BitVec 32 := 0#32
  let c0_i32_966 : BitVec 32 := 0#32
  ![7, v970.toNat, 0, 0]
def k0_dev28 (d0 : Dev nD) : Nat :=
  let c0_i32_958 : BitVec 32 := 0#32
  let c4_i32_949 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v971 : BitVec 32 := Scalar.muli c4_i32_949 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_942 : BitVec 32 := 1#32
  let v960 : BitVec 32 := Scalar.addi v12 c1_i32_942
  let c4_i32_943 : BitVec 32 := 4#32
  let c0_i32_944 : BitVec 32 := 0#32
  let v961 : BitVec 1 := Scalar.cmpi .eq c4_i32_943 c0_i32_944
  let c1_i32_945 : BitVec 32 := 1#32
  let v962 : BitVec 32 := Scalar.select v961 c1_i32_945 c4_i32_943
  let v963 : BitVec 32 := Scalar.remsi v960 v962
  let c0_i32_947 : BitVec 32 := 0#32
  let v965 : BitVec 1 := Scalar.cmpi .slt v963 c0_i32_947
  let c0_i32_948 : BitVec 32 := 0#32
  let v966 : BitVec 1 := Scalar.cmpi .slt v962 c0_i32_948
  let v967 : BitVec 1 := Scalar.xori v965 v966
  let c0_i32_946 : BitVec 32 := 0#32
  let v964 : BitVec 1 := Scalar.cmpi .ne v963 c0_i32_946
  let v968 : BitVec 1 := Scalar.andi v967 v964
  let v969 : BitVec 32 := Scalar.addi v963 v962
  let v970 : BitVec 32 := Scalar.select v968 v969 v963
  let v972 : BitVec 32 := Scalar.addi v971 v970
  let c1_i32_957 : BitVec 32 := 1#32
  let v973 : BitVec 32 := Scalar.muli v972 c1_i32_957
  let v974 : BitVec 32 := Scalar.addi c0_i32_958 v973
  v974.toNat
def k0_dev29 (d0 : Dev nD) : Nat :=
  let c0_i32_985 : BitVec 32 := 0#32
  let c4_i32_976 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v998 : BitVec 32 := Scalar.muli c4_i32_976 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_969 : BitVec 32 := 2#32
  let v987 : BitVec 32 := Scalar.addi v12 c2_i32_969
  let c4_i32_970 : BitVec 32 := 4#32
  let c0_i32_971 : BitVec 32 := 0#32
  let v988 : BitVec 1 := Scalar.cmpi .eq c4_i32_970 c0_i32_971
  let c1_i32_972 : BitVec 32 := 1#32
  let v989 : BitVec 32 := Scalar.select v988 c1_i32_972 c4_i32_970
  let v990 : BitVec 32 := Scalar.remsi v987 v989
  let c0_i32_974 : BitVec 32 := 0#32
  let v992 : BitVec 1 := Scalar.cmpi .slt v990 c0_i32_974
  let c0_i32_975 : BitVec 32 := 0#32
  let v993 : BitVec 1 := Scalar.cmpi .slt v989 c0_i32_975
  let v994 : BitVec 1 := Scalar.xori v992 v993
  let c0_i32_973 : BitVec 32 := 0#32
  let v991 : BitVec 1 := Scalar.cmpi .ne v990 c0_i32_973
  let v995 : BitVec 1 := Scalar.andi v994 v991
  let v996 : BitVec 32 := Scalar.addi v990 v989
  let v997 : BitVec 32 := Scalar.select v995 v996 v990
  let v999 : BitVec 32 := Scalar.addi v998 v997
  let c1_i32_984 : BitVec 32 := 1#32
  let v1000 : BitVec 32 := Scalar.muli v999 c1_i32_984
  let v1001 : BitVec 32 := Scalar.addi c0_i32_985 v1000
  v1001.toNat
def k0_dev30 (d0 : Dev nD) : Nat :=
  let c0_i32_1012 : BitVec 32 := 0#32
  let c4_i32_1003 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1025 : BitVec 32 := Scalar.muli c4_i32_1003 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_996 : BitVec 32 := 3#32
  let v1014 : BitVec 32 := Scalar.addi v12 c3_i32_996
  let c4_i32_997 : BitVec 32 := 4#32
  let c0_i32_998 : BitVec 32 := 0#32
  let v1015 : BitVec 1 := Scalar.cmpi .eq c4_i32_997 c0_i32_998
  let c1_i32_999 : BitVec 32 := 1#32
  let v1016 : BitVec 32 := Scalar.select v1015 c1_i32_999 c4_i32_997
  let v1017 : BitVec 32 := Scalar.remsi v1014 v1016
  let c0_i32_1001 : BitVec 32 := 0#32
  let v1019 : BitVec 1 := Scalar.cmpi .slt v1017 c0_i32_1001
  let c0_i32_1002 : BitVec 32 := 0#32
  let v1020 : BitVec 1 := Scalar.cmpi .slt v1016 c0_i32_1002
  let v1021 : BitVec 1 := Scalar.xori v1019 v1020
  let c0_i32_1000 : BitVec 32 := 0#32
  let v1018 : BitVec 1 := Scalar.cmpi .ne v1017 c0_i32_1000
  let v1022 : BitVec 1 := Scalar.andi v1021 v1018
  let v1023 : BitVec 32 := Scalar.addi v1017 v1016
  let v1024 : BitVec 32 := Scalar.select v1022 v1023 v1017
  let v1026 : BitVec 32 := Scalar.addi v1025 v1024
  let c1_i32_1011 : BitVec 32 := 1#32
  let v1027 : BitVec 32 := Scalar.muli v1026 c1_i32_1011
  let v1028 : BitVec 32 := Scalar.addi c0_i32_1012 v1027
  v1028.toNat
def k0_off10 (d0 : Dev nD) (c1_i32_1166 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1146 : BitVec 32 := Scalar.addi v29 c1_i32_1166
  let c4_i32_1167 : BitVec 32 := 4#32
  let c0_i32_1168 : BitVec 32 := 0#32
  let v1147 : BitVec 1 := Scalar.cmpi .eq c4_i32_1167 c0_i32_1168
  let c1_i32_1169 : BitVec 32 := 1#32
  let v1148 : BitVec 32 := Scalar.select v1147 c1_i32_1169 c4_i32_1167
  let v1149 : BitVec 32 := Scalar.remsi v1146 v1148
  let c0_i32_1171 : BitVec 32 := 0#32
  let v1151 : BitVec 1 := Scalar.cmpi .slt v1149 c0_i32_1171
  let c0_i32_1172 : BitVec 32 := 0#32
  let v1152 : BitVec 1 := Scalar.cmpi .slt v1148 c0_i32_1172
  let v1153 : BitVec 1 := Scalar.xori v1151 v1152
  let c0_i32_1170 : BitVec 32 := 0#32
  let v1150 : BitVec 1 := Scalar.cmpi .ne v1149 c0_i32_1170
  let v1154 : BitVec 1 := Scalar.andi v1153 v1150
  let v1155 : BitVec 32 := Scalar.addi v1149 v1148
  let v1156 : BitVec 32 := Scalar.select v1154 v1155 v1149
  let c0_i32_1191 : BitVec 32 := 0#32
  let c0_i32_1192 : BitVec 32 := 0#32
  ![v1156.toNat, 0, 0]
def k0_off11 (d0 : Dev nD) (c1_i32_1166 : BitVec 32) : Fin 4 → Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1146 : BitVec 32 := Scalar.addi v29 c1_i32_1166
  let c4_i32_1167 : BitVec 32 := 4#32
  let c0_i32_1168 : BitVec 32 := 0#32
  let v1147 : BitVec 1 := Scalar.cmpi .eq c4_i32_1167 c0_i32_1168
  let c1_i32_1169 : BitVec 32 := 1#32
  let v1148 : BitVec 32 := Scalar.select v1147 c1_i32_1169 c4_i32_1167
  let v1149 : BitVec 32 := Scalar.remsi v1146 v1148
  let c0_i32_1171 : BitVec 32 := 0#32
  let v1151 : BitVec 1 := Scalar.cmpi .slt v1149 c0_i32_1171
  let c0_i32_1172 : BitVec 32 := 0#32
  let v1152 : BitVec 1 := Scalar.cmpi .slt v1148 c0_i32_1172
  let v1153 : BitVec 1 := Scalar.xori v1151 v1152
  let c0_i32_1170 : BitVec 32 := 0#32
  let v1150 : BitVec 1 := Scalar.cmpi .ne v1149 c0_i32_1170
  let v1154 : BitVec 1 := Scalar.andi v1153 v1150
  let v1155 : BitVec 32 := Scalar.addi v1149 v1148
  let v1156 : BitVec 32 := Scalar.select v1154 v1155 v1149
  let c0_i32_1189 : BitVec 32 := 0#32
  let c0_i32_1190 : BitVec 32 := 0#32
  ![0, v1156.toNat, 0, 0]
def k0_dev31 (d0 : Dev nD) : Nat :=
  let c0_i32_1182 : BitVec 32 := 0#32
  let c4_i32_1173 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1166 : BitVec 32 := 1#32
  let v1146 : BitVec 32 := Scalar.addi v29 c1_i32_1166
  let c4_i32_1167 : BitVec 32 := 4#32
  let c0_i32_1168 : BitVec 32 := 0#32
  let v1147 : BitVec 1 := Scalar.cmpi .eq c4_i32_1167 c0_i32_1168
  let c1_i32_1169 : BitVec 32 := 1#32
  let v1148 : BitVec 32 := Scalar.select v1147 c1_i32_1169 c4_i32_1167
  let v1149 : BitVec 32 := Scalar.remsi v1146 v1148
  let c0_i32_1171 : BitVec 32 := 0#32
  let v1151 : BitVec 1 := Scalar.cmpi .slt v1149 c0_i32_1171
  let c0_i32_1172 : BitVec 32 := 0#32
  let v1152 : BitVec 1 := Scalar.cmpi .slt v1148 c0_i32_1172
  let v1153 : BitVec 1 := Scalar.xori v1151 v1152
  let c0_i32_1170 : BitVec 32 := 0#32
  let v1150 : BitVec 1 := Scalar.cmpi .ne v1149 c0_i32_1170
  let v1154 : BitVec 1 := Scalar.andi v1153 v1150
  let v1155 : BitVec 32 := Scalar.addi v1149 v1148
  let v1156 : BitVec 32 := Scalar.select v1154 v1155 v1149
  let v1157 : BitVec 32 := Scalar.muli c4_i32_1173 v1156
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1158 : BitVec 32 := Scalar.addi v1157 v12
  let c1_i32_1181 : BitVec 32 := 1#32
  let v1159 : BitVec 32 := Scalar.muli v1158 c1_i32_1181
  let v1160 : BitVec 32 := Scalar.addi c0_i32_1182 v1159
  v1160.toNat
def k0_dev32 (d0 : Dev nD) : Nat :=
  let c0_i32_1209 : BitVec 32 := 0#32
  let c4_i32_1200 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1193 : BitVec 32 := 2#32
  let v1173 : BitVec 32 := Scalar.addi v29 c2_i32_1193
  let c4_i32_1194 : BitVec 32 := 4#32
  let c0_i32_1195 : BitVec 32 := 0#32
  let v1174 : BitVec 1 := Scalar.cmpi .eq c4_i32_1194 c0_i32_1195
  let c1_i32_1196 : BitVec 32 := 1#32
  let v1175 : BitVec 32 := Scalar.select v1174 c1_i32_1196 c4_i32_1194
  let v1176 : BitVec 32 := Scalar.remsi v1173 v1175
  let c0_i32_1198 : BitVec 32 := 0#32
  let v1178 : BitVec 1 := Scalar.cmpi .slt v1176 c0_i32_1198
  let c0_i32_1199 : BitVec 32 := 0#32
  let v1179 : BitVec 1 := Scalar.cmpi .slt v1175 c0_i32_1199
  let v1180 : BitVec 1 := Scalar.xori v1178 v1179
  let c0_i32_1197 : BitVec 32 := 0#32
  let v1177 : BitVec 1 := Scalar.cmpi .ne v1176 c0_i32_1197
  let v1181 : BitVec 1 := Scalar.andi v1180 v1177
  let v1182 : BitVec 32 := Scalar.addi v1176 v1175
  let v1183 : BitVec 32 := Scalar.select v1181 v1182 v1176
  let v1184 : BitVec 32 := Scalar.muli c4_i32_1200 v1183
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1185 : BitVec 32 := Scalar.addi v1184 v12
  let c1_i32_1208 : BitVec 32 := 1#32
  let v1186 : BitVec 32 := Scalar.muli v1185 c1_i32_1208
  let v1187 : BitVec 32 := Scalar.addi c0_i32_1209 v1186
  v1187.toNat
def k0_dev33 (d0 : Dev nD) : Nat :=
  let c0_i32_1236 : BitVec 32 := 0#32
  let c4_i32_1227 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1220 : BitVec 32 := 3#32
  let v1200 : BitVec 32 := Scalar.addi v29 c3_i32_1220
  let c4_i32_1221 : BitVec 32 := 4#32
  let c0_i32_1222 : BitVec 32 := 0#32
  let v1201 : BitVec 1 := Scalar.cmpi .eq c4_i32_1221 c0_i32_1222
  let c1_i32_1223 : BitVec 32 := 1#32
  let v1202 : BitVec 32 := Scalar.select v1201 c1_i32_1223 c4_i32_1221
  let v1203 : BitVec 32 := Scalar.remsi v1200 v1202
  let c0_i32_1225 : BitVec 32 := 0#32
  let v1205 : BitVec 1 := Scalar.cmpi .slt v1203 c0_i32_1225
  let c0_i32_1226 : BitVec 32 := 0#32
  let v1206 : BitVec 1 := Scalar.cmpi .slt v1202 c0_i32_1226
  let v1207 : BitVec 1 := Scalar.xori v1205 v1206
  let c0_i32_1224 : BitVec 32 := 0#32
  let v1204 : BitVec 1 := Scalar.cmpi .ne v1203 c0_i32_1224
  let v1208 : BitVec 1 := Scalar.andi v1207 v1204
  let v1209 : BitVec 32 := Scalar.addi v1203 v1202
  let v1210 : BitVec 32 := Scalar.select v1208 v1209 v1203
  let v1211 : BitVec 32 := Scalar.muli c4_i32_1227 v1210
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1212 : BitVec 32 := Scalar.addi v1211 v12
  let c1_i32_1235 : BitVec 32 := 1#32
  let v1213 : BitVec 32 := Scalar.muli v1212 c1_i32_1235
  let v1214 : BitVec 32 := Scalar.addi c0_i32_1236 v1213
  v1214.toNat
def k0_off12 (d0 : Dev nD) (c1_i32_1396 : BitVec 32) : Fin 4 → Nat :=
  let c1_i32_1404 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1345 : BitVec 32 := Scalar.addi v29 c1_i32_1396
  let c4_i32_1397 : BitVec 32 := 4#32
  let c0_i32_1398 : BitVec 32 := 0#32
  let v1346 : BitVec 1 := Scalar.cmpi .eq c4_i32_1397 c0_i32_1398
  let c1_i32_1399 : BitVec 32 := 1#32
  let v1347 : BitVec 32 := Scalar.select v1346 c1_i32_1399 c4_i32_1397
  let v1348 : BitVec 32 := Scalar.remsi v1345 v1347
  let c0_i32_1401 : BitVec 32 := 0#32
  let v1350 : BitVec 1 := Scalar.cmpi .slt v1348 c0_i32_1401
  let c0_i32_1402 : BitVec 32 := 0#32
  let v1351 : BitVec 1 := Scalar.cmpi .slt v1347 c0_i32_1402
  let v1352 : BitVec 1 := Scalar.xori v1350 v1351
  let c0_i32_1400 : BitVec 32 := 0#32
  let v1349 : BitVec 1 := Scalar.cmpi .ne v1348 c0_i32_1400
  let v1353 : BitVec 1 := Scalar.andi v1352 v1349
  let v1354 : BitVec 32 := Scalar.addi v1348 v1347
  let v1355 : BitVec 32 := Scalar.select v1353 v1354 v1348
  let c0_i32_1419 : BitVec 32 := 0#32
  let c0_i32_1420 : BitVec 32 := 0#32
  ![1, v1355.toNat, 0, 0]
def k0_dev34 (d0 : Dev nD) : Nat :=
  let c0_i32_1412 : BitVec 32 := 0#32
  let c4_i32_1403 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1396 : BitVec 32 := 1#32
  let v1345 : BitVec 32 := Scalar.addi v29 c1_i32_1396
  let c4_i32_1397 : BitVec 32 := 4#32
  let c0_i32_1398 : BitVec 32 := 0#32
  let v1346 : BitVec 1 := Scalar.cmpi .eq c4_i32_1397 c0_i32_1398
  let c1_i32_1399 : BitVec 32 := 1#32
  let v1347 : BitVec 32 := Scalar.select v1346 c1_i32_1399 c4_i32_1397
  let v1348 : BitVec 32 := Scalar.remsi v1345 v1347
  let c0_i32_1401 : BitVec 32 := 0#32
  let v1350 : BitVec 1 := Scalar.cmpi .slt v1348 c0_i32_1401
  let c0_i32_1402 : BitVec 32 := 0#32
  let v1351 : BitVec 1 := Scalar.cmpi .slt v1347 c0_i32_1402
  let v1352 : BitVec 1 := Scalar.xori v1350 v1351
  let c0_i32_1400 : BitVec 32 := 0#32
  let v1349 : BitVec 1 := Scalar.cmpi .ne v1348 c0_i32_1400
  let v1353 : BitVec 1 := Scalar.andi v1352 v1349
  let v1354 : BitVec 32 := Scalar.addi v1348 v1347
  let v1355 : BitVec 32 := Scalar.select v1353 v1354 v1348
  let v1356 : BitVec 32 := Scalar.muli c4_i32_1403 v1355
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1357 : BitVec 32 := Scalar.addi v1356 v12
  let c1_i32_1411 : BitVec 32 := 1#32
  let v1358 : BitVec 32 := Scalar.muli v1357 c1_i32_1411
  let v1359 : BitVec 32 := Scalar.addi c0_i32_1412 v1358
  v1359.toNat
def k0_dev35 (d0 : Dev nD) : Nat :=
  let c0_i32_1439 : BitVec 32 := 0#32
  let c4_i32_1430 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1423 : BitVec 32 := 2#32
  let v1372 : BitVec 32 := Scalar.addi v29 c2_i32_1423
  let c4_i32_1424 : BitVec 32 := 4#32
  let c0_i32_1425 : BitVec 32 := 0#32
  let v1373 : BitVec 1 := Scalar.cmpi .eq c4_i32_1424 c0_i32_1425
  let c1_i32_1426 : BitVec 32 := 1#32
  let v1374 : BitVec 32 := Scalar.select v1373 c1_i32_1426 c4_i32_1424
  let v1375 : BitVec 32 := Scalar.remsi v1372 v1374
  let c0_i32_1428 : BitVec 32 := 0#32
  let v1377 : BitVec 1 := Scalar.cmpi .slt v1375 c0_i32_1428
  let c0_i32_1429 : BitVec 32 := 0#32
  let v1378 : BitVec 1 := Scalar.cmpi .slt v1374 c0_i32_1429
  let v1379 : BitVec 1 := Scalar.xori v1377 v1378
  let c0_i32_1427 : BitVec 32 := 0#32
  let v1376 : BitVec 1 := Scalar.cmpi .ne v1375 c0_i32_1427
  let v1380 : BitVec 1 := Scalar.andi v1379 v1376
  let v1381 : BitVec 32 := Scalar.addi v1375 v1374
  let v1382 : BitVec 32 := Scalar.select v1380 v1381 v1375
  let v1383 : BitVec 32 := Scalar.muli c4_i32_1430 v1382
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1384 : BitVec 32 := Scalar.addi v1383 v12
  let c1_i32_1438 : BitVec 32 := 1#32
  let v1385 : BitVec 32 := Scalar.muli v1384 c1_i32_1438
  let v1386 : BitVec 32 := Scalar.addi c0_i32_1439 v1385
  v1386.toNat
def k0_dev36 (d0 : Dev nD) : Nat :=
  let c0_i32_1466 : BitVec 32 := 0#32
  let c4_i32_1457 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1450 : BitVec 32 := 3#32
  let v1399 : BitVec 32 := Scalar.addi v29 c3_i32_1450
  let c4_i32_1451 : BitVec 32 := 4#32
  let c0_i32_1452 : BitVec 32 := 0#32
  let v1400 : BitVec 1 := Scalar.cmpi .eq c4_i32_1451 c0_i32_1452
  let c1_i32_1453 : BitVec 32 := 1#32
  let v1401 : BitVec 32 := Scalar.select v1400 c1_i32_1453 c4_i32_1451
  let v1402 : BitVec 32 := Scalar.remsi v1399 v1401
  let c0_i32_1455 : BitVec 32 := 0#32
  let v1404 : BitVec 1 := Scalar.cmpi .slt v1402 c0_i32_1455
  let c0_i32_1456 : BitVec 32 := 0#32
  let v1405 : BitVec 1 := Scalar.cmpi .slt v1401 c0_i32_1456
  let v1406 : BitVec 1 := Scalar.xori v1404 v1405
  let c0_i32_1454 : BitVec 32 := 0#32
  let v1403 : BitVec 1 := Scalar.cmpi .ne v1402 c0_i32_1454
  let v1407 : BitVec 1 := Scalar.andi v1406 v1403
  let v1408 : BitVec 32 := Scalar.addi v1402 v1401
  let v1409 : BitVec 32 := Scalar.select v1407 v1408 v1402
  let v1410 : BitVec 32 := Scalar.muli c4_i32_1457 v1409
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1411 : BitVec 32 := Scalar.addi v1410 v12
  let c1_i32_1465 : BitVec 32 := 1#32
  let v1412 : BitVec 32 := Scalar.muli v1411 c1_i32_1465
  let v1413 : BitVec 32 := Scalar.addi c0_i32_1466 v1412
  v1413.toNat
def k0_off13 (d0 : Dev nD) (c1_i32_1626 : BitVec 32) : Fin 4 → Nat :=
  let c2_i32_1634 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1544 : BitVec 32 := Scalar.addi v29 c1_i32_1626
  let c4_i32_1627 : BitVec 32 := 4#32
  let c0_i32_1628 : BitVec 32 := 0#32
  let v1545 : BitVec 1 := Scalar.cmpi .eq c4_i32_1627 c0_i32_1628
  let c1_i32_1629 : BitVec 32 := 1#32
  let v1546 : BitVec 32 := Scalar.select v1545 c1_i32_1629 c4_i32_1627
  let v1547 : BitVec 32 := Scalar.remsi v1544 v1546
  let c0_i32_1631 : BitVec 32 := 0#32
  let v1549 : BitVec 1 := Scalar.cmpi .slt v1547 c0_i32_1631
  let c0_i32_1632 : BitVec 32 := 0#32
  let v1550 : BitVec 1 := Scalar.cmpi .slt v1546 c0_i32_1632
  let v1551 : BitVec 1 := Scalar.xori v1549 v1550
  let c0_i32_1630 : BitVec 32 := 0#32
  let v1548 : BitVec 1 := Scalar.cmpi .ne v1547 c0_i32_1630
  let v1552 : BitVec 1 := Scalar.andi v1551 v1548
  let v1553 : BitVec 32 := Scalar.addi v1547 v1546
  let v1554 : BitVec 32 := Scalar.select v1552 v1553 v1547
  let c0_i32_1649 : BitVec 32 := 0#32
  let c0_i32_1650 : BitVec 32 := 0#32
  ![2, v1554.toNat, 0, 0]
def k0_dev37 (d0 : Dev nD) : Nat :=
  let c0_i32_1642 : BitVec 32 := 0#32
  let c4_i32_1633 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1626 : BitVec 32 := 1#32
  let v1544 : BitVec 32 := Scalar.addi v29 c1_i32_1626
  let c4_i32_1627 : BitVec 32 := 4#32
  let c0_i32_1628 : BitVec 32 := 0#32
  let v1545 : BitVec 1 := Scalar.cmpi .eq c4_i32_1627 c0_i32_1628
  let c1_i32_1629 : BitVec 32 := 1#32
  let v1546 : BitVec 32 := Scalar.select v1545 c1_i32_1629 c4_i32_1627
  let v1547 : BitVec 32 := Scalar.remsi v1544 v1546
  let c0_i32_1631 : BitVec 32 := 0#32
  let v1549 : BitVec 1 := Scalar.cmpi .slt v1547 c0_i32_1631
  let c0_i32_1632 : BitVec 32 := 0#32
  let v1550 : BitVec 1 := Scalar.cmpi .slt v1546 c0_i32_1632
  let v1551 : BitVec 1 := Scalar.xori v1549 v1550
  let c0_i32_1630 : BitVec 32 := 0#32
  let v1548 : BitVec 1 := Scalar.cmpi .ne v1547 c0_i32_1630
  let v1552 : BitVec 1 := Scalar.andi v1551 v1548
  let v1553 : BitVec 32 := Scalar.addi v1547 v1546
  let v1554 : BitVec 32 := Scalar.select v1552 v1553 v1547
  let v1555 : BitVec 32 := Scalar.muli c4_i32_1633 v1554
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1556 : BitVec 32 := Scalar.addi v1555 v12
  let c1_i32_1641 : BitVec 32 := 1#32
  let v1557 : BitVec 32 := Scalar.muli v1556 c1_i32_1641
  let v1558 : BitVec 32 := Scalar.addi c0_i32_1642 v1557
  v1558.toNat
def k0_dev38 (d0 : Dev nD) : Nat :=
  let c0_i32_1669 : BitVec 32 := 0#32
  let c4_i32_1660 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1653 : BitVec 32 := 2#32
  let v1571 : BitVec 32 := Scalar.addi v29 c2_i32_1653
  let c4_i32_1654 : BitVec 32 := 4#32
  let c0_i32_1655 : BitVec 32 := 0#32
  let v1572 : BitVec 1 := Scalar.cmpi .eq c4_i32_1654 c0_i32_1655
  let c1_i32_1656 : BitVec 32 := 1#32
  let v1573 : BitVec 32 := Scalar.select v1572 c1_i32_1656 c4_i32_1654
  let v1574 : BitVec 32 := Scalar.remsi v1571 v1573
  let c0_i32_1658 : BitVec 32 := 0#32
  let v1576 : BitVec 1 := Scalar.cmpi .slt v1574 c0_i32_1658
  let c0_i32_1659 : BitVec 32 := 0#32
  let v1577 : BitVec 1 := Scalar.cmpi .slt v1573 c0_i32_1659
  let v1578 : BitVec 1 := Scalar.xori v1576 v1577
  let c0_i32_1657 : BitVec 32 := 0#32
  let v1575 : BitVec 1 := Scalar.cmpi .ne v1574 c0_i32_1657
  let v1579 : BitVec 1 := Scalar.andi v1578 v1575
  let v1580 : BitVec 32 := Scalar.addi v1574 v1573
  let v1581 : BitVec 32 := Scalar.select v1579 v1580 v1574
  let v1582 : BitVec 32 := Scalar.muli c4_i32_1660 v1581
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1583 : BitVec 32 := Scalar.addi v1582 v12
  let c1_i32_1668 : BitVec 32 := 1#32
  let v1584 : BitVec 32 := Scalar.muli v1583 c1_i32_1668
  let v1585 : BitVec 32 := Scalar.addi c0_i32_1669 v1584
  v1585.toNat
def k0_dev39 (d0 : Dev nD) : Nat :=
  let c0_i32_1696 : BitVec 32 := 0#32
  let c4_i32_1687 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1680 : BitVec 32 := 3#32
  let v1598 : BitVec 32 := Scalar.addi v29 c3_i32_1680
  let c4_i32_1681 : BitVec 32 := 4#32
  let c0_i32_1682 : BitVec 32 := 0#32
  let v1599 : BitVec 1 := Scalar.cmpi .eq c4_i32_1681 c0_i32_1682
  let c1_i32_1683 : BitVec 32 := 1#32
  let v1600 : BitVec 32 := Scalar.select v1599 c1_i32_1683 c4_i32_1681
  let v1601 : BitVec 32 := Scalar.remsi v1598 v1600
  let c0_i32_1685 : BitVec 32 := 0#32
  let v1603 : BitVec 1 := Scalar.cmpi .slt v1601 c0_i32_1685
  let c0_i32_1686 : BitVec 32 := 0#32
  let v1604 : BitVec 1 := Scalar.cmpi .slt v1600 c0_i32_1686
  let v1605 : BitVec 1 := Scalar.xori v1603 v1604
  let c0_i32_1684 : BitVec 32 := 0#32
  let v1602 : BitVec 1 := Scalar.cmpi .ne v1601 c0_i32_1684
  let v1606 : BitVec 1 := Scalar.andi v1605 v1602
  let v1607 : BitVec 32 := Scalar.addi v1601 v1600
  let v1608 : BitVec 32 := Scalar.select v1606 v1607 v1601
  let v1609 : BitVec 32 := Scalar.muli c4_i32_1687 v1608
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1610 : BitVec 32 := Scalar.addi v1609 v12
  let c1_i32_1695 : BitVec 32 := 1#32
  let v1611 : BitVec 32 := Scalar.muli v1610 c1_i32_1695
  let v1612 : BitVec 32 := Scalar.addi c0_i32_1696 v1611
  v1612.toNat
def k0_off14 (d0 : Dev nD) (c1_i32_1856 : BitVec 32) : Fin 4 → Nat :=
  let c3_i32_1864 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1743 : BitVec 32 := Scalar.addi v29 c1_i32_1856
  let c4_i32_1857 : BitVec 32 := 4#32
  let c0_i32_1858 : BitVec 32 := 0#32
  let v1744 : BitVec 1 := Scalar.cmpi .eq c4_i32_1857 c0_i32_1858
  let c1_i32_1859 : BitVec 32 := 1#32
  let v1745 : BitVec 32 := Scalar.select v1744 c1_i32_1859 c4_i32_1857
  let v1746 : BitVec 32 := Scalar.remsi v1743 v1745
  let c0_i32_1861 : BitVec 32 := 0#32
  let v1748 : BitVec 1 := Scalar.cmpi .slt v1746 c0_i32_1861
  let c0_i32_1862 : BitVec 32 := 0#32
  let v1749 : BitVec 1 := Scalar.cmpi .slt v1745 c0_i32_1862
  let v1750 : BitVec 1 := Scalar.xori v1748 v1749
  let c0_i32_1860 : BitVec 32 := 0#32
  let v1747 : BitVec 1 := Scalar.cmpi .ne v1746 c0_i32_1860
  let v1751 : BitVec 1 := Scalar.andi v1750 v1747
  let v1752 : BitVec 32 := Scalar.addi v1746 v1745
  let v1753 : BitVec 32 := Scalar.select v1751 v1752 v1746
  let c0_i32_1879 : BitVec 32 := 0#32
  let c0_i32_1880 : BitVec 32 := 0#32
  ![3, v1753.toNat, 0, 0]
def k0_dev40 (d0 : Dev nD) : Nat :=
  let c0_i32_1872 : BitVec 32 := 0#32
  let c4_i32_1863 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1856 : BitVec 32 := 1#32
  let v1743 : BitVec 32 := Scalar.addi v29 c1_i32_1856
  let c4_i32_1857 : BitVec 32 := 4#32
  let c0_i32_1858 : BitVec 32 := 0#32
  let v1744 : BitVec 1 := Scalar.cmpi .eq c4_i32_1857 c0_i32_1858
  let c1_i32_1859 : BitVec 32 := 1#32
  let v1745 : BitVec 32 := Scalar.select v1744 c1_i32_1859 c4_i32_1857
  let v1746 : BitVec 32 := Scalar.remsi v1743 v1745
  let c0_i32_1861 : BitVec 32 := 0#32
  let v1748 : BitVec 1 := Scalar.cmpi .slt v1746 c0_i32_1861
  let c0_i32_1862 : BitVec 32 := 0#32
  let v1749 : BitVec 1 := Scalar.cmpi .slt v1745 c0_i32_1862
  let v1750 : BitVec 1 := Scalar.xori v1748 v1749
  let c0_i32_1860 : BitVec 32 := 0#32
  let v1747 : BitVec 1 := Scalar.cmpi .ne v1746 c0_i32_1860
  let v1751 : BitVec 1 := Scalar.andi v1750 v1747
  let v1752 : BitVec 32 := Scalar.addi v1746 v1745
  let v1753 : BitVec 32 := Scalar.select v1751 v1752 v1746
  let v1754 : BitVec 32 := Scalar.muli c4_i32_1863 v1753
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1755 : BitVec 32 := Scalar.addi v1754 v12
  let c1_i32_1871 : BitVec 32 := 1#32
  let v1756 : BitVec 32 := Scalar.muli v1755 c1_i32_1871
  let v1757 : BitVec 32 := Scalar.addi c0_i32_1872 v1756
  v1757.toNat
def k0_dev41 (d0 : Dev nD) : Nat :=
  let c0_i32_1899 : BitVec 32 := 0#32
  let c4_i32_1890 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1883 : BitVec 32 := 2#32
  let v1770 : BitVec 32 := Scalar.addi v29 c2_i32_1883
  let c4_i32_1884 : BitVec 32 := 4#32
  let c0_i32_1885 : BitVec 32 := 0#32
  let v1771 : BitVec 1 := Scalar.cmpi .eq c4_i32_1884 c0_i32_1885
  let c1_i32_1886 : BitVec 32 := 1#32
  let v1772 : BitVec 32 := Scalar.select v1771 c1_i32_1886 c4_i32_1884
  let v1773 : BitVec 32 := Scalar.remsi v1770 v1772
  let c0_i32_1888 : BitVec 32 := 0#32
  let v1775 : BitVec 1 := Scalar.cmpi .slt v1773 c0_i32_1888
  let c0_i32_1889 : BitVec 32 := 0#32
  let v1776 : BitVec 1 := Scalar.cmpi .slt v1772 c0_i32_1889
  let v1777 : BitVec 1 := Scalar.xori v1775 v1776
  let c0_i32_1887 : BitVec 32 := 0#32
  let v1774 : BitVec 1 := Scalar.cmpi .ne v1773 c0_i32_1887
  let v1778 : BitVec 1 := Scalar.andi v1777 v1774
  let v1779 : BitVec 32 := Scalar.addi v1773 v1772
  let v1780 : BitVec 32 := Scalar.select v1778 v1779 v1773
  let v1781 : BitVec 32 := Scalar.muli c4_i32_1890 v1780
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1782 : BitVec 32 := Scalar.addi v1781 v12
  let c1_i32_1898 : BitVec 32 := 1#32
  let v1783 : BitVec 32 := Scalar.muli v1782 c1_i32_1898
  let v1784 : BitVec 32 := Scalar.addi c0_i32_1899 v1783
  v1784.toNat
def k0_dev42 (d0 : Dev nD) : Nat :=
  let c0_i32_1926 : BitVec 32 := 0#32
  let c4_i32_1917 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1910 : BitVec 32 := 3#32
  let v1797 : BitVec 32 := Scalar.addi v29 c3_i32_1910
  let c4_i32_1911 : BitVec 32 := 4#32
  let c0_i32_1912 : BitVec 32 := 0#32
  let v1798 : BitVec 1 := Scalar.cmpi .eq c4_i32_1911 c0_i32_1912
  let c1_i32_1913 : BitVec 32 := 1#32
  let v1799 : BitVec 32 := Scalar.select v1798 c1_i32_1913 c4_i32_1911
  let v1800 : BitVec 32 := Scalar.remsi v1797 v1799
  let c0_i32_1915 : BitVec 32 := 0#32
  let v1802 : BitVec 1 := Scalar.cmpi .slt v1800 c0_i32_1915
  let c0_i32_1916 : BitVec 32 := 0#32
  let v1803 : BitVec 1 := Scalar.cmpi .slt v1799 c0_i32_1916
  let v1804 : BitVec 1 := Scalar.xori v1802 v1803
  let c0_i32_1914 : BitVec 32 := 0#32
  let v1801 : BitVec 1 := Scalar.cmpi .ne v1800 c0_i32_1914
  let v1805 : BitVec 1 := Scalar.andi v1804 v1801
  let v1806 : BitVec 32 := Scalar.addi v1800 v1799
  let v1807 : BitVec 32 := Scalar.select v1805 v1806 v1800
  let v1808 : BitVec 32 := Scalar.muli c4_i32_1917 v1807
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1809 : BitVec 32 := Scalar.addi v1808 v12
  let c1_i32_1925 : BitVec 32 := 1#32
  let v1810 : BitVec 32 := Scalar.muli v1809 c1_i32_1925
  let v1811 : BitVec 32 := Scalar.addi c0_i32_1926 v1810
  v1811.toNat
def k0_off15 (d0 : Dev nD) (c1_i32_2086 : BitVec 32) : Fin 4 → Nat :=
  let c4_i32_2094 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1942 : BitVec 32 := Scalar.addi v29 c1_i32_2086
  let c4_i32_2087 : BitVec 32 := 4#32
  let c0_i32_2088 : BitVec 32 := 0#32
  let v1943 : BitVec 1 := Scalar.cmpi .eq c4_i32_2087 c0_i32_2088
  let c1_i32_2089 : BitVec 32 := 1#32
  let v1944 : BitVec 32 := Scalar.select v1943 c1_i32_2089 c4_i32_2087
  let v1945 : BitVec 32 := Scalar.remsi v1942 v1944
  let c0_i32_2091 : BitVec 32 := 0#32
  let v1947 : BitVec 1 := Scalar.cmpi .slt v1945 c0_i32_2091
  let c0_i32_2092 : BitVec 32 := 0#32
  let v1948 : BitVec 1 := Scalar.cmpi .slt v1944 c0_i32_2092
  let v1949 : BitVec 1 := Scalar.xori v1947 v1948
  let c0_i32_2090 : BitVec 32 := 0#32
  let v1946 : BitVec 1 := Scalar.cmpi .ne v1945 c0_i32_2090
  let v1950 : BitVec 1 := Scalar.andi v1949 v1946
  let v1951 : BitVec 32 := Scalar.addi v1945 v1944
  let v1952 : BitVec 32 := Scalar.select v1950 v1951 v1945
  let c0_i32_2109 : BitVec 32 := 0#32
  let c0_i32_2110 : BitVec 32 := 0#32
  ![4, v1952.toNat, 0, 0]
def k0_dev43 (d0 : Dev nD) : Nat :=
  let c0_i32_2102 : BitVec 32 := 0#32
  let c4_i32_2093 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2086 : BitVec 32 := 1#32
  let v1942 : BitVec 32 := Scalar.addi v29 c1_i32_2086
  let c4_i32_2087 : BitVec 32 := 4#32
  let c0_i32_2088 : BitVec 32 := 0#32
  let v1943 : BitVec 1 := Scalar.cmpi .eq c4_i32_2087 c0_i32_2088
  let c1_i32_2089 : BitVec 32 := 1#32
  let v1944 : BitVec 32 := Scalar.select v1943 c1_i32_2089 c4_i32_2087
  let v1945 : BitVec 32 := Scalar.remsi v1942 v1944
  let c0_i32_2091 : BitVec 32 := 0#32
  let v1947 : BitVec 1 := Scalar.cmpi .slt v1945 c0_i32_2091
  let c0_i32_2092 : BitVec 32 := 0#32
  let v1948 : BitVec 1 := Scalar.cmpi .slt v1944 c0_i32_2092
  let v1949 : BitVec 1 := Scalar.xori v1947 v1948
  let c0_i32_2090 : BitVec 32 := 0#32
  let v1946 : BitVec 1 := Scalar.cmpi .ne v1945 c0_i32_2090
  let v1950 : BitVec 1 := Scalar.andi v1949 v1946
  let v1951 : BitVec 32 := Scalar.addi v1945 v1944
  let v1952 : BitVec 32 := Scalar.select v1950 v1951 v1945
  let v1953 : BitVec 32 := Scalar.muli c4_i32_2093 v1952
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1954 : BitVec 32 := Scalar.addi v1953 v12
  let c1_i32_2101 : BitVec 32 := 1#32
  let v1955 : BitVec 32 := Scalar.muli v1954 c1_i32_2101
  let v1956 : BitVec 32 := Scalar.addi c0_i32_2102 v1955
  v1956.toNat
def k0_dev44 (d0 : Dev nD) : Nat :=
  let c0_i32_2129 : BitVec 32 := 0#32
  let c4_i32_2120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2113 : BitVec 32 := 2#32
  let v1969 : BitVec 32 := Scalar.addi v29 c2_i32_2113
  let c4_i32_2114 : BitVec 32 := 4#32
  let c0_i32_2115 : BitVec 32 := 0#32
  let v1970 : BitVec 1 := Scalar.cmpi .eq c4_i32_2114 c0_i32_2115
  let c1_i32_2116 : BitVec 32 := 1#32
  let v1971 : BitVec 32 := Scalar.select v1970 c1_i32_2116 c4_i32_2114
  let v1972 : BitVec 32 := Scalar.remsi v1969 v1971
  let c0_i32_2118 : BitVec 32 := 0#32
  let v1974 : BitVec 1 := Scalar.cmpi .slt v1972 c0_i32_2118
  let c0_i32_2119 : BitVec 32 := 0#32
  let v1975 : BitVec 1 := Scalar.cmpi .slt v1971 c0_i32_2119
  let v1976 : BitVec 1 := Scalar.xori v1974 v1975
  let c0_i32_2117 : BitVec 32 := 0#32
  let v1973 : BitVec 1 := Scalar.cmpi .ne v1972 c0_i32_2117
  let v1977 : BitVec 1 := Scalar.andi v1976 v1973
  let v1978 : BitVec 32 := Scalar.addi v1972 v1971
  let v1979 : BitVec 32 := Scalar.select v1977 v1978 v1972
  let v1980 : BitVec 32 := Scalar.muli c4_i32_2120 v1979
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1981 : BitVec 32 := Scalar.addi v1980 v12
  let c1_i32_2128 : BitVec 32 := 1#32
  let v1982 : BitVec 32 := Scalar.muli v1981 c1_i32_2128
  let v1983 : BitVec 32 := Scalar.addi c0_i32_2129 v1982
  v1983.toNat
def k0_dev45 (d0 : Dev nD) : Nat :=
  let c0_i32_2156 : BitVec 32 := 0#32
  let c4_i32_2147 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2140 : BitVec 32 := 3#32
  let v1996 : BitVec 32 := Scalar.addi v29 c3_i32_2140
  let c4_i32_2141 : BitVec 32 := 4#32
  let c0_i32_2142 : BitVec 32 := 0#32
  let v1997 : BitVec 1 := Scalar.cmpi .eq c4_i32_2141 c0_i32_2142
  let c1_i32_2143 : BitVec 32 := 1#32
  let v1998 : BitVec 32 := Scalar.select v1997 c1_i32_2143 c4_i32_2141
  let v1999 : BitVec 32 := Scalar.remsi v1996 v1998
  let c0_i32_2145 : BitVec 32 := 0#32
  let v2001 : BitVec 1 := Scalar.cmpi .slt v1999 c0_i32_2145
  let c0_i32_2146 : BitVec 32 := 0#32
  let v2002 : BitVec 1 := Scalar.cmpi .slt v1998 c0_i32_2146
  let v2003 : BitVec 1 := Scalar.xori v2001 v2002
  let c0_i32_2144 : BitVec 32 := 0#32
  let v2000 : BitVec 1 := Scalar.cmpi .ne v1999 c0_i32_2144
  let v2004 : BitVec 1 := Scalar.andi v2003 v2000
  let v2005 : BitVec 32 := Scalar.addi v1999 v1998
  let v2006 : BitVec 32 := Scalar.select v2004 v2005 v1999
  let v2007 : BitVec 32 := Scalar.muli c4_i32_2147 v2006
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2008 : BitVec 32 := Scalar.addi v2007 v12
  let c1_i32_2155 : BitVec 32 := 1#32
  let v2009 : BitVec 32 := Scalar.muli v2008 c1_i32_2155
  let v2010 : BitVec 32 := Scalar.addi c0_i32_2156 v2009
  v2010.toNat
def k0_off16 (d0 : Dev nD) (c1_i32_2316 : BitVec 32) : Fin 4 → Nat :=
  let c5_i32_2324 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2141 : BitVec 32 := Scalar.addi v29 c1_i32_2316
  let c4_i32_2317 : BitVec 32 := 4#32
  let c0_i32_2318 : BitVec 32 := 0#32
  let v2142 : BitVec 1 := Scalar.cmpi .eq c4_i32_2317 c0_i32_2318
  let c1_i32_2319 : BitVec 32 := 1#32
  let v2143 : BitVec 32 := Scalar.select v2142 c1_i32_2319 c4_i32_2317
  let v2144 : BitVec 32 := Scalar.remsi v2141 v2143
  let c0_i32_2321 : BitVec 32 := 0#32
  let v2146 : BitVec 1 := Scalar.cmpi .slt v2144 c0_i32_2321
  let c0_i32_2322 : BitVec 32 := 0#32
  let v2147 : BitVec 1 := Scalar.cmpi .slt v2143 c0_i32_2322
  let v2148 : BitVec 1 := Scalar.xori v2146 v2147
  let c0_i32_2320 : BitVec 32 := 0#32
  let v2145 : BitVec 1 := Scalar.cmpi .ne v2144 c0_i32_2320
  let v2149 : BitVec 1 := Scalar.andi v2148 v2145
  let v2150 : BitVec 32 := Scalar.addi v2144 v2143
  let v2151 : BitVec 32 := Scalar.select v2149 v2150 v2144
  let c0_i32_2339 : BitVec 32 := 0#32
  let c0_i32_2340 : BitVec 32 := 0#32
  ![5, v2151.toNat, 0, 0]
def k0_dev46 (d0 : Dev nD) : Nat :=
  let c0_i32_2332 : BitVec 32 := 0#32
  let c4_i32_2323 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2316 : BitVec 32 := 1#32
  let v2141 : BitVec 32 := Scalar.addi v29 c1_i32_2316
  let c4_i32_2317 : BitVec 32 := 4#32
  let c0_i32_2318 : BitVec 32 := 0#32
  let v2142 : BitVec 1 := Scalar.cmpi .eq c4_i32_2317 c0_i32_2318
  let c1_i32_2319 : BitVec 32 := 1#32
  let v2143 : BitVec 32 := Scalar.select v2142 c1_i32_2319 c4_i32_2317
  let v2144 : BitVec 32 := Scalar.remsi v2141 v2143
  let c0_i32_2321 : BitVec 32 := 0#32
  let v2146 : BitVec 1 := Scalar.cmpi .slt v2144 c0_i32_2321
  let c0_i32_2322 : BitVec 32 := 0#32
  let v2147 : BitVec 1 := Scalar.cmpi .slt v2143 c0_i32_2322
  let v2148 : BitVec 1 := Scalar.xori v2146 v2147
  let c0_i32_2320 : BitVec 32 := 0#32
  let v2145 : BitVec 1 := Scalar.cmpi .ne v2144 c0_i32_2320
  let v2149 : BitVec 1 := Scalar.andi v2148 v2145
  let v2150 : BitVec 32 := Scalar.addi v2144 v2143
  let v2151 : BitVec 32 := Scalar.select v2149 v2150 v2144
  let v2152 : BitVec 32 := Scalar.muli c4_i32_2323 v2151
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2153 : BitVec 32 := Scalar.addi v2152 v12
  let c1_i32_2331 : BitVec 32 := 1#32
  let v2154 : BitVec 32 := Scalar.muli v2153 c1_i32_2331
  let v2155 : BitVec 32 := Scalar.addi c0_i32_2332 v2154
  v2155.toNat
def k0_dev47 (d0 : Dev nD) : Nat :=
  let c0_i32_2359 : BitVec 32 := 0#32
  let c4_i32_2350 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2343 : BitVec 32 := 2#32
  let v2168 : BitVec 32 := Scalar.addi v29 c2_i32_2343
  let c4_i32_2344 : BitVec 32 := 4#32
  let c0_i32_2345 : BitVec 32 := 0#32
  let v2169 : BitVec 1 := Scalar.cmpi .eq c4_i32_2344 c0_i32_2345
  let c1_i32_2346 : BitVec 32 := 1#32
  let v2170 : BitVec 32 := Scalar.select v2169 c1_i32_2346 c4_i32_2344
  let v2171 : BitVec 32 := Scalar.remsi v2168 v2170
  let c0_i32_2348 : BitVec 32 := 0#32
  let v2173 : BitVec 1 := Scalar.cmpi .slt v2171 c0_i32_2348
  let c0_i32_2349 : BitVec 32 := 0#32
  let v2174 : BitVec 1 := Scalar.cmpi .slt v2170 c0_i32_2349
  let v2175 : BitVec 1 := Scalar.xori v2173 v2174
  let c0_i32_2347 : BitVec 32 := 0#32
  let v2172 : BitVec 1 := Scalar.cmpi .ne v2171 c0_i32_2347
  let v2176 : BitVec 1 := Scalar.andi v2175 v2172
  let v2177 : BitVec 32 := Scalar.addi v2171 v2170
  let v2178 : BitVec 32 := Scalar.select v2176 v2177 v2171
  let v2179 : BitVec 32 := Scalar.muli c4_i32_2350 v2178
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2180 : BitVec 32 := Scalar.addi v2179 v12
  let c1_i32_2358 : BitVec 32 := 1#32
  let v2181 : BitVec 32 := Scalar.muli v2180 c1_i32_2358
  let v2182 : BitVec 32 := Scalar.addi c0_i32_2359 v2181
  v2182.toNat
def k0_dev48 (d0 : Dev nD) : Nat :=
  let c0_i32_2386 : BitVec 32 := 0#32
  let c4_i32_2377 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2370 : BitVec 32 := 3#32
  let v2195 : BitVec 32 := Scalar.addi v29 c3_i32_2370
  let c4_i32_2371 : BitVec 32 := 4#32
  let c0_i32_2372 : BitVec 32 := 0#32
  let v2196 : BitVec 1 := Scalar.cmpi .eq c4_i32_2371 c0_i32_2372
  let c1_i32_2373 : BitVec 32 := 1#32
  let v2197 : BitVec 32 := Scalar.select v2196 c1_i32_2373 c4_i32_2371
  let v2198 : BitVec 32 := Scalar.remsi v2195 v2197
  let c0_i32_2375 : BitVec 32 := 0#32
  let v2200 : BitVec 1 := Scalar.cmpi .slt v2198 c0_i32_2375
  let c0_i32_2376 : BitVec 32 := 0#32
  let v2201 : BitVec 1 := Scalar.cmpi .slt v2197 c0_i32_2376
  let v2202 : BitVec 1 := Scalar.xori v2200 v2201
  let c0_i32_2374 : BitVec 32 := 0#32
  let v2199 : BitVec 1 := Scalar.cmpi .ne v2198 c0_i32_2374
  let v2203 : BitVec 1 := Scalar.andi v2202 v2199
  let v2204 : BitVec 32 := Scalar.addi v2198 v2197
  let v2205 : BitVec 32 := Scalar.select v2203 v2204 v2198
  let v2206 : BitVec 32 := Scalar.muli c4_i32_2377 v2205
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2207 : BitVec 32 := Scalar.addi v2206 v12
  let c1_i32_2385 : BitVec 32 := 1#32
  let v2208 : BitVec 32 := Scalar.muli v2207 c1_i32_2385
  let v2209 : BitVec 32 := Scalar.addi c0_i32_2386 v2208
  v2209.toNat
def k0_off17 (d0 : Dev nD) (c1_i32_2546 : BitVec 32) : Fin 4 → Nat :=
  let c6_i32_2554 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2340 : BitVec 32 := Scalar.addi v29 c1_i32_2546
  let c4_i32_2547 : BitVec 32 := 4#32
  let c0_i32_2548 : BitVec 32 := 0#32
  let v2341 : BitVec 1 := Scalar.cmpi .eq c4_i32_2547 c0_i32_2548
  let c1_i32_2549 : BitVec 32 := 1#32
  let v2342 : BitVec 32 := Scalar.select v2341 c1_i32_2549 c4_i32_2547
  let v2343 : BitVec 32 := Scalar.remsi v2340 v2342
  let c0_i32_2551 : BitVec 32 := 0#32
  let v2345 : BitVec 1 := Scalar.cmpi .slt v2343 c0_i32_2551
  let c0_i32_2552 : BitVec 32 := 0#32
  let v2346 : BitVec 1 := Scalar.cmpi .slt v2342 c0_i32_2552
  let v2347 : BitVec 1 := Scalar.xori v2345 v2346
  let c0_i32_2550 : BitVec 32 := 0#32
  let v2344 : BitVec 1 := Scalar.cmpi .ne v2343 c0_i32_2550
  let v2348 : BitVec 1 := Scalar.andi v2347 v2344
  let v2349 : BitVec 32 := Scalar.addi v2343 v2342
  let v2350 : BitVec 32 := Scalar.select v2348 v2349 v2343
  let c0_i32_2569 : BitVec 32 := 0#32
  let c0_i32_2570 : BitVec 32 := 0#32
  ![6, v2350.toNat, 0, 0]
def k0_dev49 (d0 : Dev nD) : Nat :=
  let c0_i32_2562 : BitVec 32 := 0#32
  let c4_i32_2553 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2546 : BitVec 32 := 1#32
  let v2340 : BitVec 32 := Scalar.addi v29 c1_i32_2546
  let c4_i32_2547 : BitVec 32 := 4#32
  let c0_i32_2548 : BitVec 32 := 0#32
  let v2341 : BitVec 1 := Scalar.cmpi .eq c4_i32_2547 c0_i32_2548
  let c1_i32_2549 : BitVec 32 := 1#32
  let v2342 : BitVec 32 := Scalar.select v2341 c1_i32_2549 c4_i32_2547
  let v2343 : BitVec 32 := Scalar.remsi v2340 v2342
  let c0_i32_2551 : BitVec 32 := 0#32
  let v2345 : BitVec 1 := Scalar.cmpi .slt v2343 c0_i32_2551
  let c0_i32_2552 : BitVec 32 := 0#32
  let v2346 : BitVec 1 := Scalar.cmpi .slt v2342 c0_i32_2552
  let v2347 : BitVec 1 := Scalar.xori v2345 v2346
  let c0_i32_2550 : BitVec 32 := 0#32
  let v2344 : BitVec 1 := Scalar.cmpi .ne v2343 c0_i32_2550
  let v2348 : BitVec 1 := Scalar.andi v2347 v2344
  let v2349 : BitVec 32 := Scalar.addi v2343 v2342
  let v2350 : BitVec 32 := Scalar.select v2348 v2349 v2343
  let v2351 : BitVec 32 := Scalar.muli c4_i32_2553 v2350
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2352 : BitVec 32 := Scalar.addi v2351 v12
  let c1_i32_2561 : BitVec 32 := 1#32
  let v2353 : BitVec 32 := Scalar.muli v2352 c1_i32_2561
  let v2354 : BitVec 32 := Scalar.addi c0_i32_2562 v2353
  v2354.toNat
def k0_dev50 (d0 : Dev nD) : Nat :=
  let c0_i32_2589 : BitVec 32 := 0#32
  let c4_i32_2580 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2573 : BitVec 32 := 2#32
  let v2367 : BitVec 32 := Scalar.addi v29 c2_i32_2573
  let c4_i32_2574 : BitVec 32 := 4#32
  let c0_i32_2575 : BitVec 32 := 0#32
  let v2368 : BitVec 1 := Scalar.cmpi .eq c4_i32_2574 c0_i32_2575
  let c1_i32_2576 : BitVec 32 := 1#32
  let v2369 : BitVec 32 := Scalar.select v2368 c1_i32_2576 c4_i32_2574
  let v2370 : BitVec 32 := Scalar.remsi v2367 v2369
  let c0_i32_2578 : BitVec 32 := 0#32
  let v2372 : BitVec 1 := Scalar.cmpi .slt v2370 c0_i32_2578
  let c0_i32_2579 : BitVec 32 := 0#32
  let v2373 : BitVec 1 := Scalar.cmpi .slt v2369 c0_i32_2579
  let v2374 : BitVec 1 := Scalar.xori v2372 v2373
  let c0_i32_2577 : BitVec 32 := 0#32
  let v2371 : BitVec 1 := Scalar.cmpi .ne v2370 c0_i32_2577
  let v2375 : BitVec 1 := Scalar.andi v2374 v2371
  let v2376 : BitVec 32 := Scalar.addi v2370 v2369
  let v2377 : BitVec 32 := Scalar.select v2375 v2376 v2370
  let v2378 : BitVec 32 := Scalar.muli c4_i32_2580 v2377
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2379 : BitVec 32 := Scalar.addi v2378 v12
  let c1_i32_2588 : BitVec 32 := 1#32
  let v2380 : BitVec 32 := Scalar.muli v2379 c1_i32_2588
  let v2381 : BitVec 32 := Scalar.addi c0_i32_2589 v2380
  v2381.toNat
def k0_dev51 (d0 : Dev nD) : Nat :=
  let c0_i32_2616 : BitVec 32 := 0#32
  let c4_i32_2607 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2600 : BitVec 32 := 3#32
  let v2394 : BitVec 32 := Scalar.addi v29 c3_i32_2600
  let c4_i32_2601 : BitVec 32 := 4#32
  let c0_i32_2602 : BitVec 32 := 0#32
  let v2395 : BitVec 1 := Scalar.cmpi .eq c4_i32_2601 c0_i32_2602
  let c1_i32_2603 : BitVec 32 := 1#32
  let v2396 : BitVec 32 := Scalar.select v2395 c1_i32_2603 c4_i32_2601
  let v2397 : BitVec 32 := Scalar.remsi v2394 v2396
  let c0_i32_2605 : BitVec 32 := 0#32
  let v2399 : BitVec 1 := Scalar.cmpi .slt v2397 c0_i32_2605
  let c0_i32_2606 : BitVec 32 := 0#32
  let v2400 : BitVec 1 := Scalar.cmpi .slt v2396 c0_i32_2606
  let v2401 : BitVec 1 := Scalar.xori v2399 v2400
  let c0_i32_2604 : BitVec 32 := 0#32
  let v2398 : BitVec 1 := Scalar.cmpi .ne v2397 c0_i32_2604
  let v2402 : BitVec 1 := Scalar.andi v2401 v2398
  let v2403 : BitVec 32 := Scalar.addi v2397 v2396
  let v2404 : BitVec 32 := Scalar.select v2402 v2403 v2397
  let v2405 : BitVec 32 := Scalar.muli c4_i32_2607 v2404
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2406 : BitVec 32 := Scalar.addi v2405 v12
  let c1_i32_2615 : BitVec 32 := 1#32
  let v2407 : BitVec 32 := Scalar.muli v2406 c1_i32_2615
  let v2408 : BitVec 32 := Scalar.addi c0_i32_2616 v2407
  v2408.toNat
def k0_off18 (d0 : Dev nD) (c1_i32_2776 : BitVec 32) : Fin 4 → Nat :=
  let c7_i32_2784 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2539 : BitVec 32 := Scalar.addi v29 c1_i32_2776
  let c4_i32_2777 : BitVec 32 := 4#32
  let c0_i32_2778 : BitVec 32 := 0#32
  let v2540 : BitVec 1 := Scalar.cmpi .eq c4_i32_2777 c0_i32_2778
  let c1_i32_2779 : BitVec 32 := 1#32
  let v2541 : BitVec 32 := Scalar.select v2540 c1_i32_2779 c4_i32_2777
  let v2542 : BitVec 32 := Scalar.remsi v2539 v2541
  let c0_i32_2781 : BitVec 32 := 0#32
  let v2544 : BitVec 1 := Scalar.cmpi .slt v2542 c0_i32_2781
  let c0_i32_2782 : BitVec 32 := 0#32
  let v2545 : BitVec 1 := Scalar.cmpi .slt v2541 c0_i32_2782
  let v2546 : BitVec 1 := Scalar.xori v2544 v2545
  let c0_i32_2780 : BitVec 32 := 0#32
  let v2543 : BitVec 1 := Scalar.cmpi .ne v2542 c0_i32_2780
  let v2547 : BitVec 1 := Scalar.andi v2546 v2543
  let v2548 : BitVec 32 := Scalar.addi v2542 v2541
  let v2549 : BitVec 32 := Scalar.select v2547 v2548 v2542
  let c0_i32_2799 : BitVec 32 := 0#32
  let c0_i32_2800 : BitVec 32 := 0#32
  ![7, v2549.toNat, 0, 0]
def k0_dev52 (d0 : Dev nD) : Nat :=
  let c0_i32_2792 : BitVec 32 := 0#32
  let c4_i32_2783 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2776 : BitVec 32 := 1#32
  let v2539 : BitVec 32 := Scalar.addi v29 c1_i32_2776
  let c4_i32_2777 : BitVec 32 := 4#32
  let c0_i32_2778 : BitVec 32 := 0#32
  let v2540 : BitVec 1 := Scalar.cmpi .eq c4_i32_2777 c0_i32_2778
  let c1_i32_2779 : BitVec 32 := 1#32
  let v2541 : BitVec 32 := Scalar.select v2540 c1_i32_2779 c4_i32_2777
  let v2542 : BitVec 32 := Scalar.remsi v2539 v2541
  let c0_i32_2781 : BitVec 32 := 0#32
  let v2544 : BitVec 1 := Scalar.cmpi .slt v2542 c0_i32_2781
  let c0_i32_2782 : BitVec 32 := 0#32
  let v2545 : BitVec 1 := Scalar.cmpi .slt v2541 c0_i32_2782
  let v2546 : BitVec 1 := Scalar.xori v2544 v2545
  let c0_i32_2780 : BitVec 32 := 0#32
  let v2543 : BitVec 1 := Scalar.cmpi .ne v2542 c0_i32_2780
  let v2547 : BitVec 1 := Scalar.andi v2546 v2543
  let v2548 : BitVec 32 := Scalar.addi v2542 v2541
  let v2549 : BitVec 32 := Scalar.select v2547 v2548 v2542
  let v2550 : BitVec 32 := Scalar.muli c4_i32_2783 v2549
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2551 : BitVec 32 := Scalar.addi v2550 v12
  let c1_i32_2791 : BitVec 32 := 1#32
  let v2552 : BitVec 32 := Scalar.muli v2551 c1_i32_2791
  let v2553 : BitVec 32 := Scalar.addi c0_i32_2792 v2552
  v2553.toNat
def k0_dev53 (d0 : Dev nD) : Nat :=
  let c0_i32_2819 : BitVec 32 := 0#32
  let c4_i32_2810 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2803 : BitVec 32 := 2#32
  let v2566 : BitVec 32 := Scalar.addi v29 c2_i32_2803
  let c4_i32_2804 : BitVec 32 := 4#32
  let c0_i32_2805 : BitVec 32 := 0#32
  let v2567 : BitVec 1 := Scalar.cmpi .eq c4_i32_2804 c0_i32_2805
  let c1_i32_2806 : BitVec 32 := 1#32
  let v2568 : BitVec 32 := Scalar.select v2567 c1_i32_2806 c4_i32_2804
  let v2569 : BitVec 32 := Scalar.remsi v2566 v2568
  let c0_i32_2808 : BitVec 32 := 0#32
  let v2571 : BitVec 1 := Scalar.cmpi .slt v2569 c0_i32_2808
  let c0_i32_2809 : BitVec 32 := 0#32
  let v2572 : BitVec 1 := Scalar.cmpi .slt v2568 c0_i32_2809
  let v2573 : BitVec 1 := Scalar.xori v2571 v2572
  let c0_i32_2807 : BitVec 32 := 0#32
  let v2570 : BitVec 1 := Scalar.cmpi .ne v2569 c0_i32_2807
  let v2574 : BitVec 1 := Scalar.andi v2573 v2570
  let v2575 : BitVec 32 := Scalar.addi v2569 v2568
  let v2576 : BitVec 32 := Scalar.select v2574 v2575 v2569
  let v2577 : BitVec 32 := Scalar.muli c4_i32_2810 v2576
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2578 : BitVec 32 := Scalar.addi v2577 v12
  let c1_i32_2818 : BitVec 32 := 1#32
  let v2579 : BitVec 32 := Scalar.muli v2578 c1_i32_2818
  let v2580 : BitVec 32 := Scalar.addi c0_i32_2819 v2579
  v2580.toNat
def k0_dev54 (d0 : Dev nD) : Nat :=
  let c0_i32_2846 : BitVec 32 := 0#32
  let c4_i32_2837 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2830 : BitVec 32 := 3#32
  let v2593 : BitVec 32 := Scalar.addi v29 c3_i32_2830
  let c4_i32_2831 : BitVec 32 := 4#32
  let c0_i32_2832 : BitVec 32 := 0#32
  let v2594 : BitVec 1 := Scalar.cmpi .eq c4_i32_2831 c0_i32_2832
  let c1_i32_2833 : BitVec 32 := 1#32
  let v2595 : BitVec 32 := Scalar.select v2594 c1_i32_2833 c4_i32_2831
  let v2596 : BitVec 32 := Scalar.remsi v2593 v2595
  let c0_i32_2835 : BitVec 32 := 0#32
  let v2598 : BitVec 1 := Scalar.cmpi .slt v2596 c0_i32_2835
  let c0_i32_2836 : BitVec 32 := 0#32
  let v2599 : BitVec 1 := Scalar.cmpi .slt v2595 c0_i32_2836
  let v2600 : BitVec 1 := Scalar.xori v2598 v2599
  let c0_i32_2834 : BitVec 32 := 0#32
  let v2597 : BitVec 1 := Scalar.cmpi .ne v2596 c0_i32_2834
  let v2601 : BitVec 1 := Scalar.andi v2600 v2597
  let v2602 : BitVec 32 := Scalar.addi v2596 v2595
  let v2603 : BitVec 32 := Scalar.select v2601 v2602 v2596
  let v2604 : BitVec 32 := Scalar.muli c4_i32_2837 v2603
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2605 : BitVec 32 := Scalar.addi v2604 v12
  let c1_i32_2845 : BitVec 32 := 1#32
  let v2606 : BitVec 32 := Scalar.muli v2605 c1_i32_2845
  let v2607 : BitVec 32 := Scalar.addi c0_i32_2846 v2606
  v2607.toNat
def k0_off19 (d0 : Dev nD) : Fin 3 → Nat :=
  let c0_i32_2999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_2996 : BitVec 32 := 128#32
  let v2735 : BitVec 32 := Scalar.muli v29 c128_i32_2996
  let c0_i32_3006 : BitVec 32 := 0#32
  ![0, v2735.toNat, 0]
def k0_dev55 (d0 : Dev nD) : Nat :=
  let c0_i32_3005 : BitVec 32 := 0#32
  let c4_i32_2997 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2989 : BitVec 32 := 1#32
  let v2724 : BitVec 32 := Scalar.addi v29 c1_i32_2989
  let c4_i32_2990 : BitVec 32 := 4#32
  let c0_i32_2991 : BitVec 32 := 0#32
  let v2725 : BitVec 1 := Scalar.cmpi .eq c4_i32_2990 c0_i32_2991
  let c1_i32_2992 : BitVec 32 := 1#32
  let v2726 : BitVec 32 := Scalar.select v2725 c1_i32_2992 c4_i32_2990
  let v2727 : BitVec 32 := Scalar.remsi v2724 v2726
  let c0_i32_2994 : BitVec 32 := 0#32
  let v2729 : BitVec 1 := Scalar.cmpi .slt v2727 c0_i32_2994
  let c0_i32_2995 : BitVec 32 := 0#32
  let v2730 : BitVec 1 := Scalar.cmpi .slt v2726 c0_i32_2995
  let v2731 : BitVec 1 := Scalar.xori v2729 v2730
  let c0_i32_2993 : BitVec 32 := 0#32
  let v2728 : BitVec 1 := Scalar.cmpi .ne v2727 c0_i32_2993
  let v2732 : BitVec 1 := Scalar.andi v2731 v2728
  let v2733 : BitVec 32 := Scalar.addi v2727 v2726
  let v2734 : BitVec 32 := Scalar.select v2732 v2733 v2727
  let v2736 : BitVec 32 := Scalar.muli c4_i32_2997 v2734
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2737 : BitVec 32 := Scalar.addi v2736 v12
  let c1_i32_3004 : BitVec 32 := 1#32
  let v2738 : BitVec 32 := Scalar.muli v2737 c1_i32_3004
  let v2739 : BitVec 32 := Scalar.addi c0_i32_3005 v2738
  v2739.toNat
def k0_dev56 (d0 : Dev nD) : Nat :=
  let c0_i32_3025 : BitVec 32 := 0#32
  let c4_i32_3017 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3009 : BitVec 32 := 2#32
  let v2748 : BitVec 32 := Scalar.addi v29 c2_i32_3009
  let c4_i32_3010 : BitVec 32 := 4#32
  let c0_i32_3011 : BitVec 32 := 0#32
  let v2749 : BitVec 1 := Scalar.cmpi .eq c4_i32_3010 c0_i32_3011
  let c1_i32_3012 : BitVec 32 := 1#32
  let v2750 : BitVec 32 := Scalar.select v2749 c1_i32_3012 c4_i32_3010
  let v2751 : BitVec 32 := Scalar.remsi v2748 v2750
  let c0_i32_3014 : BitVec 32 := 0#32
  let v2753 : BitVec 1 := Scalar.cmpi .slt v2751 c0_i32_3014
  let c0_i32_3015 : BitVec 32 := 0#32
  let v2754 : BitVec 1 := Scalar.cmpi .slt v2750 c0_i32_3015
  let v2755 : BitVec 1 := Scalar.xori v2753 v2754
  let c0_i32_3013 : BitVec 32 := 0#32
  let v2752 : BitVec 1 := Scalar.cmpi .ne v2751 c0_i32_3013
  let v2756 : BitVec 1 := Scalar.andi v2755 v2752
  let v2757 : BitVec 32 := Scalar.addi v2751 v2750
  let v2758 : BitVec 32 := Scalar.select v2756 v2757 v2751
  let v2760 : BitVec 32 := Scalar.muli c4_i32_3017 v2758
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2761 : BitVec 32 := Scalar.addi v2760 v12
  let c1_i32_3024 : BitVec 32 := 1#32
  let v2762 : BitVec 32 := Scalar.muli v2761 c1_i32_3024
  let v2763 : BitVec 32 := Scalar.addi c0_i32_3025 v2762
  v2763.toNat
def k0_dev57 (d0 : Dev nD) : Nat :=
  let c0_i32_3045 : BitVec 32 := 0#32
  let c4_i32_3037 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3029 : BitVec 32 := 3#32
  let v2772 : BitVec 32 := Scalar.addi v29 c3_i32_3029
  let c4_i32_3030 : BitVec 32 := 4#32
  let c0_i32_3031 : BitVec 32 := 0#32
  let v2773 : BitVec 1 := Scalar.cmpi .eq c4_i32_3030 c0_i32_3031
  let c1_i32_3032 : BitVec 32 := 1#32
  let v2774 : BitVec 32 := Scalar.select v2773 c1_i32_3032 c4_i32_3030
  let v2775 : BitVec 32 := Scalar.remsi v2772 v2774
  let c0_i32_3034 : BitVec 32 := 0#32
  let v2777 : BitVec 1 := Scalar.cmpi .slt v2775 c0_i32_3034
  let c0_i32_3035 : BitVec 32 := 0#32
  let v2778 : BitVec 1 := Scalar.cmpi .slt v2774 c0_i32_3035
  let v2779 : BitVec 1 := Scalar.xori v2777 v2778
  let c0_i32_3033 : BitVec 32 := 0#32
  let v2776 : BitVec 1 := Scalar.cmpi .ne v2775 c0_i32_3033
  let v2780 : BitVec 1 := Scalar.andi v2779 v2776
  let v2781 : BitVec 32 := Scalar.addi v2775 v2774
  let v2782 : BitVec 32 := Scalar.select v2780 v2781 v2775
  let v2784 : BitVec 32 := Scalar.muli c4_i32_3037 v2782
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2785 : BitVec 32 := Scalar.addi v2784 v12
  let c1_i32_3044 : BitVec 32 := 1#32
  let v2786 : BitVec 32 := Scalar.muli v2785 c1_i32_3044
  let v2787 : BitVec 32 := Scalar.addi c0_i32_3045 v2786
  v2787.toNat
def k0_off20 (d0 : Dev nD) : Fin 3 → Nat :=
  let c0_3050 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3049 : BitVec 32 := 128#32
  let v2796 : BitVec 32 := Scalar.muli v29 c128_i32_3049
  let v2797 : Index := Scalar.indexCast v2796
  let c0_3051 : Index := 0#32
  ![0, v2797.toNat, 0]
def k0_off21 (d0 : Dev nD) : Fin 3 → Nat :=
  let c1_i32_3189 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3186 : BitVec 32 := 128#32
  let v2903 : BitVec 32 := Scalar.muli v29 c128_i32_3186
  let c0_i32_3196 : BitVec 32 := 0#32
  ![1, v2903.toNat, 0]
def k0_dev58 (d0 : Dev nD) : Nat :=
  let c0_i32_3195 : BitVec 32 := 0#32
  let c4_i32_3187 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3179 : BitVec 32 := 1#32
  let v2892 : BitVec 32 := Scalar.addi v29 c1_i32_3179
  let c4_i32_3180 : BitVec 32 := 4#32
  let c0_i32_3181 : BitVec 32 := 0#32
  let v2893 : BitVec 1 := Scalar.cmpi .eq c4_i32_3180 c0_i32_3181
  let c1_i32_3182 : BitVec 32 := 1#32
  let v2894 : BitVec 32 := Scalar.select v2893 c1_i32_3182 c4_i32_3180
  let v2895 : BitVec 32 := Scalar.remsi v2892 v2894
  let c0_i32_3184 : BitVec 32 := 0#32
  let v2897 : BitVec 1 := Scalar.cmpi .slt v2895 c0_i32_3184
  let c0_i32_3185 : BitVec 32 := 0#32
  let v2898 : BitVec 1 := Scalar.cmpi .slt v2894 c0_i32_3185
  let v2899 : BitVec 1 := Scalar.xori v2897 v2898
  let c0_i32_3183 : BitVec 32 := 0#32
  let v2896 : BitVec 1 := Scalar.cmpi .ne v2895 c0_i32_3183
  let v2900 : BitVec 1 := Scalar.andi v2899 v2896
  let v2901 : BitVec 32 := Scalar.addi v2895 v2894
  let v2902 : BitVec 32 := Scalar.select v2900 v2901 v2895
  let v2904 : BitVec 32 := Scalar.muli c4_i32_3187 v2902
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2905 : BitVec 32 := Scalar.addi v2904 v12
  let c1_i32_3194 : BitVec 32 := 1#32
  let v2906 : BitVec 32 := Scalar.muli v2905 c1_i32_3194
  let v2907 : BitVec 32 := Scalar.addi c0_i32_3195 v2906
  v2907.toNat
def k0_dev59 (d0 : Dev nD) : Nat :=
  let c0_i32_3215 : BitVec 32 := 0#32
  let c4_i32_3207 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3199 : BitVec 32 := 2#32
  let v2916 : BitVec 32 := Scalar.addi v29 c2_i32_3199
  let c4_i32_3200 : BitVec 32 := 4#32
  let c0_i32_3201 : BitVec 32 := 0#32
  let v2917 : BitVec 1 := Scalar.cmpi .eq c4_i32_3200 c0_i32_3201
  let c1_i32_3202 : BitVec 32 := 1#32
  let v2918 : BitVec 32 := Scalar.select v2917 c1_i32_3202 c4_i32_3200
  let v2919 : BitVec 32 := Scalar.remsi v2916 v2918
  let c0_i32_3204 : BitVec 32 := 0#32
  let v2921 : BitVec 1 := Scalar.cmpi .slt v2919 c0_i32_3204
  let c0_i32_3205 : BitVec 32 := 0#32
  let v2922 : BitVec 1 := Scalar.cmpi .slt v2918 c0_i32_3205
  let v2923 : BitVec 1 := Scalar.xori v2921 v2922
  let c0_i32_3203 : BitVec 32 := 0#32
  let v2920 : BitVec 1 := Scalar.cmpi .ne v2919 c0_i32_3203
  let v2924 : BitVec 1 := Scalar.andi v2923 v2920
  let v2925 : BitVec 32 := Scalar.addi v2919 v2918
  let v2926 : BitVec 32 := Scalar.select v2924 v2925 v2919
  let v2928 : BitVec 32 := Scalar.muli c4_i32_3207 v2926
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2929 : BitVec 32 := Scalar.addi v2928 v12
  let c1_i32_3214 : BitVec 32 := 1#32
  let v2930 : BitVec 32 := Scalar.muli v2929 c1_i32_3214
  let v2931 : BitVec 32 := Scalar.addi c0_i32_3215 v2930
  v2931.toNat
def k0_dev60 (d0 : Dev nD) : Nat :=
  let c0_i32_3235 : BitVec 32 := 0#32
  let c4_i32_3227 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3219 : BitVec 32 := 3#32
  let v2940 : BitVec 32 := Scalar.addi v29 c3_i32_3219
  let c4_i32_3220 : BitVec 32 := 4#32
  let c0_i32_3221 : BitVec 32 := 0#32
  let v2941 : BitVec 1 := Scalar.cmpi .eq c4_i32_3220 c0_i32_3221
  let c1_i32_3222 : BitVec 32 := 1#32
  let v2942 : BitVec 32 := Scalar.select v2941 c1_i32_3222 c4_i32_3220
  let v2943 : BitVec 32 := Scalar.remsi v2940 v2942
  let c0_i32_3224 : BitVec 32 := 0#32
  let v2945 : BitVec 1 := Scalar.cmpi .slt v2943 c0_i32_3224
  let c0_i32_3225 : BitVec 32 := 0#32
  let v2946 : BitVec 1 := Scalar.cmpi .slt v2942 c0_i32_3225
  let v2947 : BitVec 1 := Scalar.xori v2945 v2946
  let c0_i32_3223 : BitVec 32 := 0#32
  let v2944 : BitVec 1 := Scalar.cmpi .ne v2943 c0_i32_3223
  let v2948 : BitVec 1 := Scalar.andi v2947 v2944
  let v2949 : BitVec 32 := Scalar.addi v2943 v2942
  let v2950 : BitVec 32 := Scalar.select v2948 v2949 v2943
  let v2952 : BitVec 32 := Scalar.muli c4_i32_3227 v2950
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2953 : BitVec 32 := Scalar.addi v2952 v12
  let c1_i32_3234 : BitVec 32 := 1#32
  let v2954 : BitVec 32 := Scalar.muli v2953 c1_i32_3234
  let v2955 : BitVec 32 := Scalar.addi c0_i32_3235 v2954
  v2955.toNat
def k0_off22 (d0 : Dev nD) : Fin 3 → Nat :=
  let c1_3240 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3239 : BitVec 32 := 128#32
  let v2964 : BitVec 32 := Scalar.muli v29 c128_i32_3239
  let v2965 : Index := Scalar.indexCast v2964
  let c0_3241 : Index := 0#32
  ![1, v2965.toNat, 0]
def k0_off23 (d0 : Dev nD) : Fin 3 → Nat :=
  let c2_i32_3379 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3376 : BitVec 32 := 128#32
  let v3071 : BitVec 32 := Scalar.muli v29 c128_i32_3376
  let c0_i32_3386 : BitVec 32 := 0#32
  ![2, v3071.toNat, 0]
def k0_dev61 (d0 : Dev nD) : Nat :=
  let c0_i32_3385 : BitVec 32 := 0#32
  let c4_i32_3377 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3369 : BitVec 32 := 1#32
  let v3060 : BitVec 32 := Scalar.addi v29 c1_i32_3369
  let c4_i32_3370 : BitVec 32 := 4#32
  let c0_i32_3371 : BitVec 32 := 0#32
  let v3061 : BitVec 1 := Scalar.cmpi .eq c4_i32_3370 c0_i32_3371
  let c1_i32_3372 : BitVec 32 := 1#32
  let v3062 : BitVec 32 := Scalar.select v3061 c1_i32_3372 c4_i32_3370
  let v3063 : BitVec 32 := Scalar.remsi v3060 v3062
  let c0_i32_3374 : BitVec 32 := 0#32
  let v3065 : BitVec 1 := Scalar.cmpi .slt v3063 c0_i32_3374
  let c0_i32_3375 : BitVec 32 := 0#32
  let v3066 : BitVec 1 := Scalar.cmpi .slt v3062 c0_i32_3375
  let v3067 : BitVec 1 := Scalar.xori v3065 v3066
  let c0_i32_3373 : BitVec 32 := 0#32
  let v3064 : BitVec 1 := Scalar.cmpi .ne v3063 c0_i32_3373
  let v3068 : BitVec 1 := Scalar.andi v3067 v3064
  let v3069 : BitVec 32 := Scalar.addi v3063 v3062
  let v3070 : BitVec 32 := Scalar.select v3068 v3069 v3063
  let v3072 : BitVec 32 := Scalar.muli c4_i32_3377 v3070
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3073 : BitVec 32 := Scalar.addi v3072 v12
  let c1_i32_3384 : BitVec 32 := 1#32
  let v3074 : BitVec 32 := Scalar.muli v3073 c1_i32_3384
  let v3075 : BitVec 32 := Scalar.addi c0_i32_3385 v3074
  v3075.toNat
def k0_dev62 (d0 : Dev nD) : Nat :=
  let c0_i32_3405 : BitVec 32 := 0#32
  let c4_i32_3397 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3389 : BitVec 32 := 2#32
  let v3084 : BitVec 32 := Scalar.addi v29 c2_i32_3389
  let c4_i32_3390 : BitVec 32 := 4#32
  let c0_i32_3391 : BitVec 32 := 0#32
  let v3085 : BitVec 1 := Scalar.cmpi .eq c4_i32_3390 c0_i32_3391
  let c1_i32_3392 : BitVec 32 := 1#32
  let v3086 : BitVec 32 := Scalar.select v3085 c1_i32_3392 c4_i32_3390
  let v3087 : BitVec 32 := Scalar.remsi v3084 v3086
  let c0_i32_3394 : BitVec 32 := 0#32
  let v3089 : BitVec 1 := Scalar.cmpi .slt v3087 c0_i32_3394
  let c0_i32_3395 : BitVec 32 := 0#32
  let v3090 : BitVec 1 := Scalar.cmpi .slt v3086 c0_i32_3395
  let v3091 : BitVec 1 := Scalar.xori v3089 v3090
  let c0_i32_3393 : BitVec 32 := 0#32
  let v3088 : BitVec 1 := Scalar.cmpi .ne v3087 c0_i32_3393
  let v3092 : BitVec 1 := Scalar.andi v3091 v3088
  let v3093 : BitVec 32 := Scalar.addi v3087 v3086
  let v3094 : BitVec 32 := Scalar.select v3092 v3093 v3087
  let v3096 : BitVec 32 := Scalar.muli c4_i32_3397 v3094
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3097 : BitVec 32 := Scalar.addi v3096 v12
  let c1_i32_3404 : BitVec 32 := 1#32
  let v3098 : BitVec 32 := Scalar.muli v3097 c1_i32_3404
  let v3099 : BitVec 32 := Scalar.addi c0_i32_3405 v3098
  v3099.toNat
def k0_dev63 (d0 : Dev nD) : Nat :=
  let c0_i32_3425 : BitVec 32 := 0#32
  let c4_i32_3417 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3409 : BitVec 32 := 3#32
  let v3108 : BitVec 32 := Scalar.addi v29 c3_i32_3409
  let c4_i32_3410 : BitVec 32 := 4#32
  let c0_i32_3411 : BitVec 32 := 0#32
  let v3109 : BitVec 1 := Scalar.cmpi .eq c4_i32_3410 c0_i32_3411
  let c1_i32_3412 : BitVec 32 := 1#32
  let v3110 : BitVec 32 := Scalar.select v3109 c1_i32_3412 c4_i32_3410
  let v3111 : BitVec 32 := Scalar.remsi v3108 v3110
  let c0_i32_3414 : BitVec 32 := 0#32
  let v3113 : BitVec 1 := Scalar.cmpi .slt v3111 c0_i32_3414
  let c0_i32_3415 : BitVec 32 := 0#32
  let v3114 : BitVec 1 := Scalar.cmpi .slt v3110 c0_i32_3415
  let v3115 : BitVec 1 := Scalar.xori v3113 v3114
  let c0_i32_3413 : BitVec 32 := 0#32
  let v3112 : BitVec 1 := Scalar.cmpi .ne v3111 c0_i32_3413
  let v3116 : BitVec 1 := Scalar.andi v3115 v3112
  let v3117 : BitVec 32 := Scalar.addi v3111 v3110
  let v3118 : BitVec 32 := Scalar.select v3116 v3117 v3111
  let v3120 : BitVec 32 := Scalar.muli c4_i32_3417 v3118
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3121 : BitVec 32 := Scalar.addi v3120 v12
  let c1_i32_3424 : BitVec 32 := 1#32
  let v3122 : BitVec 32 := Scalar.muli v3121 c1_i32_3424
  let v3123 : BitVec 32 := Scalar.addi c0_i32_3425 v3122
  v3123.toNat
def k0_off24 (d0 : Dev nD) : Fin 3 → Nat :=
  let c2_3430 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3429 : BitVec 32 := 128#32
  let v3132 : BitVec 32 := Scalar.muli v29 c128_i32_3429
  let v3133 : Index := Scalar.indexCast v3132
  let c0_3431 : Index := 0#32
  ![2, v3133.toNat, 0]
def k0_off25 (d0 : Dev nD) : Fin 3 → Nat :=
  let c3_i32_3569 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3566 : BitVec 32 := 128#32
  let v3239 : BitVec 32 := Scalar.muli v29 c128_i32_3566
  let c0_i32_3576 : BitVec 32 := 0#32
  ![3, v3239.toNat, 0]
def k0_dev64 (d0 : Dev nD) : Nat :=
  let c0_i32_3575 : BitVec 32 := 0#32
  let c4_i32_3567 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3559 : BitVec 32 := 1#32
  let v3228 : BitVec 32 := Scalar.addi v29 c1_i32_3559
  let c4_i32_3560 : BitVec 32 := 4#32
  let c0_i32_3561 : BitVec 32 := 0#32
  let v3229 : BitVec 1 := Scalar.cmpi .eq c4_i32_3560 c0_i32_3561
  let c1_i32_3562 : BitVec 32 := 1#32
  let v3230 : BitVec 32 := Scalar.select v3229 c1_i32_3562 c4_i32_3560
  let v3231 : BitVec 32 := Scalar.remsi v3228 v3230
  let c0_i32_3564 : BitVec 32 := 0#32
  let v3233 : BitVec 1 := Scalar.cmpi .slt v3231 c0_i32_3564
  let c0_i32_3565 : BitVec 32 := 0#32
  let v3234 : BitVec 1 := Scalar.cmpi .slt v3230 c0_i32_3565
  let v3235 : BitVec 1 := Scalar.xori v3233 v3234
  let c0_i32_3563 : BitVec 32 := 0#32
  let v3232 : BitVec 1 := Scalar.cmpi .ne v3231 c0_i32_3563
  let v3236 : BitVec 1 := Scalar.andi v3235 v3232
  let v3237 : BitVec 32 := Scalar.addi v3231 v3230
  let v3238 : BitVec 32 := Scalar.select v3236 v3237 v3231
  let v3240 : BitVec 32 := Scalar.muli c4_i32_3567 v3238
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3241 : BitVec 32 := Scalar.addi v3240 v12
  let c1_i32_3574 : BitVec 32 := 1#32
  let v3242 : BitVec 32 := Scalar.muli v3241 c1_i32_3574
  let v3243 : BitVec 32 := Scalar.addi c0_i32_3575 v3242
  v3243.toNat
def k0_dev65 (d0 : Dev nD) : Nat :=
  let c0_i32_3595 : BitVec 32 := 0#32
  let c4_i32_3587 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3579 : BitVec 32 := 2#32
  let v3252 : BitVec 32 := Scalar.addi v29 c2_i32_3579
  let c4_i32_3580 : BitVec 32 := 4#32
  let c0_i32_3581 : BitVec 32 := 0#32
  let v3253 : BitVec 1 := Scalar.cmpi .eq c4_i32_3580 c0_i32_3581
  let c1_i32_3582 : BitVec 32 := 1#32
  let v3254 : BitVec 32 := Scalar.select v3253 c1_i32_3582 c4_i32_3580
  let v3255 : BitVec 32 := Scalar.remsi v3252 v3254
  let c0_i32_3584 : BitVec 32 := 0#32
  let v3257 : BitVec 1 := Scalar.cmpi .slt v3255 c0_i32_3584
  let c0_i32_3585 : BitVec 32 := 0#32
  let v3258 : BitVec 1 := Scalar.cmpi .slt v3254 c0_i32_3585
  let v3259 : BitVec 1 := Scalar.xori v3257 v3258
  let c0_i32_3583 : BitVec 32 := 0#32
  let v3256 : BitVec 1 := Scalar.cmpi .ne v3255 c0_i32_3583
  let v3260 : BitVec 1 := Scalar.andi v3259 v3256
  let v3261 : BitVec 32 := Scalar.addi v3255 v3254
  let v3262 : BitVec 32 := Scalar.select v3260 v3261 v3255
  let v3264 : BitVec 32 := Scalar.muli c4_i32_3587 v3262
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3265 : BitVec 32 := Scalar.addi v3264 v12
  let c1_i32_3594 : BitVec 32 := 1#32
  let v3266 : BitVec 32 := Scalar.muli v3265 c1_i32_3594
  let v3267 : BitVec 32 := Scalar.addi c0_i32_3595 v3266
  v3267.toNat
def k0_dev66 (d0 : Dev nD) : Nat :=
  let c0_i32_3615 : BitVec 32 := 0#32
  let c4_i32_3607 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3599 : BitVec 32 := 3#32
  let v3276 : BitVec 32 := Scalar.addi v29 c3_i32_3599
  let c4_i32_3600 : BitVec 32 := 4#32
  let c0_i32_3601 : BitVec 32 := 0#32
  let v3277 : BitVec 1 := Scalar.cmpi .eq c4_i32_3600 c0_i32_3601
  let c1_i32_3602 : BitVec 32 := 1#32
  let v3278 : BitVec 32 := Scalar.select v3277 c1_i32_3602 c4_i32_3600
  let v3279 : BitVec 32 := Scalar.remsi v3276 v3278
  let c0_i32_3604 : BitVec 32 := 0#32
  let v3281 : BitVec 1 := Scalar.cmpi .slt v3279 c0_i32_3604
  let c0_i32_3605 : BitVec 32 := 0#32
  let v3282 : BitVec 1 := Scalar.cmpi .slt v3278 c0_i32_3605
  let v3283 : BitVec 1 := Scalar.xori v3281 v3282
  let c0_i32_3603 : BitVec 32 := 0#32
  let v3280 : BitVec 1 := Scalar.cmpi .ne v3279 c0_i32_3603
  let v3284 : BitVec 1 := Scalar.andi v3283 v3280
  let v3285 : BitVec 32 := Scalar.addi v3279 v3278
  let v3286 : BitVec 32 := Scalar.select v3284 v3285 v3279
  let v3288 : BitVec 32 := Scalar.muli c4_i32_3607 v3286
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3289 : BitVec 32 := Scalar.addi v3288 v12
  let c1_i32_3614 : BitVec 32 := 1#32
  let v3290 : BitVec 32 := Scalar.muli v3289 c1_i32_3614
  let v3291 : BitVec 32 := Scalar.addi c0_i32_3615 v3290
  v3291.toNat
def k0_off26 (d0 : Dev nD) : Fin 3 → Nat :=
  let c3_3620 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3619 : BitVec 32 := 128#32
  let v3300 : BitVec 32 := Scalar.muli v29 c128_i32_3619
  let v3301 : Index := Scalar.indexCast v3300
  let c0_3621 : Index := 0#32
  ![3, v3301.toNat, 0]
def k0_off27 (d0 : Dev nD) : Fin 3 → Nat :=
  let c4_i32_3759 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3756 : BitVec 32 := 128#32
  let v3407 : BitVec 32 := Scalar.muli v29 c128_i32_3756
  let c0_i32_3766 : BitVec 32 := 0#32
  ![4, v3407.toNat, 0]
def k0_dev67 (d0 : Dev nD) : Nat :=
  let c0_i32_3765 : BitVec 32 := 0#32
  let c4_i32_3757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3749 : BitVec 32 := 1#32
  let v3396 : BitVec 32 := Scalar.addi v29 c1_i32_3749
  let c4_i32_3750 : BitVec 32 := 4#32
  let c0_i32_3751 : BitVec 32 := 0#32
  let v3397 : BitVec 1 := Scalar.cmpi .eq c4_i32_3750 c0_i32_3751
  let c1_i32_3752 : BitVec 32 := 1#32
  let v3398 : BitVec 32 := Scalar.select v3397 c1_i32_3752 c4_i32_3750
  let v3399 : BitVec 32 := Scalar.remsi v3396 v3398
  let c0_i32_3754 : BitVec 32 := 0#32
  let v3401 : BitVec 1 := Scalar.cmpi .slt v3399 c0_i32_3754
  let c0_i32_3755 : BitVec 32 := 0#32
  let v3402 : BitVec 1 := Scalar.cmpi .slt v3398 c0_i32_3755
  let v3403 : BitVec 1 := Scalar.xori v3401 v3402
  let c0_i32_3753 : BitVec 32 := 0#32
  let v3400 : BitVec 1 := Scalar.cmpi .ne v3399 c0_i32_3753
  let v3404 : BitVec 1 := Scalar.andi v3403 v3400
  let v3405 : BitVec 32 := Scalar.addi v3399 v3398
  let v3406 : BitVec 32 := Scalar.select v3404 v3405 v3399
  let v3408 : BitVec 32 := Scalar.muli c4_i32_3757 v3406
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3409 : BitVec 32 := Scalar.addi v3408 v12
  let c1_i32_3764 : BitVec 32 := 1#32
  let v3410 : BitVec 32 := Scalar.muli v3409 c1_i32_3764
  let v3411 : BitVec 32 := Scalar.addi c0_i32_3765 v3410
  v3411.toNat
def k0_dev68 (d0 : Dev nD) : Nat :=
  let c0_i32_3785 : BitVec 32 := 0#32
  let c4_i32_3777 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3769 : BitVec 32 := 2#32
  let v3420 : BitVec 32 := Scalar.addi v29 c2_i32_3769
  let c4_i32_3770 : BitVec 32 := 4#32
  let c0_i32_3771 : BitVec 32 := 0#32
  let v3421 : BitVec 1 := Scalar.cmpi .eq c4_i32_3770 c0_i32_3771
  let c1_i32_3772 : BitVec 32 := 1#32
  let v3422 : BitVec 32 := Scalar.select v3421 c1_i32_3772 c4_i32_3770
  let v3423 : BitVec 32 := Scalar.remsi v3420 v3422
  let c0_i32_3774 : BitVec 32 := 0#32
  let v3425 : BitVec 1 := Scalar.cmpi .slt v3423 c0_i32_3774
  let c0_i32_3775 : BitVec 32 := 0#32
  let v3426 : BitVec 1 := Scalar.cmpi .slt v3422 c0_i32_3775
  let v3427 : BitVec 1 := Scalar.xori v3425 v3426
  let c0_i32_3773 : BitVec 32 := 0#32
  let v3424 : BitVec 1 := Scalar.cmpi .ne v3423 c0_i32_3773
  let v3428 : BitVec 1 := Scalar.andi v3427 v3424
  let v3429 : BitVec 32 := Scalar.addi v3423 v3422
  let v3430 : BitVec 32 := Scalar.select v3428 v3429 v3423
  let v3432 : BitVec 32 := Scalar.muli c4_i32_3777 v3430
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3433 : BitVec 32 := Scalar.addi v3432 v12
  let c1_i32_3784 : BitVec 32 := 1#32
  let v3434 : BitVec 32 := Scalar.muli v3433 c1_i32_3784
  let v3435 : BitVec 32 := Scalar.addi c0_i32_3785 v3434
  v3435.toNat
def k0_dev69 (d0 : Dev nD) : Nat :=
  let c0_i32_3805 : BitVec 32 := 0#32
  let c4_i32_3797 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3789 : BitVec 32 := 3#32
  let v3444 : BitVec 32 := Scalar.addi v29 c3_i32_3789
  let c4_i32_3790 : BitVec 32 := 4#32
  let c0_i32_3791 : BitVec 32 := 0#32
  let v3445 : BitVec 1 := Scalar.cmpi .eq c4_i32_3790 c0_i32_3791
  let c1_i32_3792 : BitVec 32 := 1#32
  let v3446 : BitVec 32 := Scalar.select v3445 c1_i32_3792 c4_i32_3790
  let v3447 : BitVec 32 := Scalar.remsi v3444 v3446
  let c0_i32_3794 : BitVec 32 := 0#32
  let v3449 : BitVec 1 := Scalar.cmpi .slt v3447 c0_i32_3794
  let c0_i32_3795 : BitVec 32 := 0#32
  let v3450 : BitVec 1 := Scalar.cmpi .slt v3446 c0_i32_3795
  let v3451 : BitVec 1 := Scalar.xori v3449 v3450
  let c0_i32_3793 : BitVec 32 := 0#32
  let v3448 : BitVec 1 := Scalar.cmpi .ne v3447 c0_i32_3793
  let v3452 : BitVec 1 := Scalar.andi v3451 v3448
  let v3453 : BitVec 32 := Scalar.addi v3447 v3446
  let v3454 : BitVec 32 := Scalar.select v3452 v3453 v3447
  let v3456 : BitVec 32 := Scalar.muli c4_i32_3797 v3454
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3457 : BitVec 32 := Scalar.addi v3456 v12
  let c1_i32_3804 : BitVec 32 := 1#32
  let v3458 : BitVec 32 := Scalar.muli v3457 c1_i32_3804
  let v3459 : BitVec 32 := Scalar.addi c0_i32_3805 v3458
  v3459.toNat
def k0_off28 (d0 : Dev nD) : Fin 3 → Nat :=
  let c4_3810 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3809 : BitVec 32 := 128#32
  let v3468 : BitVec 32 := Scalar.muli v29 c128_i32_3809
  let v3469 : Index := Scalar.indexCast v3468
  let c0_3811 : Index := 0#32
  ![4, v3469.toNat, 0]
def k0_off29 (d0 : Dev nD) : Fin 3 → Nat :=
  let c5_i32_3949 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3946 : BitVec 32 := 128#32
  let v3575 : BitVec 32 := Scalar.muli v29 c128_i32_3946
  let c0_i32_3956 : BitVec 32 := 0#32
  ![5, v3575.toNat, 0]
def k0_dev70 (d0 : Dev nD) : Nat :=
  let c0_i32_3955 : BitVec 32 := 0#32
  let c4_i32_3947 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3939 : BitVec 32 := 1#32
  let v3564 : BitVec 32 := Scalar.addi v29 c1_i32_3939
  let c4_i32_3940 : BitVec 32 := 4#32
  let c0_i32_3941 : BitVec 32 := 0#32
  let v3565 : BitVec 1 := Scalar.cmpi .eq c4_i32_3940 c0_i32_3941
  let c1_i32_3942 : BitVec 32 := 1#32
  let v3566 : BitVec 32 := Scalar.select v3565 c1_i32_3942 c4_i32_3940
  let v3567 : BitVec 32 := Scalar.remsi v3564 v3566
  let c0_i32_3944 : BitVec 32 := 0#32
  let v3569 : BitVec 1 := Scalar.cmpi .slt v3567 c0_i32_3944
  let c0_i32_3945 : BitVec 32 := 0#32
  let v3570 : BitVec 1 := Scalar.cmpi .slt v3566 c0_i32_3945
  let v3571 : BitVec 1 := Scalar.xori v3569 v3570
  let c0_i32_3943 : BitVec 32 := 0#32
  let v3568 : BitVec 1 := Scalar.cmpi .ne v3567 c0_i32_3943
  let v3572 : BitVec 1 := Scalar.andi v3571 v3568
  let v3573 : BitVec 32 := Scalar.addi v3567 v3566
  let v3574 : BitVec 32 := Scalar.select v3572 v3573 v3567
  let v3576 : BitVec 32 := Scalar.muli c4_i32_3947 v3574
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3577 : BitVec 32 := Scalar.addi v3576 v12
  let c1_i32_3954 : BitVec 32 := 1#32
  let v3578 : BitVec 32 := Scalar.muli v3577 c1_i32_3954
  let v3579 : BitVec 32 := Scalar.addi c0_i32_3955 v3578
  v3579.toNat
def k0_dev71 (d0 : Dev nD) : Nat :=
  let c0_i32_3975 : BitVec 32 := 0#32
  let c4_i32_3967 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3959 : BitVec 32 := 2#32
  let v3588 : BitVec 32 := Scalar.addi v29 c2_i32_3959
  let c4_i32_3960 : BitVec 32 := 4#32
  let c0_i32_3961 : BitVec 32 := 0#32
  let v3589 : BitVec 1 := Scalar.cmpi .eq c4_i32_3960 c0_i32_3961
  let c1_i32_3962 : BitVec 32 := 1#32
  let v3590 : BitVec 32 := Scalar.select v3589 c1_i32_3962 c4_i32_3960
  let v3591 : BitVec 32 := Scalar.remsi v3588 v3590
  let c0_i32_3964 : BitVec 32 := 0#32
  let v3593 : BitVec 1 := Scalar.cmpi .slt v3591 c0_i32_3964
  let c0_i32_3965 : BitVec 32 := 0#32
  let v3594 : BitVec 1 := Scalar.cmpi .slt v3590 c0_i32_3965
  let v3595 : BitVec 1 := Scalar.xori v3593 v3594
  let c0_i32_3963 : BitVec 32 := 0#32
  let v3592 : BitVec 1 := Scalar.cmpi .ne v3591 c0_i32_3963
  let v3596 : BitVec 1 := Scalar.andi v3595 v3592
  let v3597 : BitVec 32 := Scalar.addi v3591 v3590
  let v3598 : BitVec 32 := Scalar.select v3596 v3597 v3591
  let v3600 : BitVec 32 := Scalar.muli c4_i32_3967 v3598
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3601 : BitVec 32 := Scalar.addi v3600 v12
  let c1_i32_3974 : BitVec 32 := 1#32
  let v3602 : BitVec 32 := Scalar.muli v3601 c1_i32_3974
  let v3603 : BitVec 32 := Scalar.addi c0_i32_3975 v3602
  v3603.toNat
def k0_dev72 (d0 : Dev nD) : Nat :=
  let c0_i32_3995 : BitVec 32 := 0#32
  let c4_i32_3987 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3979 : BitVec 32 := 3#32
  let v3612 : BitVec 32 := Scalar.addi v29 c3_i32_3979
  let c4_i32_3980 : BitVec 32 := 4#32
  let c0_i32_3981 : BitVec 32 := 0#32
  let v3613 : BitVec 1 := Scalar.cmpi .eq c4_i32_3980 c0_i32_3981
  let c1_i32_3982 : BitVec 32 := 1#32
  let v3614 : BitVec 32 := Scalar.select v3613 c1_i32_3982 c4_i32_3980
  let v3615 : BitVec 32 := Scalar.remsi v3612 v3614
  let c0_i32_3984 : BitVec 32 := 0#32
  let v3617 : BitVec 1 := Scalar.cmpi .slt v3615 c0_i32_3984
  let c0_i32_3985 : BitVec 32 := 0#32
  let v3618 : BitVec 1 := Scalar.cmpi .slt v3614 c0_i32_3985
  let v3619 : BitVec 1 := Scalar.xori v3617 v3618
  let c0_i32_3983 : BitVec 32 := 0#32
  let v3616 : BitVec 1 := Scalar.cmpi .ne v3615 c0_i32_3983
  let v3620 : BitVec 1 := Scalar.andi v3619 v3616
  let v3621 : BitVec 32 := Scalar.addi v3615 v3614
  let v3622 : BitVec 32 := Scalar.select v3620 v3621 v3615
  let v3624 : BitVec 32 := Scalar.muli c4_i32_3987 v3622
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3625 : BitVec 32 := Scalar.addi v3624 v12
  let c1_i32_3994 : BitVec 32 := 1#32
  let v3626 : BitVec 32 := Scalar.muli v3625 c1_i32_3994
  let v3627 : BitVec 32 := Scalar.addi c0_i32_3995 v3626
  v3627.toNat
def k0_off30 (d0 : Dev nD) : Fin 3 → Nat :=
  let c5_4000 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_3999 : BitVec 32 := 128#32
  let v3636 : BitVec 32 := Scalar.muli v29 c128_i32_3999
  let v3637 : Index := Scalar.indexCast v3636
  let c0_4001 : Index := 0#32
  ![5, v3637.toNat, 0]
def k0_off31 (d0 : Dev nD) : Fin 3 → Nat :=
  let c6_i32_4139 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_4136 : BitVec 32 := 128#32
  let v3743 : BitVec 32 := Scalar.muli v29 c128_i32_4136
  let c0_i32_4146 : BitVec 32 := 0#32
  ![6, v3743.toNat, 0]
def k0_dev73 (d0 : Dev nD) : Nat :=
  let c0_i32_4145 : BitVec 32 := 0#32
  let c4_i32_4137 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_4129 : BitVec 32 := 1#32
  let v3732 : BitVec 32 := Scalar.addi v29 c1_i32_4129
  let c4_i32_4130 : BitVec 32 := 4#32
  let c0_i32_4131 : BitVec 32 := 0#32
  let v3733 : BitVec 1 := Scalar.cmpi .eq c4_i32_4130 c0_i32_4131
  let c1_i32_4132 : BitVec 32 := 1#32
  let v3734 : BitVec 32 := Scalar.select v3733 c1_i32_4132 c4_i32_4130
  let v3735 : BitVec 32 := Scalar.remsi v3732 v3734
  let c0_i32_4134 : BitVec 32 := 0#32
  let v3737 : BitVec 1 := Scalar.cmpi .slt v3735 c0_i32_4134
  let c0_i32_4135 : BitVec 32 := 0#32
  let v3738 : BitVec 1 := Scalar.cmpi .slt v3734 c0_i32_4135
  let v3739 : BitVec 1 := Scalar.xori v3737 v3738
  let c0_i32_4133 : BitVec 32 := 0#32
  let v3736 : BitVec 1 := Scalar.cmpi .ne v3735 c0_i32_4133
  let v3740 : BitVec 1 := Scalar.andi v3739 v3736
  let v3741 : BitVec 32 := Scalar.addi v3735 v3734
  let v3742 : BitVec 32 := Scalar.select v3740 v3741 v3735
  let v3744 : BitVec 32 := Scalar.muli c4_i32_4137 v3742
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3745 : BitVec 32 := Scalar.addi v3744 v12
  let c1_i32_4144 : BitVec 32 := 1#32
  let v3746 : BitVec 32 := Scalar.muli v3745 c1_i32_4144
  let v3747 : BitVec 32 := Scalar.addi c0_i32_4145 v3746
  v3747.toNat
def k0_dev74 (d0 : Dev nD) : Nat :=
  let c0_i32_4165 : BitVec 32 := 0#32
  let c4_i32_4157 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_4149 : BitVec 32 := 2#32
  let v3756 : BitVec 32 := Scalar.addi v29 c2_i32_4149
  let c4_i32_4150 : BitVec 32 := 4#32
  let c0_i32_4151 : BitVec 32 := 0#32
  let v3757 : BitVec 1 := Scalar.cmpi .eq c4_i32_4150 c0_i32_4151
  let c1_i32_4152 : BitVec 32 := 1#32
  let v3758 : BitVec 32 := Scalar.select v3757 c1_i32_4152 c4_i32_4150
  let v3759 : BitVec 32 := Scalar.remsi v3756 v3758
  let c0_i32_4154 : BitVec 32 := 0#32
  let v3761 : BitVec 1 := Scalar.cmpi .slt v3759 c0_i32_4154
  let c0_i32_4155 : BitVec 32 := 0#32
  let v3762 : BitVec 1 := Scalar.cmpi .slt v3758 c0_i32_4155
  let v3763 : BitVec 1 := Scalar.xori v3761 v3762
  let c0_i32_4153 : BitVec 32 := 0#32
  let v3760 : BitVec 1 := Scalar.cmpi .ne v3759 c0_i32_4153
  let v3764 : BitVec 1 := Scalar.andi v3763 v3760
  let v3765 : BitVec 32 := Scalar.addi v3759 v3758
  let v3766 : BitVec 32 := Scalar.select v3764 v3765 v3759
  let v3768 : BitVec 32 := Scalar.muli c4_i32_4157 v3766
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3769 : BitVec 32 := Scalar.addi v3768 v12
  let c1_i32_4164 : BitVec 32 := 1#32
  let v3770 : BitVec 32 := Scalar.muli v3769 c1_i32_4164
  let v3771 : BitVec 32 := Scalar.addi c0_i32_4165 v3770
  v3771.toNat
def k0_dev75 (d0 : Dev nD) : Nat :=
  let c0_i32_4185 : BitVec 32 := 0#32
  let c4_i32_4177 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_4169 : BitVec 32 := 3#32
  let v3780 : BitVec 32 := Scalar.addi v29 c3_i32_4169
  let c4_i32_4170 : BitVec 32 := 4#32
  let c0_i32_4171 : BitVec 32 := 0#32
  let v3781 : BitVec 1 := Scalar.cmpi .eq c4_i32_4170 c0_i32_4171
  let c1_i32_4172 : BitVec 32 := 1#32
  let v3782 : BitVec 32 := Scalar.select v3781 c1_i32_4172 c4_i32_4170
  let v3783 : BitVec 32 := Scalar.remsi v3780 v3782
  let c0_i32_4174 : BitVec 32 := 0#32
  let v3785 : BitVec 1 := Scalar.cmpi .slt v3783 c0_i32_4174
  let c0_i32_4175 : BitVec 32 := 0#32
  let v3786 : BitVec 1 := Scalar.cmpi .slt v3782 c0_i32_4175
  let v3787 : BitVec 1 := Scalar.xori v3785 v3786
  let c0_i32_4173 : BitVec 32 := 0#32
  let v3784 : BitVec 1 := Scalar.cmpi .ne v3783 c0_i32_4173
  let v3788 : BitVec 1 := Scalar.andi v3787 v3784
  let v3789 : BitVec 32 := Scalar.addi v3783 v3782
  let v3790 : BitVec 32 := Scalar.select v3788 v3789 v3783
  let v3792 : BitVec 32 := Scalar.muli c4_i32_4177 v3790
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3793 : BitVec 32 := Scalar.addi v3792 v12
  let c1_i32_4184 : BitVec 32 := 1#32
  let v3794 : BitVec 32 := Scalar.muli v3793 c1_i32_4184
  let v3795 : BitVec 32 := Scalar.addi c0_i32_4185 v3794
  v3795.toNat
def k0_off32 (d0 : Dev nD) : Fin 3 → Nat :=
  let c6_4190 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_4189 : BitVec 32 := 128#32
  let v3804 : BitVec 32 := Scalar.muli v29 c128_i32_4189
  let v3805 : Index := Scalar.indexCast v3804
  let c0_4191 : Index := 0#32
  ![6, v3805.toNat, 0]
def k0_off33 (d0 : Dev nD) : Fin 3 → Nat :=
  let c7_i32_4329 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_4326 : BitVec 32 := 128#32
  let v3911 : BitVec 32 := Scalar.muli v29 c128_i32_4326
  let c0_i32_4336 : BitVec 32 := 0#32
  ![7, v3911.toNat, 0]
def k0_dev76 (d0 : Dev nD) : Nat :=
  let c0_i32_4335 : BitVec 32 := 0#32
  let c4_i32_4327 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_4319 : BitVec 32 := 1#32
  let v3900 : BitVec 32 := Scalar.addi v29 c1_i32_4319
  let c4_i32_4320 : BitVec 32 := 4#32
  let c0_i32_4321 : BitVec 32 := 0#32
  let v3901 : BitVec 1 := Scalar.cmpi .eq c4_i32_4320 c0_i32_4321
  let c1_i32_4322 : BitVec 32 := 1#32
  let v3902 : BitVec 32 := Scalar.select v3901 c1_i32_4322 c4_i32_4320
  let v3903 : BitVec 32 := Scalar.remsi v3900 v3902
  let c0_i32_4324 : BitVec 32 := 0#32
  let v3905 : BitVec 1 := Scalar.cmpi .slt v3903 c0_i32_4324
  let c0_i32_4325 : BitVec 32 := 0#32
  let v3906 : BitVec 1 := Scalar.cmpi .slt v3902 c0_i32_4325
  let v3907 : BitVec 1 := Scalar.xori v3905 v3906
  let c0_i32_4323 : BitVec 32 := 0#32
  let v3904 : BitVec 1 := Scalar.cmpi .ne v3903 c0_i32_4323
  let v3908 : BitVec 1 := Scalar.andi v3907 v3904
  let v3909 : BitVec 32 := Scalar.addi v3903 v3902
  let v3910 : BitVec 32 := Scalar.select v3908 v3909 v3903
  let v3912 : BitVec 32 := Scalar.muli c4_i32_4327 v3910
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3913 : BitVec 32 := Scalar.addi v3912 v12
  let c1_i32_4334 : BitVec 32 := 1#32
  let v3914 : BitVec 32 := Scalar.muli v3913 c1_i32_4334
  let v3915 : BitVec 32 := Scalar.addi c0_i32_4335 v3914
  v3915.toNat
def k0_dev77 (d0 : Dev nD) : Nat :=
  let c0_i32_4355 : BitVec 32 := 0#32
  let c4_i32_4347 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_4339 : BitVec 32 := 2#32
  let v3924 : BitVec 32 := Scalar.addi v29 c2_i32_4339
  let c4_i32_4340 : BitVec 32 := 4#32
  let c0_i32_4341 : BitVec 32 := 0#32
  let v3925 : BitVec 1 := Scalar.cmpi .eq c4_i32_4340 c0_i32_4341
  let c1_i32_4342 : BitVec 32 := 1#32
  let v3926 : BitVec 32 := Scalar.select v3925 c1_i32_4342 c4_i32_4340
  let v3927 : BitVec 32 := Scalar.remsi v3924 v3926
  let c0_i32_4344 : BitVec 32 := 0#32
  let v3929 : BitVec 1 := Scalar.cmpi .slt v3927 c0_i32_4344
  let c0_i32_4345 : BitVec 32 := 0#32
  let v3930 : BitVec 1 := Scalar.cmpi .slt v3926 c0_i32_4345
  let v3931 : BitVec 1 := Scalar.xori v3929 v3930
  let c0_i32_4343 : BitVec 32 := 0#32
  let v3928 : BitVec 1 := Scalar.cmpi .ne v3927 c0_i32_4343
  let v3932 : BitVec 1 := Scalar.andi v3931 v3928
  let v3933 : BitVec 32 := Scalar.addi v3927 v3926
  let v3934 : BitVec 32 := Scalar.select v3932 v3933 v3927
  let v3936 : BitVec 32 := Scalar.muli c4_i32_4347 v3934
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3937 : BitVec 32 := Scalar.addi v3936 v12
  let c1_i32_4354 : BitVec 32 := 1#32
  let v3938 : BitVec 32 := Scalar.muli v3937 c1_i32_4354
  let v3939 : BitVec 32 := Scalar.addi c0_i32_4355 v3938
  v3939.toNat
def k0_dev78 (d0 : Dev nD) : Nat :=
  let c0_i32_4375 : BitVec 32 := 0#32
  let c4_i32_4367 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_4359 : BitVec 32 := 3#32
  let v3948 : BitVec 32 := Scalar.addi v29 c3_i32_4359
  let c4_i32_4360 : BitVec 32 := 4#32
  let c0_i32_4361 : BitVec 32 := 0#32
  let v3949 : BitVec 1 := Scalar.cmpi .eq c4_i32_4360 c0_i32_4361
  let c1_i32_4362 : BitVec 32 := 1#32
  let v3950 : BitVec 32 := Scalar.select v3949 c1_i32_4362 c4_i32_4360
  let v3951 : BitVec 32 := Scalar.remsi v3948 v3950
  let c0_i32_4364 : BitVec 32 := 0#32
  let v3953 : BitVec 1 := Scalar.cmpi .slt v3951 c0_i32_4364
  let c0_i32_4365 : BitVec 32 := 0#32
  let v3954 : BitVec 1 := Scalar.cmpi .slt v3950 c0_i32_4365
  let v3955 : BitVec 1 := Scalar.xori v3953 v3954
  let c0_i32_4363 : BitVec 32 := 0#32
  let v3952 : BitVec 1 := Scalar.cmpi .ne v3951 c0_i32_4363
  let v3956 : BitVec 1 := Scalar.andi v3955 v3952
  let v3957 : BitVec 32 := Scalar.addi v3951 v3950
  let v3958 : BitVec 32 := Scalar.select v3956 v3957 v3951
  let v3960 : BitVec 32 := Scalar.muli c4_i32_4367 v3958
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v3961 : BitVec 32 := Scalar.addi v3960 v12
  let c1_i32_4374 : BitVec 32 := 1#32
  let v3962 : BitVec 32 := Scalar.muli v3961 c1_i32_4374
  let v3963 : BitVec 32 := Scalar.addi c0_i32_4375 v3962
  v3963.toNat
def k0_off34 (d0 : Dev nD) : Fin 3 → Nat :=
  let c7_4380 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_4379 : BitVec 32 := 128#32
  let v3972 : BitVec 32 := Scalar.muli v29 c128_i32_4379
  let v3973 : Index := Scalar.indexCast v3972
  let c0_4381 : Index := 0#32
  ![7, v3973.toNat, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4452 : BitVec 32 := 512#32
  let v4030 : BitVec 32 := Scalar.muli v12 c512_i32_4452
  let c0_i32_4461 : BitVec 32 := 0#32
  ![v4030.toNat, 0]
def k0_dev79 (d0 : Dev nD) : Nat :=
  let c0_i32_4460 : BitVec 32 := 0#32
  let c4_i32_4453 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4031 : BitVec 32 := Scalar.muli c4_i32_4453 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4445 : BitVec 32 := 1#32
  let v4019 : BitVec 32 := Scalar.addi v12 c1_i32_4445
  let c4_i32_4446 : BitVec 32 := 4#32
  let c0_i32_4447 : BitVec 32 := 0#32
  let v4020 : BitVec 1 := Scalar.cmpi .eq c4_i32_4446 c0_i32_4447
  let c1_i32_4448 : BitVec 32 := 1#32
  let v4021 : BitVec 32 := Scalar.select v4020 c1_i32_4448 c4_i32_4446
  let v4022 : BitVec 32 := Scalar.remsi v4019 v4021
  let c0_i32_4450 : BitVec 32 := 0#32
  let v4024 : BitVec 1 := Scalar.cmpi .slt v4022 c0_i32_4450
  let c0_i32_4451 : BitVec 32 := 0#32
  let v4025 : BitVec 1 := Scalar.cmpi .slt v4021 c0_i32_4451
  let v4026 : BitVec 1 := Scalar.xori v4024 v4025
  let c0_i32_4449 : BitVec 32 := 0#32
  let v4023 : BitVec 1 := Scalar.cmpi .ne v4022 c0_i32_4449
  let v4027 : BitVec 1 := Scalar.andi v4026 v4023
  let v4028 : BitVec 32 := Scalar.addi v4022 v4021
  let v4029 : BitVec 32 := Scalar.select v4027 v4028 v4022
  let v4032 : BitVec 32 := Scalar.addi v4031 v4029
  let c1_i32_4459 : BitVec 32 := 1#32
  let v4033 : BitVec 32 := Scalar.muli v4032 c1_i32_4459
  let v4034 : BitVec 32 := Scalar.addi c0_i32_4460 v4033
  v4034.toNat
def k0_dev80 (d0 : Dev nD) : Nat :=
  let c0_i32_4479 : BitVec 32 := 0#32
  let c4_i32_4472 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4054 : BitVec 32 := Scalar.muli c4_i32_4472 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_4464 : BitVec 32 := 2#32
  let v4042 : BitVec 32 := Scalar.addi v12 c2_i32_4464
  let c4_i32_4465 : BitVec 32 := 4#32
  let c0_i32_4466 : BitVec 32 := 0#32
  let v4043 : BitVec 1 := Scalar.cmpi .eq c4_i32_4465 c0_i32_4466
  let c1_i32_4467 : BitVec 32 := 1#32
  let v4044 : BitVec 32 := Scalar.select v4043 c1_i32_4467 c4_i32_4465
  let v4045 : BitVec 32 := Scalar.remsi v4042 v4044
  let c0_i32_4469 : BitVec 32 := 0#32
  let v4047 : BitVec 1 := Scalar.cmpi .slt v4045 c0_i32_4469
  let c0_i32_4470 : BitVec 32 := 0#32
  let v4048 : BitVec 1 := Scalar.cmpi .slt v4044 c0_i32_4470
  let v4049 : BitVec 1 := Scalar.xori v4047 v4048
  let c0_i32_4468 : BitVec 32 := 0#32
  let v4046 : BitVec 1 := Scalar.cmpi .ne v4045 c0_i32_4468
  let v4050 : BitVec 1 := Scalar.andi v4049 v4046
  let v4051 : BitVec 32 := Scalar.addi v4045 v4044
  let v4052 : BitVec 32 := Scalar.select v4050 v4051 v4045
  let v4055 : BitVec 32 := Scalar.addi v4054 v4052
  let c1_i32_4478 : BitVec 32 := 1#32
  let v4056 : BitVec 32 := Scalar.muli v4055 c1_i32_4478
  let v4057 : BitVec 32 := Scalar.addi c0_i32_4479 v4056
  v4057.toNat
def k0_dev81 (d0 : Dev nD) : Nat :=
  let c0_i32_4498 : BitVec 32 := 0#32
  let c4_i32_4491 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4077 : BitVec 32 := Scalar.muli c4_i32_4491 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_4483 : BitVec 32 := 3#32
  let v4065 : BitVec 32 := Scalar.addi v12 c3_i32_4483
  let c4_i32_4484 : BitVec 32 := 4#32
  let c0_i32_4485 : BitVec 32 := 0#32
  let v4066 : BitVec 1 := Scalar.cmpi .eq c4_i32_4484 c0_i32_4485
  let c1_i32_4486 : BitVec 32 := 1#32
  let v4067 : BitVec 32 := Scalar.select v4066 c1_i32_4486 c4_i32_4484
  let v4068 : BitVec 32 := Scalar.remsi v4065 v4067
  let c0_i32_4488 : BitVec 32 := 0#32
  let v4070 : BitVec 1 := Scalar.cmpi .slt v4068 c0_i32_4488
  let c0_i32_4489 : BitVec 32 := 0#32
  let v4071 : BitVec 1 := Scalar.cmpi .slt v4067 c0_i32_4489
  let v4072 : BitVec 1 := Scalar.xori v4070 v4071
  let c0_i32_4487 : BitVec 32 := 0#32
  let v4069 : BitVec 1 := Scalar.cmpi .ne v4068 c0_i32_4487
  let v4073 : BitVec 1 := Scalar.andi v4072 v4069
  let v4074 : BitVec 32 := Scalar.addi v4068 v4067
  let v4075 : BitVec 32 := Scalar.select v4073 v4074 v4068
  let v4078 : BitVec 32 := Scalar.addi v4077 v4075
  let c1_i32_4497 : BitVec 32 := 1#32
  let v4079 : BitVec 32 := Scalar.muli v4078 c1_i32_4497
  let v4080 : BitVec 32 := Scalar.addi c0_i32_4498 v4079
  v4080.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4505 : BitVec 32 := 512#32
  let v4090 : BitVec 32 := Scalar.muli v12 c512_i32_4505
  let v4091 : Index := Scalar.indexCast v4090
  let c0_4506 : Index := 0#32
  ![v4091.toNat, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4577 : BitVec 32 := 512#32
  let v4146 : BitVec 32 := Scalar.muli v12 c512_i32_4577
  let c128_i32_4586 : BitVec 32 := 128#32
  ![v4146.toNat, 128]
def k0_dev82 (d0 : Dev nD) : Nat :=
  let c0_i32_4585 : BitVec 32 := 0#32
  let c4_i32_4578 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4147 : BitVec 32 := Scalar.muli c4_i32_4578 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4570 : BitVec 32 := 1#32
  let v4135 : BitVec 32 := Scalar.addi v12 c1_i32_4570
  let c4_i32_4571 : BitVec 32 := 4#32
  let c0_i32_4572 : BitVec 32 := 0#32
  let v4136 : BitVec 1 := Scalar.cmpi .eq c4_i32_4571 c0_i32_4572
  let c1_i32_4573 : BitVec 32 := 1#32
  let v4137 : BitVec 32 := Scalar.select v4136 c1_i32_4573 c4_i32_4571
  let v4138 : BitVec 32 := Scalar.remsi v4135 v4137
  let c0_i32_4575 : BitVec 32 := 0#32
  let v4140 : BitVec 1 := Scalar.cmpi .slt v4138 c0_i32_4575
  let c0_i32_4576 : BitVec 32 := 0#32
  let v4141 : BitVec 1 := Scalar.cmpi .slt v4137 c0_i32_4576
  let v4142 : BitVec 1 := Scalar.xori v4140 v4141
  let c0_i32_4574 : BitVec 32 := 0#32
  let v4139 : BitVec 1 := Scalar.cmpi .ne v4138 c0_i32_4574
  let v4143 : BitVec 1 := Scalar.andi v4142 v4139
  let v4144 : BitVec 32 := Scalar.addi v4138 v4137
  let v4145 : BitVec 32 := Scalar.select v4143 v4144 v4138
  let v4148 : BitVec 32 := Scalar.addi v4147 v4145
  let c1_i32_4584 : BitVec 32 := 1#32
  let v4149 : BitVec 32 := Scalar.muli v4148 c1_i32_4584
  let v4150 : BitVec 32 := Scalar.addi c0_i32_4585 v4149
  v4150.toNat
def k0_dev83 (d0 : Dev nD) : Nat :=
  let c0_i32_4604 : BitVec 32 := 0#32
  let c4_i32_4597 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4170 : BitVec 32 := Scalar.muli c4_i32_4597 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_4589 : BitVec 32 := 2#32
  let v4158 : BitVec 32 := Scalar.addi v12 c2_i32_4589
  let c4_i32_4590 : BitVec 32 := 4#32
  let c0_i32_4591 : BitVec 32 := 0#32
  let v4159 : BitVec 1 := Scalar.cmpi .eq c4_i32_4590 c0_i32_4591
  let c1_i32_4592 : BitVec 32 := 1#32
  let v4160 : BitVec 32 := Scalar.select v4159 c1_i32_4592 c4_i32_4590
  let v4161 : BitVec 32 := Scalar.remsi v4158 v4160
  let c0_i32_4594 : BitVec 32 := 0#32
  let v4163 : BitVec 1 := Scalar.cmpi .slt v4161 c0_i32_4594
  let c0_i32_4595 : BitVec 32 := 0#32
  let v4164 : BitVec 1 := Scalar.cmpi .slt v4160 c0_i32_4595
  let v4165 : BitVec 1 := Scalar.xori v4163 v4164
  let c0_i32_4593 : BitVec 32 := 0#32
  let v4162 : BitVec 1 := Scalar.cmpi .ne v4161 c0_i32_4593
  let v4166 : BitVec 1 := Scalar.andi v4165 v4162
  let v4167 : BitVec 32 := Scalar.addi v4161 v4160
  let v4168 : BitVec 32 := Scalar.select v4166 v4167 v4161
  let v4171 : BitVec 32 := Scalar.addi v4170 v4168
  let c1_i32_4603 : BitVec 32 := 1#32
  let v4172 : BitVec 32 := Scalar.muli v4171 c1_i32_4603
  let v4173 : BitVec 32 := Scalar.addi c0_i32_4604 v4172
  v4173.toNat
def k0_dev84 (d0 : Dev nD) : Nat :=
  let c0_i32_4623 : BitVec 32 := 0#32
  let c4_i32_4616 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4193 : BitVec 32 := Scalar.muli c4_i32_4616 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_4608 : BitVec 32 := 3#32
  let v4181 : BitVec 32 := Scalar.addi v12 c3_i32_4608
  let c4_i32_4609 : BitVec 32 := 4#32
  let c0_i32_4610 : BitVec 32 := 0#32
  let v4182 : BitVec 1 := Scalar.cmpi .eq c4_i32_4609 c0_i32_4610
  let c1_i32_4611 : BitVec 32 := 1#32
  let v4183 : BitVec 32 := Scalar.select v4182 c1_i32_4611 c4_i32_4609
  let v4184 : BitVec 32 := Scalar.remsi v4181 v4183
  let c0_i32_4613 : BitVec 32 := 0#32
  let v4186 : BitVec 1 := Scalar.cmpi .slt v4184 c0_i32_4613
  let c0_i32_4614 : BitVec 32 := 0#32
  let v4187 : BitVec 1 := Scalar.cmpi .slt v4183 c0_i32_4614
  let v4188 : BitVec 1 := Scalar.xori v4186 v4187
  let c0_i32_4612 : BitVec 32 := 0#32
  let v4185 : BitVec 1 := Scalar.cmpi .ne v4184 c0_i32_4612
  let v4189 : BitVec 1 := Scalar.andi v4188 v4185
  let v4190 : BitVec 32 := Scalar.addi v4184 v4183
  let v4191 : BitVec 32 := Scalar.select v4189 v4190 v4184
  let v4194 : BitVec 32 := Scalar.addi v4193 v4191
  let c1_i32_4622 : BitVec 32 := 1#32
  let v4195 : BitVec 32 := Scalar.muli v4194 c1_i32_4622
  let v4196 : BitVec 32 := Scalar.addi c0_i32_4623 v4195
  v4196.toNat
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4630 : BitVec 32 := 512#32
  let v4206 : BitVec 32 := Scalar.muli v12 c512_i32_4630
  let v4207 : Index := Scalar.indexCast v4206
  let c128 : Index := 128#32
  ![v4207.toNat, 128]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4701 : BitVec 32 := 512#32
  let v4262 : BitVec 32 := Scalar.muli v12 c512_i32_4701
  let c256_i32_4710 : BitVec 32 := 256#32
  ![v4262.toNat, 256]
def k0_dev85 (d0 : Dev nD) : Nat :=
  let c0_i32_4709 : BitVec 32 := 0#32
  let c4_i32_4702 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4263 : BitVec 32 := Scalar.muli c4_i32_4702 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4694 : BitVec 32 := 1#32
  let v4251 : BitVec 32 := Scalar.addi v12 c1_i32_4694
  let c4_i32_4695 : BitVec 32 := 4#32
  let c0_i32_4696 : BitVec 32 := 0#32
  let v4252 : BitVec 1 := Scalar.cmpi .eq c4_i32_4695 c0_i32_4696
  let c1_i32_4697 : BitVec 32 := 1#32
  let v4253 : BitVec 32 := Scalar.select v4252 c1_i32_4697 c4_i32_4695
  let v4254 : BitVec 32 := Scalar.remsi v4251 v4253
  let c0_i32_4699 : BitVec 32 := 0#32
  let v4256 : BitVec 1 := Scalar.cmpi .slt v4254 c0_i32_4699
  let c0_i32_4700 : BitVec 32 := 0#32
  let v4257 : BitVec 1 := Scalar.cmpi .slt v4253 c0_i32_4700
  let v4258 : BitVec 1 := Scalar.xori v4256 v4257
  let c0_i32_4698 : BitVec 32 := 0#32
  let v4255 : BitVec 1 := Scalar.cmpi .ne v4254 c0_i32_4698
  let v4259 : BitVec 1 := Scalar.andi v4258 v4255
  let v4260 : BitVec 32 := Scalar.addi v4254 v4253
  let v4261 : BitVec 32 := Scalar.select v4259 v4260 v4254
  let v4264 : BitVec 32 := Scalar.addi v4263 v4261
  let c1_i32_4708 : BitVec 32 := 1#32
  let v4265 : BitVec 32 := Scalar.muli v4264 c1_i32_4708
  let v4266 : BitVec 32 := Scalar.addi c0_i32_4709 v4265
  v4266.toNat
def k0_dev86 (d0 : Dev nD) : Nat :=
  let c0_i32_4728 : BitVec 32 := 0#32
  let c4_i32_4721 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4286 : BitVec 32 := Scalar.muli c4_i32_4721 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_4713 : BitVec 32 := 2#32
  let v4274 : BitVec 32 := Scalar.addi v12 c2_i32_4713
  let c4_i32_4714 : BitVec 32 := 4#32
  let c0_i32_4715 : BitVec 32 := 0#32
  let v4275 : BitVec 1 := Scalar.cmpi .eq c4_i32_4714 c0_i32_4715
  let c1_i32_4716 : BitVec 32 := 1#32
  let v4276 : BitVec 32 := Scalar.select v4275 c1_i32_4716 c4_i32_4714
  let v4277 : BitVec 32 := Scalar.remsi v4274 v4276
  let c0_i32_4718 : BitVec 32 := 0#32
  let v4279 : BitVec 1 := Scalar.cmpi .slt v4277 c0_i32_4718
  let c0_i32_4719 : BitVec 32 := 0#32
  let v4280 : BitVec 1 := Scalar.cmpi .slt v4276 c0_i32_4719
  let v4281 : BitVec 1 := Scalar.xori v4279 v4280
  let c0_i32_4717 : BitVec 32 := 0#32
  let v4278 : BitVec 1 := Scalar.cmpi .ne v4277 c0_i32_4717
  let v4282 : BitVec 1 := Scalar.andi v4281 v4278
  let v4283 : BitVec 32 := Scalar.addi v4277 v4276
  let v4284 : BitVec 32 := Scalar.select v4282 v4283 v4277
  let v4287 : BitVec 32 := Scalar.addi v4286 v4284
  let c1_i32_4727 : BitVec 32 := 1#32
  let v4288 : BitVec 32 := Scalar.muli v4287 c1_i32_4727
  let v4289 : BitVec 32 := Scalar.addi c0_i32_4728 v4288
  v4289.toNat
def k0_dev87 (d0 : Dev nD) : Nat :=
  let c0_i32_4747 : BitVec 32 := 0#32
  let c4_i32_4740 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4309 : BitVec 32 := Scalar.muli c4_i32_4740 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_4732 : BitVec 32 := 3#32
  let v4297 : BitVec 32 := Scalar.addi v12 c3_i32_4732
  let c4_i32_4733 : BitVec 32 := 4#32
  let c0_i32_4734 : BitVec 32 := 0#32
  let v4298 : BitVec 1 := Scalar.cmpi .eq c4_i32_4733 c0_i32_4734
  let c1_i32_4735 : BitVec 32 := 1#32
  let v4299 : BitVec 32 := Scalar.select v4298 c1_i32_4735 c4_i32_4733
  let v4300 : BitVec 32 := Scalar.remsi v4297 v4299
  let c0_i32_4737 : BitVec 32 := 0#32
  let v4302 : BitVec 1 := Scalar.cmpi .slt v4300 c0_i32_4737
  let c0_i32_4738 : BitVec 32 := 0#32
  let v4303 : BitVec 1 := Scalar.cmpi .slt v4299 c0_i32_4738
  let v4304 : BitVec 1 := Scalar.xori v4302 v4303
  let c0_i32_4736 : BitVec 32 := 0#32
  let v4301 : BitVec 1 := Scalar.cmpi .ne v4300 c0_i32_4736
  let v4305 : BitVec 1 := Scalar.andi v4304 v4301
  let v4306 : BitVec 32 := Scalar.addi v4300 v4299
  let v4307 : BitVec 32 := Scalar.select v4305 v4306 v4300
  let v4310 : BitVec 32 := Scalar.addi v4309 v4307
  let c1_i32_4746 : BitVec 32 := 1#32
  let v4311 : BitVec 32 := Scalar.muli v4310 c1_i32_4746
  let v4312 : BitVec 32 := Scalar.addi c0_i32_4747 v4311
  v4312.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4754 : BitVec 32 := 512#32
  let v4322 : BitVec 32 := Scalar.muli v12 c512_i32_4754
  let v4323 : Index := Scalar.indexCast v4322
  let c256 : Index := 256#32
  ![v4323.toNat, 256]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4825 : BitVec 32 := 512#32
  let v4378 : BitVec 32 := Scalar.muli v12 c512_i32_4825
  let c384_i32_4834 : BitVec 32 := 384#32
  ![v4378.toNat, 384]
def k0_dev88 (d0 : Dev nD) : Nat :=
  let c0_i32_4833 : BitVec 32 := 0#32
  let c4_i32_4826 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4379 : BitVec 32 := Scalar.muli c4_i32_4826 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4818 : BitVec 32 := 1#32
  let v4367 : BitVec 32 := Scalar.addi v12 c1_i32_4818
  let c4_i32_4819 : BitVec 32 := 4#32
  let c0_i32_4820 : BitVec 32 := 0#32
  let v4368 : BitVec 1 := Scalar.cmpi .eq c4_i32_4819 c0_i32_4820
  let c1_i32_4821 : BitVec 32 := 1#32
  let v4369 : BitVec 32 := Scalar.select v4368 c1_i32_4821 c4_i32_4819
  let v4370 : BitVec 32 := Scalar.remsi v4367 v4369
  let c0_i32_4823 : BitVec 32 := 0#32
  let v4372 : BitVec 1 := Scalar.cmpi .slt v4370 c0_i32_4823
  let c0_i32_4824 : BitVec 32 := 0#32
  let v4373 : BitVec 1 := Scalar.cmpi .slt v4369 c0_i32_4824
  let v4374 : BitVec 1 := Scalar.xori v4372 v4373
  let c0_i32_4822 : BitVec 32 := 0#32
  let v4371 : BitVec 1 := Scalar.cmpi .ne v4370 c0_i32_4822
  let v4375 : BitVec 1 := Scalar.andi v4374 v4371
  let v4376 : BitVec 32 := Scalar.addi v4370 v4369
  let v4377 : BitVec 32 := Scalar.select v4375 v4376 v4370
  let v4380 : BitVec 32 := Scalar.addi v4379 v4377
  let c1_i32_4832 : BitVec 32 := 1#32
  let v4381 : BitVec 32 := Scalar.muli v4380 c1_i32_4832
  let v4382 : BitVec 32 := Scalar.addi c0_i32_4833 v4381
  v4382.toNat
def k0_dev89 (d0 : Dev nD) : Nat :=
  let c0_i32_4852 : BitVec 32 := 0#32
  let c4_i32_4845 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4402 : BitVec 32 := Scalar.muli c4_i32_4845 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_4837 : BitVec 32 := 2#32
  let v4390 : BitVec 32 := Scalar.addi v12 c2_i32_4837
  let c4_i32_4838 : BitVec 32 := 4#32
  let c0_i32_4839 : BitVec 32 := 0#32
  let v4391 : BitVec 1 := Scalar.cmpi .eq c4_i32_4838 c0_i32_4839
  let c1_i32_4840 : BitVec 32 := 1#32
  let v4392 : BitVec 32 := Scalar.select v4391 c1_i32_4840 c4_i32_4838
  let v4393 : BitVec 32 := Scalar.remsi v4390 v4392
  let c0_i32_4842 : BitVec 32 := 0#32
  let v4395 : BitVec 1 := Scalar.cmpi .slt v4393 c0_i32_4842
  let c0_i32_4843 : BitVec 32 := 0#32
  let v4396 : BitVec 1 := Scalar.cmpi .slt v4392 c0_i32_4843
  let v4397 : BitVec 1 := Scalar.xori v4395 v4396
  let c0_i32_4841 : BitVec 32 := 0#32
  let v4394 : BitVec 1 := Scalar.cmpi .ne v4393 c0_i32_4841
  let v4398 : BitVec 1 := Scalar.andi v4397 v4394
  let v4399 : BitVec 32 := Scalar.addi v4393 v4392
  let v4400 : BitVec 32 := Scalar.select v4398 v4399 v4393
  let v4403 : BitVec 32 := Scalar.addi v4402 v4400
  let c1_i32_4851 : BitVec 32 := 1#32
  let v4404 : BitVec 32 := Scalar.muli v4403 c1_i32_4851
  let v4405 : BitVec 32 := Scalar.addi c0_i32_4852 v4404
  v4405.toNat
def k0_dev90 (d0 : Dev nD) : Nat :=
  let c0_i32_4871 : BitVec 32 := 0#32
  let c4_i32_4864 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4425 : BitVec 32 := Scalar.muli c4_i32_4864 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_4856 : BitVec 32 := 3#32
  let v4413 : BitVec 32 := Scalar.addi v12 c3_i32_4856
  let c4_i32_4857 : BitVec 32 := 4#32
  let c0_i32_4858 : BitVec 32 := 0#32
  let v4414 : BitVec 1 := Scalar.cmpi .eq c4_i32_4857 c0_i32_4858
  let c1_i32_4859 : BitVec 32 := 1#32
  let v4415 : BitVec 32 := Scalar.select v4414 c1_i32_4859 c4_i32_4857
  let v4416 : BitVec 32 := Scalar.remsi v4413 v4415
  let c0_i32_4861 : BitVec 32 := 0#32
  let v4418 : BitVec 1 := Scalar.cmpi .slt v4416 c0_i32_4861
  let c0_i32_4862 : BitVec 32 := 0#32
  let v4419 : BitVec 1 := Scalar.cmpi .slt v4415 c0_i32_4862
  let v4420 : BitVec 1 := Scalar.xori v4418 v4419
  let c0_i32_4860 : BitVec 32 := 0#32
  let v4417 : BitVec 1 := Scalar.cmpi .ne v4416 c0_i32_4860
  let v4421 : BitVec 1 := Scalar.andi v4420 v4417
  let v4422 : BitVec 32 := Scalar.addi v4416 v4415
  let v4423 : BitVec 32 := Scalar.select v4421 v4422 v4416
  let v4426 : BitVec 32 := Scalar.addi v4425 v4423
  let c1_i32_4870 : BitVec 32 := 1#32
  let v4427 : BitVec 32 := Scalar.muli v4426 c1_i32_4870
  let v4428 : BitVec 32 := Scalar.addi c0_i32_4871 v4427
  v4428.toNat
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4878 : BitVec 32 := 512#32
  let v4438 : BitVec 32 := Scalar.muli v12 c512_i32_4878
  let v4439 : Index := Scalar.indexCast v4438
  let c384 : Index := 384#32
  ![v4439.toNat, 384]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_4949 : BitVec 32 := 512#32
  let v4494 : BitVec 32 := Scalar.muli v12 c512_i32_4949
  let c512_i32_4958 : BitVec 32 := 512#32
  ![v4494.toNat, 512]
def k0_dev91 (d0 : Dev nD) : Nat :=
  let c0_i32_4957 : BitVec 32 := 0#32
  let c4_i32_4950 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4495 : BitVec 32 := Scalar.muli c4_i32_4950 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4942 : BitVec 32 := 1#32
  let v4483 : BitVec 32 := Scalar.addi v12 c1_i32_4942
  let c4_i32_4943 : BitVec 32 := 4#32
  let c0_i32_4944 : BitVec 32 := 0#32
  let v4484 : BitVec 1 := Scalar.cmpi .eq c4_i32_4943 c0_i32_4944
  let c1_i32_4945 : BitVec 32 := 1#32
  let v4485 : BitVec 32 := Scalar.select v4484 c1_i32_4945 c4_i32_4943
  let v4486 : BitVec 32 := Scalar.remsi v4483 v4485
  let c0_i32_4947 : BitVec 32 := 0#32
  let v4488 : BitVec 1 := Scalar.cmpi .slt v4486 c0_i32_4947
  let c0_i32_4948 : BitVec 32 := 0#32
  let v4489 : BitVec 1 := Scalar.cmpi .slt v4485 c0_i32_4948
  let v4490 : BitVec 1 := Scalar.xori v4488 v4489
  let c0_i32_4946 : BitVec 32 := 0#32
  let v4487 : BitVec 1 := Scalar.cmpi .ne v4486 c0_i32_4946
  let v4491 : BitVec 1 := Scalar.andi v4490 v4487
  let v4492 : BitVec 32 := Scalar.addi v4486 v4485
  let v4493 : BitVec 32 := Scalar.select v4491 v4492 v4486
  let v4496 : BitVec 32 := Scalar.addi v4495 v4493
  let c1_i32_4956 : BitVec 32 := 1#32
  let v4497 : BitVec 32 := Scalar.muli v4496 c1_i32_4956
  let v4498 : BitVec 32 := Scalar.addi c0_i32_4957 v4497
  v4498.toNat
def k0_dev92 (d0 : Dev nD) : Nat :=
  let c0_i32_4976 : BitVec 32 := 0#32
  let c4_i32_4969 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4518 : BitVec 32 := Scalar.muli c4_i32_4969 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_4961 : BitVec 32 := 2#32
  let v4506 : BitVec 32 := Scalar.addi v12 c2_i32_4961
  let c4_i32_4962 : BitVec 32 := 4#32
  let c0_i32_4963 : BitVec 32 := 0#32
  let v4507 : BitVec 1 := Scalar.cmpi .eq c4_i32_4962 c0_i32_4963
  let c1_i32_4964 : BitVec 32 := 1#32
  let v4508 : BitVec 32 := Scalar.select v4507 c1_i32_4964 c4_i32_4962
  let v4509 : BitVec 32 := Scalar.remsi v4506 v4508
  let c0_i32_4966 : BitVec 32 := 0#32
  let v4511 : BitVec 1 := Scalar.cmpi .slt v4509 c0_i32_4966
  let c0_i32_4967 : BitVec 32 := 0#32
  let v4512 : BitVec 1 := Scalar.cmpi .slt v4508 c0_i32_4967
  let v4513 : BitVec 1 := Scalar.xori v4511 v4512
  let c0_i32_4965 : BitVec 32 := 0#32
  let v4510 : BitVec 1 := Scalar.cmpi .ne v4509 c0_i32_4965
  let v4514 : BitVec 1 := Scalar.andi v4513 v4510
  let v4515 : BitVec 32 := Scalar.addi v4509 v4508
  let v4516 : BitVec 32 := Scalar.select v4514 v4515 v4509
  let v4519 : BitVec 32 := Scalar.addi v4518 v4516
  let c1_i32_4975 : BitVec 32 := 1#32
  let v4520 : BitVec 32 := Scalar.muli v4519 c1_i32_4975
  let v4521 : BitVec 32 := Scalar.addi c0_i32_4976 v4520
  v4521.toNat
def k0_dev93 (d0 : Dev nD) : Nat :=
  let c0_i32_4995 : BitVec 32 := 0#32
  let c4_i32_4988 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4541 : BitVec 32 := Scalar.muli c4_i32_4988 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_4980 : BitVec 32 := 3#32
  let v4529 : BitVec 32 := Scalar.addi v12 c3_i32_4980
  let c4_i32_4981 : BitVec 32 := 4#32
  let c0_i32_4982 : BitVec 32 := 0#32
  let v4530 : BitVec 1 := Scalar.cmpi .eq c4_i32_4981 c0_i32_4982
  let c1_i32_4983 : BitVec 32 := 1#32
  let v4531 : BitVec 32 := Scalar.select v4530 c1_i32_4983 c4_i32_4981
  let v4532 : BitVec 32 := Scalar.remsi v4529 v4531
  let c0_i32_4985 : BitVec 32 := 0#32
  let v4534 : BitVec 1 := Scalar.cmpi .slt v4532 c0_i32_4985
  let c0_i32_4986 : BitVec 32 := 0#32
  let v4535 : BitVec 1 := Scalar.cmpi .slt v4531 c0_i32_4986
  let v4536 : BitVec 1 := Scalar.xori v4534 v4535
  let c0_i32_4984 : BitVec 32 := 0#32
  let v4533 : BitVec 1 := Scalar.cmpi .ne v4532 c0_i32_4984
  let v4537 : BitVec 1 := Scalar.andi v4536 v4533
  let v4538 : BitVec 32 := Scalar.addi v4532 v4531
  let v4539 : BitVec 32 := Scalar.select v4537 v4538 v4532
  let v4542 : BitVec 32 := Scalar.addi v4541 v4539
  let c1_i32_4994 : BitVec 32 := 1#32
  let v4543 : BitVec 32 := Scalar.muli v4542 c1_i32_4994
  let v4544 : BitVec 32 := Scalar.addi c0_i32_4995 v4543
  v4544.toNat
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5002 : BitVec 32 := 512#32
  let v4554 : BitVec 32 := Scalar.muli v12 c512_i32_5002
  let v4555 : Index := Scalar.indexCast v4554
  let c512_5003 : Index := 512#32
  ![v4555.toNat, 512]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5074 : BitVec 32 := 512#32
  let v4610 : BitVec 32 := Scalar.muli v12 c512_i32_5074
  let c640_i32_5083 : BitVec 32 := 640#32
  ![v4610.toNat, 640]
def k0_dev94 (d0 : Dev nD) : Nat :=
  let c0_i32_5082 : BitVec 32 := 0#32
  let c4_i32_5075 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4611 : BitVec 32 := Scalar.muli c4_i32_5075 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_5067 : BitVec 32 := 1#32
  let v4599 : BitVec 32 := Scalar.addi v12 c1_i32_5067
  let c4_i32_5068 : BitVec 32 := 4#32
  let c0_i32_5069 : BitVec 32 := 0#32
  let v4600 : BitVec 1 := Scalar.cmpi .eq c4_i32_5068 c0_i32_5069
  let c1_i32_5070 : BitVec 32 := 1#32
  let v4601 : BitVec 32 := Scalar.select v4600 c1_i32_5070 c4_i32_5068
  let v4602 : BitVec 32 := Scalar.remsi v4599 v4601
  let c0_i32_5072 : BitVec 32 := 0#32
  let v4604 : BitVec 1 := Scalar.cmpi .slt v4602 c0_i32_5072
  let c0_i32_5073 : BitVec 32 := 0#32
  let v4605 : BitVec 1 := Scalar.cmpi .slt v4601 c0_i32_5073
  let v4606 : BitVec 1 := Scalar.xori v4604 v4605
  let c0_i32_5071 : BitVec 32 := 0#32
  let v4603 : BitVec 1 := Scalar.cmpi .ne v4602 c0_i32_5071
  let v4607 : BitVec 1 := Scalar.andi v4606 v4603
  let v4608 : BitVec 32 := Scalar.addi v4602 v4601
  let v4609 : BitVec 32 := Scalar.select v4607 v4608 v4602
  let v4612 : BitVec 32 := Scalar.addi v4611 v4609
  let c1_i32_5081 : BitVec 32 := 1#32
  let v4613 : BitVec 32 := Scalar.muli v4612 c1_i32_5081
  let v4614 : BitVec 32 := Scalar.addi c0_i32_5082 v4613
  v4614.toNat
def k0_dev95 (d0 : Dev nD) : Nat :=
  let c0_i32_5101 : BitVec 32 := 0#32
  let c4_i32_5094 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4634 : BitVec 32 := Scalar.muli c4_i32_5094 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5086 : BitVec 32 := 2#32
  let v4622 : BitVec 32 := Scalar.addi v12 c2_i32_5086
  let c4_i32_5087 : BitVec 32 := 4#32
  let c0_i32_5088 : BitVec 32 := 0#32
  let v4623 : BitVec 1 := Scalar.cmpi .eq c4_i32_5087 c0_i32_5088
  let c1_i32_5089 : BitVec 32 := 1#32
  let v4624 : BitVec 32 := Scalar.select v4623 c1_i32_5089 c4_i32_5087
  let v4625 : BitVec 32 := Scalar.remsi v4622 v4624
  let c0_i32_5091 : BitVec 32 := 0#32
  let v4627 : BitVec 1 := Scalar.cmpi .slt v4625 c0_i32_5091
  let c0_i32_5092 : BitVec 32 := 0#32
  let v4628 : BitVec 1 := Scalar.cmpi .slt v4624 c0_i32_5092
  let v4629 : BitVec 1 := Scalar.xori v4627 v4628
  let c0_i32_5090 : BitVec 32 := 0#32
  let v4626 : BitVec 1 := Scalar.cmpi .ne v4625 c0_i32_5090
  let v4630 : BitVec 1 := Scalar.andi v4629 v4626
  let v4631 : BitVec 32 := Scalar.addi v4625 v4624
  let v4632 : BitVec 32 := Scalar.select v4630 v4631 v4625
  let v4635 : BitVec 32 := Scalar.addi v4634 v4632
  let c1_i32_5100 : BitVec 32 := 1#32
  let v4636 : BitVec 32 := Scalar.muli v4635 c1_i32_5100
  let v4637 : BitVec 32 := Scalar.addi c0_i32_5101 v4636
  v4637.toNat
def k0_dev96 (d0 : Dev nD) : Nat :=
  let c0_i32_5120 : BitVec 32 := 0#32
  let c4_i32_5113 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4657 : BitVec 32 := Scalar.muli c4_i32_5113 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_5105 : BitVec 32 := 3#32
  let v4645 : BitVec 32 := Scalar.addi v12 c3_i32_5105
  let c4_i32_5106 : BitVec 32 := 4#32
  let c0_i32_5107 : BitVec 32 := 0#32
  let v4646 : BitVec 1 := Scalar.cmpi .eq c4_i32_5106 c0_i32_5107
  let c1_i32_5108 : BitVec 32 := 1#32
  let v4647 : BitVec 32 := Scalar.select v4646 c1_i32_5108 c4_i32_5106
  let v4648 : BitVec 32 := Scalar.remsi v4645 v4647
  let c0_i32_5110 : BitVec 32 := 0#32
  let v4650 : BitVec 1 := Scalar.cmpi .slt v4648 c0_i32_5110
  let c0_i32_5111 : BitVec 32 := 0#32
  let v4651 : BitVec 1 := Scalar.cmpi .slt v4647 c0_i32_5111
  let v4652 : BitVec 1 := Scalar.xori v4650 v4651
  let c0_i32_5109 : BitVec 32 := 0#32
  let v4649 : BitVec 1 := Scalar.cmpi .ne v4648 c0_i32_5109
  let v4653 : BitVec 1 := Scalar.andi v4652 v4649
  let v4654 : BitVec 32 := Scalar.addi v4648 v4647
  let v4655 : BitVec 32 := Scalar.select v4653 v4654 v4648
  let v4658 : BitVec 32 := Scalar.addi v4657 v4655
  let c1_i32_5119 : BitVec 32 := 1#32
  let v4659 : BitVec 32 := Scalar.muli v4658 c1_i32_5119
  let v4660 : BitVec 32 := Scalar.addi c0_i32_5120 v4659
  v4660.toNat
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5127 : BitVec 32 := 512#32
  let v4670 : BitVec 32 := Scalar.muli v12 c512_i32_5127
  let v4671 : Index := Scalar.indexCast v4670
  let c640 : Index := 640#32
  ![v4671.toNat, 640]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5198 : BitVec 32 := 512#32
  let v4726 : BitVec 32 := Scalar.muli v12 c512_i32_5198
  let c768_i32_5207 : BitVec 32 := 768#32
  ![v4726.toNat, 768]
def k0_dev97 (d0 : Dev nD) : Nat :=
  let c0_i32_5206 : BitVec 32 := 0#32
  let c4_i32_5199 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4727 : BitVec 32 := Scalar.muli c4_i32_5199 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_5191 : BitVec 32 := 1#32
  let v4715 : BitVec 32 := Scalar.addi v12 c1_i32_5191
  let c4_i32_5192 : BitVec 32 := 4#32
  let c0_i32_5193 : BitVec 32 := 0#32
  let v4716 : BitVec 1 := Scalar.cmpi .eq c4_i32_5192 c0_i32_5193
  let c1_i32_5194 : BitVec 32 := 1#32
  let v4717 : BitVec 32 := Scalar.select v4716 c1_i32_5194 c4_i32_5192
  let v4718 : BitVec 32 := Scalar.remsi v4715 v4717
  let c0_i32_5196 : BitVec 32 := 0#32
  let v4720 : BitVec 1 := Scalar.cmpi .slt v4718 c0_i32_5196
  let c0_i32_5197 : BitVec 32 := 0#32
  let v4721 : BitVec 1 := Scalar.cmpi .slt v4717 c0_i32_5197
  let v4722 : BitVec 1 := Scalar.xori v4720 v4721
  let c0_i32_5195 : BitVec 32 := 0#32
  let v4719 : BitVec 1 := Scalar.cmpi .ne v4718 c0_i32_5195
  let v4723 : BitVec 1 := Scalar.andi v4722 v4719
  let v4724 : BitVec 32 := Scalar.addi v4718 v4717
  let v4725 : BitVec 32 := Scalar.select v4723 v4724 v4718
  let v4728 : BitVec 32 := Scalar.addi v4727 v4725
  let c1_i32_5205 : BitVec 32 := 1#32
  let v4729 : BitVec 32 := Scalar.muli v4728 c1_i32_5205
  let v4730 : BitVec 32 := Scalar.addi c0_i32_5206 v4729
  v4730.toNat
def k0_dev98 (d0 : Dev nD) : Nat :=
  let c0_i32_5225 : BitVec 32 := 0#32
  let c4_i32_5218 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4750 : BitVec 32 := Scalar.muli c4_i32_5218 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5210 : BitVec 32 := 2#32
  let v4738 : BitVec 32 := Scalar.addi v12 c2_i32_5210
  let c4_i32_5211 : BitVec 32 := 4#32
  let c0_i32_5212 : BitVec 32 := 0#32
  let v4739 : BitVec 1 := Scalar.cmpi .eq c4_i32_5211 c0_i32_5212
  let c1_i32_5213 : BitVec 32 := 1#32
  let v4740 : BitVec 32 := Scalar.select v4739 c1_i32_5213 c4_i32_5211
  let v4741 : BitVec 32 := Scalar.remsi v4738 v4740
  let c0_i32_5215 : BitVec 32 := 0#32
  let v4743 : BitVec 1 := Scalar.cmpi .slt v4741 c0_i32_5215
  let c0_i32_5216 : BitVec 32 := 0#32
  let v4744 : BitVec 1 := Scalar.cmpi .slt v4740 c0_i32_5216
  let v4745 : BitVec 1 := Scalar.xori v4743 v4744
  let c0_i32_5214 : BitVec 32 := 0#32
  let v4742 : BitVec 1 := Scalar.cmpi .ne v4741 c0_i32_5214
  let v4746 : BitVec 1 := Scalar.andi v4745 v4742
  let v4747 : BitVec 32 := Scalar.addi v4741 v4740
  let v4748 : BitVec 32 := Scalar.select v4746 v4747 v4741
  let v4751 : BitVec 32 := Scalar.addi v4750 v4748
  let c1_i32_5224 : BitVec 32 := 1#32
  let v4752 : BitVec 32 := Scalar.muli v4751 c1_i32_5224
  let v4753 : BitVec 32 := Scalar.addi c0_i32_5225 v4752
  v4753.toNat
def k0_dev99 (d0 : Dev nD) : Nat :=
  let c0_i32_5244 : BitVec 32 := 0#32
  let c4_i32_5237 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4773 : BitVec 32 := Scalar.muli c4_i32_5237 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_5229 : BitVec 32 := 3#32
  let v4761 : BitVec 32 := Scalar.addi v12 c3_i32_5229
  let c4_i32_5230 : BitVec 32 := 4#32
  let c0_i32_5231 : BitVec 32 := 0#32
  let v4762 : BitVec 1 := Scalar.cmpi .eq c4_i32_5230 c0_i32_5231
  let c1_i32_5232 : BitVec 32 := 1#32
  let v4763 : BitVec 32 := Scalar.select v4762 c1_i32_5232 c4_i32_5230
  let v4764 : BitVec 32 := Scalar.remsi v4761 v4763
  let c0_i32_5234 : BitVec 32 := 0#32
  let v4766 : BitVec 1 := Scalar.cmpi .slt v4764 c0_i32_5234
  let c0_i32_5235 : BitVec 32 := 0#32
  let v4767 : BitVec 1 := Scalar.cmpi .slt v4763 c0_i32_5235
  let v4768 : BitVec 1 := Scalar.xori v4766 v4767
  let c0_i32_5233 : BitVec 32 := 0#32
  let v4765 : BitVec 1 := Scalar.cmpi .ne v4764 c0_i32_5233
  let v4769 : BitVec 1 := Scalar.andi v4768 v4765
  let v4770 : BitVec 32 := Scalar.addi v4764 v4763
  let v4771 : BitVec 32 := Scalar.select v4769 v4770 v4764
  let v4774 : BitVec 32 := Scalar.addi v4773 v4771
  let c1_i32_5243 : BitVec 32 := 1#32
  let v4775 : BitVec 32 := Scalar.muli v4774 c1_i32_5243
  let v4776 : BitVec 32 := Scalar.addi c0_i32_5244 v4775
  v4776.toNat
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5251 : BitVec 32 := 512#32
  let v4786 : BitVec 32 := Scalar.muli v12 c512_i32_5251
  let v4787 : Index := Scalar.indexCast v4786
  let c768 : Index := 768#32
  ![v4787.toNat, 768]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5322 : BitVec 32 := 512#32
  let v4842 : BitVec 32 := Scalar.muli v12 c512_i32_5322
  let c896_i32_5331 : BitVec 32 := 896#32
  ![v4842.toNat, 896]
def k0_dev100 (d0 : Dev nD) : Nat :=
  let c0_i32_5330 : BitVec 32 := 0#32
  let c4_i32_5323 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4843 : BitVec 32 := Scalar.muli c4_i32_5323 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_5315 : BitVec 32 := 1#32
  let v4831 : BitVec 32 := Scalar.addi v12 c1_i32_5315
  let c4_i32_5316 : BitVec 32 := 4#32
  let c0_i32_5317 : BitVec 32 := 0#32
  let v4832 : BitVec 1 := Scalar.cmpi .eq c4_i32_5316 c0_i32_5317
  let c1_i32_5318 : BitVec 32 := 1#32
  let v4833 : BitVec 32 := Scalar.select v4832 c1_i32_5318 c4_i32_5316
  let v4834 : BitVec 32 := Scalar.remsi v4831 v4833
  let c0_i32_5320 : BitVec 32 := 0#32
  let v4836 : BitVec 1 := Scalar.cmpi .slt v4834 c0_i32_5320
  let c0_i32_5321 : BitVec 32 := 0#32
  let v4837 : BitVec 1 := Scalar.cmpi .slt v4833 c0_i32_5321
  let v4838 : BitVec 1 := Scalar.xori v4836 v4837
  let c0_i32_5319 : BitVec 32 := 0#32
  let v4835 : BitVec 1 := Scalar.cmpi .ne v4834 c0_i32_5319
  let v4839 : BitVec 1 := Scalar.andi v4838 v4835
  let v4840 : BitVec 32 := Scalar.addi v4834 v4833
  let v4841 : BitVec 32 := Scalar.select v4839 v4840 v4834
  let v4844 : BitVec 32 := Scalar.addi v4843 v4841
  let c1_i32_5329 : BitVec 32 := 1#32
  let v4845 : BitVec 32 := Scalar.muli v4844 c1_i32_5329
  let v4846 : BitVec 32 := Scalar.addi c0_i32_5330 v4845
  v4846.toNat
def k0_dev101 (d0 : Dev nD) : Nat :=
  let c0_i32_5349 : BitVec 32 := 0#32
  let c4_i32_5342 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4866 : BitVec 32 := Scalar.muli c4_i32_5342 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5334 : BitVec 32 := 2#32
  let v4854 : BitVec 32 := Scalar.addi v12 c2_i32_5334
  let c4_i32_5335 : BitVec 32 := 4#32
  let c0_i32_5336 : BitVec 32 := 0#32
  let v4855 : BitVec 1 := Scalar.cmpi .eq c4_i32_5335 c0_i32_5336
  let c1_i32_5337 : BitVec 32 := 1#32
  let v4856 : BitVec 32 := Scalar.select v4855 c1_i32_5337 c4_i32_5335
  let v4857 : BitVec 32 := Scalar.remsi v4854 v4856
  let c0_i32_5339 : BitVec 32 := 0#32
  let v4859 : BitVec 1 := Scalar.cmpi .slt v4857 c0_i32_5339
  let c0_i32_5340 : BitVec 32 := 0#32
  let v4860 : BitVec 1 := Scalar.cmpi .slt v4856 c0_i32_5340
  let v4861 : BitVec 1 := Scalar.xori v4859 v4860
  let c0_i32_5338 : BitVec 32 := 0#32
  let v4858 : BitVec 1 := Scalar.cmpi .ne v4857 c0_i32_5338
  let v4862 : BitVec 1 := Scalar.andi v4861 v4858
  let v4863 : BitVec 32 := Scalar.addi v4857 v4856
  let v4864 : BitVec 32 := Scalar.select v4862 v4863 v4857
  let v4867 : BitVec 32 := Scalar.addi v4866 v4864
  let c1_i32_5348 : BitVec 32 := 1#32
  let v4868 : BitVec 32 := Scalar.muli v4867 c1_i32_5348
  let v4869 : BitVec 32 := Scalar.addi c0_i32_5349 v4868
  v4869.toNat
def k0_dev102 (d0 : Dev nD) : Nat :=
  let c0_i32_5368 : BitVec 32 := 0#32
  let c4_i32_5361 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4889 : BitVec 32 := Scalar.muli c4_i32_5361 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_5353 : BitVec 32 := 3#32
  let v4877 : BitVec 32 := Scalar.addi v12 c3_i32_5353
  let c4_i32_5354 : BitVec 32 := 4#32
  let c0_i32_5355 : BitVec 32 := 0#32
  let v4878 : BitVec 1 := Scalar.cmpi .eq c4_i32_5354 c0_i32_5355
  let c1_i32_5356 : BitVec 32 := 1#32
  let v4879 : BitVec 32 := Scalar.select v4878 c1_i32_5356 c4_i32_5354
  let v4880 : BitVec 32 := Scalar.remsi v4877 v4879
  let c0_i32_5358 : BitVec 32 := 0#32
  let v4882 : BitVec 1 := Scalar.cmpi .slt v4880 c0_i32_5358
  let c0_i32_5359 : BitVec 32 := 0#32
  let v4883 : BitVec 1 := Scalar.cmpi .slt v4879 c0_i32_5359
  let v4884 : BitVec 1 := Scalar.xori v4882 v4883
  let c0_i32_5357 : BitVec 32 := 0#32
  let v4881 : BitVec 1 := Scalar.cmpi .ne v4880 c0_i32_5357
  let v4885 : BitVec 1 := Scalar.andi v4884 v4881
  let v4886 : BitVec 32 := Scalar.addi v4880 v4879
  let v4887 : BitVec 32 := Scalar.select v4885 v4886 v4880
  let v4890 : BitVec 32 := Scalar.addi v4889 v4887
  let c1_i32_5367 : BitVec 32 := 1#32
  let v4891 : BitVec 32 := Scalar.muli v4890 c1_i32_5367
  let v4892 : BitVec 32 := Scalar.addi c0_i32_5368 v4891
  v4892.toNat
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_5375 : BitVec 32 := 512#32
  let v4902 : BitVec 32 := Scalar.muli v12 c512_i32_5375
  let v4903 : Index := Scalar.indexCast v4902
  let c896 : Index := 896#32
  ![v4903.toNat, 896]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Body.lean ====
/-
# The kernel's body as a program in the head

The printed body runs eight column slices ("heads") through five stages, each stage unrolled over the heads.
Here each stage is written ONCE, at a head `h : Fin 8`, over the printed operations; `body_eq` says the printed
body is the sequence of these stages at the eight heads.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Heads

open Cert.KernelIdeal Cert.KernelIdeal.Gen
open Idealize.ShloMosaic Idealize.ShloMosaic.TcCoe
open Idealize.SL Idealize.SL.Sem

variable {F : FTy → Type} [FloatOps F]

/-! ## The buffers -/

abbrev mT : Memref sig .tc .hbm S2048x1024 .f32 := Memref.whole main_arg0
abbrev mO : Memref sig .tc .vmem S2048x1024 .bf16 := Memref.whole cc0_stg0_0
abbrev mV : Memref sig .tc .vmem S8x2048x128 .f32 := Memref.whole cc0_scratch0
abbrev mB : Memref sig .tc .vmem S8x4x512x128 .bf16 := Memref.whole cc0_scratch1
abbrev mP : Memref sig .tc .vmem S8x3x512x128 .bf16 := Memref.whole cc0_scratch2
abbrev mR : Memref sig .tc .vmem S8x4x128x128 .bf16 := Memref.whole cc0_scratch3
abbrev mZ : Memref sig .tc .vmem S8x3x128x128 .bf16 := Memref.whole cc0_scratch4
abbrev mY : Memref sig .tc .vmem S8x128x128 .bf16 := Memref.whole cc0_scratch5
abbrev mQ : Memref sig .tc .vmem S8x512x128 .bf16 := Memref.whole cc0_scratch6

/-! ## Offsets -/

/-- The slot of `tb` sent to the plane peer at distance `r + 1`. -/
def offB (h : Fin 8) (c : Dev nD) (r : Fin 3) : Fin 4 → Nat :=
  (![k0_off2, k0_off3, k0_off4, k0_off5, k0_off6, k0_off7, k0_off8, k0_off9] h) c (BitVec.ofNat 32 (1 + r.val))
/-- The slot of `r_stage` sent to the peer along z at distance `r + 1`. -/
def offR (h : Fin 8) (c : Dev nD) (r : Fin 3) : Fin 4 → Nat :=
  (![k0_off11, k0_off12, k0_off13, k0_off14, k0_off15, k0_off16, k0_off17, k0_off18] h) c (BitVec.ofNat 32 (1 + r.val))
/-- The rows of `q_send` a device owns. -/
def offQ (h : Fin 8) (c : Dev nD) : Fin 3 → Nat :=
  (![k0_off19, k0_off21, k0_off23, k0_off25, k0_off27, k0_off29, k0_off31, k0_off33] h) c
/-- The rows of the result a plane position owns, at the head's columns. -/
def offO (h : Fin 8) (c : Dev nD) : Fin 2 → Nat :=
  (![k0_off35, k0_off37, k0_off39, k0_off41, k0_off43, k0_off45, k0_off47, k0_off49] h) c

/-- The corner of the quarter that phase 0 sends: the head, and the peer's position in the plane. -/
theorem offB_eq : ∀ (h : Fin 8) (c : Dev nD) (r : Fin 3), offB h c r = ![h.val, (c.val % 4 + 1 + r.val) % 4, 0, 0] := by decide +kernel
/-- The corner of the slice that phase 1 sends: the head, and the peer's position along z. -/
theorem offR_eq : ∀ (h : Fin 8) (c : Dev nD) (r : Fin 3), offR h c r = ![h.val, (c.val / 4 + 1 + r.val) % 4, 0, 0] := by decide +kernel
/-- The corner of the device's own rows in the rows gathered along z. -/
theorem offQ_eq : ∀ (h : Fin 8) (c : Dev nD), offQ h c = ![h.val, c.val / 4 * 128, 0] := by decide +kernel
/-- The corner of the device's own quarter of a head in the result. -/
theorem offO_eq : ∀ (h : Fin 8) (c : Dev nD), offO h c = ![c.val % 4 * 512, h.val * 128] := by decide +kernel

/-- That quarter lies in its buffer. -/
theorem offB_inb (h : Fin 8) (c : Dev nD) (r : Fin 3) : ∀ a, offB h c r a + S1x1x512x128.size a ≤ S8x4x512x128.size a := by
  revert h c r; decide +kernel
/-- That slice lies in its buffer. -/
theorem offR_inb (h : Fin 8) (c : Dev nD) (r : Fin 3) : ∀ a, offR h c r a + S1x1x128x128.size a ≤ S8x4x128x128.size a := by
  revert h c r; decide +kernel
/-- Those rows lie in their buffer. -/
theorem offQ_inb (h : Fin 8) (c : Dev nD) : ∀ a, offQ h c a + S1x128x128.size a ≤ S8x512x128.size a := by
  revert h c; decide +kernel
/-- That quarter lies in the result. -/
theorem offO_inb (h : Fin 8) (c : Dev nD) : ∀ a, offO h c a + S512x128.size a ≤ S2048x1024.size a := by
  revert h c; decide +kernel
/-- A head's columns lie in the buffer of the loads. -/
theorem inbV (h : Fin 8) : ∀ a, (![h.val, 0, 0] : Fin 3 → Nat) a + S1x2048x128.size a ≤ S8x2048x128.size a := by
  revert h; decide
/-- A head's columns lie in the argument. -/
theorem inbT (h : Fin 8) : ∀ a, (![0, h.val * 128] : Fin 2 → Nat) a + S2048x128.size a ≤ S2048x1024.size a := by
  revert h; decide
/-- A quarter of a head lies in the buffer of the loads. -/
theorem inbVq (h : Fin 8) (i : Fin 4) : ∀ a, (![h.val, i.val * 512, 0] : Fin 3 → Nat) a + S1x512x128.size a ≤ S8x2048x128.size a := by
  revert h i; decide
/-- A quarter's slot lies in the buffer of the rounded quarters. -/
theorem inbBs (h : Fin 8) (i : Fin 4) : ∀ a, (![h.val, i.val, 0, 0] : Fin 4 → Nat) a + S1x1x512x128.size a ≤ S8x4x512x128.size a := by
  revert h i; decide
/-- A slot lies in the buffer received within the plane. -/
theorem inbPs (h : Fin 8) (i : Fin 3) : ∀ a, (![h.val, i.val, 0, 0] : Fin 4 → Nat) a + S1x1x512x128.size a ≤ S8x3x512x128.size a := by
  revert h i; decide
/-- A slice's slot lies in the buffer of the plane sums. -/
theorem inbRs (h : Fin 8) (i : Fin 4) : ∀ a, (![h.val, i.val, 0, 0] : Fin 4 → Nat) a + S1x1x128x128.size a ≤ S8x4x128x128.size a := by
  revert h i; decide
/-- A slot lies in the buffer received along z. -/
theorem inbZs (h : Fin 8) (i : Fin 3) : ∀ a, (![h.val, i.val, 0, 0] : Fin 4 → Nat) a + S1x1x128x128.size a ≤ S8x3x128x128.size a := by
  revert h i; decide
/-- A head's rows lie in the buffer of the finished rows. -/
theorem inbYs (h : Fin 8) : ∀ a, (![h.val, 0, 0] : Fin 3 → Nat) a + S1x128x128.size a ≤ S8x128x128.size a := by
  revert h; decide
/-- A head's rows lie in the buffer gathered along z. -/
theorem inbQs (h : Fin 8) : ∀ a, (![h.val, 0, 0] : Fin 3 → Nat) a + S1x512x128.size a ≤ S8x512x128.size a := by
  revert h; decide
/-- A head has a semaphore of the loads. -/
theorem inbS1 (h : Fin 8) : ∀ a, (![h.val] : Fin 1 → Nat) a + S1.size a ≤ S8.size a := by
  revert h; decide
/-- A head and a distance have a semaphore of each phase's arrays. -/
theorem inbS3 (h : Fin 8) (r : Fin 3) : ∀ a, (![h.val, r.val] : Fin 2 → Nat) a + S1x1.size a ≤ S8x3.size a := by
  revert h r; decide

/-! ## The boxes -/

abbrev rV (h : Fin 8) := Rect.unit (s := S8x2048x128) ![h.val, 0, 0] S1x2048x128.size (inbV h)
abbrev rT (h : Fin 8) := Rect.unit (s := S2048x1024) ![0, h.val * 128] S2048x128.size (inbT h)
abbrev rVq (h : Fin 8) (i : Fin 4) := Rect.unit (s := S8x2048x128) ![h.val, i.val * 512, 0] S1x512x128.size (inbVq h i)
abbrev rBs (h : Fin 8) (i : Fin 4) := Rect.unit (s := S8x4x512x128) ![h.val, i.val, 0, 0] S1x1x512x128.size (inbBs h i)
abbrev rPs (h : Fin 8) (i : Fin 3) := Rect.unit (s := S8x3x512x128) ![h.val, i.val, 0, 0] S1x1x512x128.size (inbPs h i)
abbrev rRs (h : Fin 8) (i : Fin 4) := Rect.unit (s := S8x4x128x128) ![h.val, i.val, 0, 0] S1x1x128x128.size (inbRs h i)
abbrev rZs (h : Fin 8) (i : Fin 3) := Rect.unit (s := S8x3x128x128) ![h.val, i.val, 0, 0] S1x1x128x128.size (inbZs h i)
abbrev rYs (h : Fin 8) := Rect.unit (s := S8x128x128) ![h.val, 0, 0] S1x128x128.size (inbYs h)
abbrev rQs (h : Fin 8) := Rect.unit (s := S8x512x128) ![h.val, 0, 0] S1x512x128.size (inbQs h)
abbrev rB (h : Fin 8) (c : Dev nD) (r : Fin 3) := Rect.unit (s := S8x4x512x128) (offB h c r) S1x1x512x128.size (offB_inb h c r)
abbrev rR (h : Fin 8) (c : Dev nD) (r : Fin 3) := Rect.unit (s := S8x4x128x128) (offR h c r) S1x1x128x128.size (offR_inb h c r)
abbrev rQ (h : Fin 8) (c : Dev nD) := Rect.unit (s := S8x512x128) (offQ h c) S1x128x128.size (offQ_inb h c)
abbrev rO (h : Fin 8) (c : Dev nD) := Rect.unit (s := S2048x1024) (offO h c) S512x128.size (offO_inb h c)

/-- The quarter sent is of whole words. -/
theorem wB (h : Fin 8) (c : Dev nD) (r : Fin 3) : (rB h c r).WholeWords (EltTy.packing .bf16) := by revert h c r; decide +kernel
/-- The slice sent is of whole words. -/
theorem wR (h : Fin 8) (c : Dev nD) (r : Fin 3) : (rR h c r).WholeWords (EltTy.packing .bf16) := by revert h c r; decide +kernel
/-- The device's own rows are of whole words. -/
theorem wQ (h : Fin 8) (c : Dev nD) : (rQ h c).WholeWords (EltTy.packing .bf16) := by revert h c; decide +kernel
/-- The device's own quarter is of whole words. -/
theorem wO (h : Fin 8) (c : Dev nD) : (rO h c).WholeWords (EltTy.packing .bf16) := by revert h c; decide +kernel
/-- A slot received within the plane is of whole words. -/
theorem wPs (h : Fin 8) (i : Fin 3) : (rPs h i).WholeWords (EltTy.packing .bf16) := by revert h i; decide +kernel
/-- A slot received along z is of whole words. -/
theorem wZs (h : Fin 8) (i : Fin 3) : (rZs h i).WholeWords (EltTy.packing .bf16) := by revert h i; decide +kernel
/-- A head's finished rows are of whole words. -/
theorem wYs (h : Fin 8) : (rYs h).WholeWords (EltTy.packing .bf16) := by revert h; decide +kernel
/-- A head's gathered rows are of whole words. -/
theorem wQs (h : Fin 8) : (rQs h).WholeWords (EltTy.packing .bf16) := by revert h; decide +kernel
/-- A rounded quarter's slot is of packed rows. -/
theorem kBs (h : Fin 8) (i : Fin 4) : (rBs h i).PackedRows (EltTy.packing .bf16) := by revert h i; decide +kernel
/-- A slice's slot is of packed rows. -/
theorem kRs (h : Fin 8) (i : Fin 4) : (rRs h i).PackedRows (EltTy.packing .bf16) := by revert h i; decide +kernel
/-- A head's finished rows are packed rows. -/
theorem kYs (h : Fin 8) : (rYs h).PackedRows (EltTy.packing .bf16) := by revert h; decide +kernel
/-- The device's own rows are packed rows. -/
theorem kQ (h : Fin 8) (c : Dev nD) : (rQ h c).PackedRows (EltTy.packing .bf16) := by revert h c; decide +kernel
/-- The device's own quarter is of packed rows. -/
theorem kO (h : Fin 8) (c : Dev nD) : (rO h c).PackedRows (EltTy.packing .bf16) := by revert h c; decide +kernel

/-! ## The slices the copies name -/

abbrev sT (h : Fin 8) : Memref sig .tc .hbm S2048x128 .f32 := mT.slice (rT h) (fun _ => rfl)
abbrev sV (h : Fin 8) : Memref sig .tc .vmem S2048x128 .f32 := (mV.slice (rV h) (fun _ => rfl)).squeeze S2048x128 squeezes_S1x2048x128_S2048x128
abbrev sB (h : Fin 8) (c : Dev nD) (r : Fin 3) : Memref sig .tc .vmem S512x128 .bf16 := (mB.slice (rB h c r) (fun _ => rfl)).squeeze S512x128 squeezes_S1x1x512x128_S512x128
abbrev sP (h : Fin 8) (r : Fin 3) : Memref sig .tc .vmem S512x128 .bf16 := (mP.slice (rPs h r) (fun _ => rfl)).squeeze S512x128 squeezes_S1x1x512x128_S512x128
abbrev sR (h : Fin 8) (c : Dev nD) (r : Fin 3) : Memref sig .tc .vmem S128x128 .bf16 := (mR.slice (rR h c r) (fun _ => rfl)).squeeze S128x128 squeezes_S1x1x128x128_S128x128
abbrev sZ (h : Fin 8) (r : Fin 3) : Memref sig .tc .vmem S128x128 .bf16 := (mZ.slice (rZs h r) (fun _ => rfl)).squeeze S128x128 squeezes_S1x1x128x128_S128x128
abbrev sY (h : Fin 8) : Memref sig .tc .vmem S128x128 .bf16 := (mY.slice (rYs h) (fun _ => rfl)).squeeze S128x128 squeezes_S1x128x128_S128x128
abbrev sQ (h : Fin 8) (c : Dev nD) : Memref sig .tc .vmem S128x128 .bf16 := (mQ.slice (rQ h c) (fun _ => rfl)).squeeze S128x128 squeezes_S1x128x128_S128x128
abbrev sQs (h : Fin 8) : Memref sig .tc .vmem S512x128 .bf16 := (mQ.slice (rQs h) (fun _ => rfl)).squeeze S512x128 squeezes_S1x512x128_S512x128
abbrev sO (h : Fin 8) (c : Dev nD) : Memref sig .tc .vmem S512x128 .bf16 := mO.slice (rO h c) (fun _ => rfl)

/-- The load semaphore of a head. -/
def semL (h : Fin 8) : DmaSem sig := ((cc0_scratch7.slice (Rect.unit (s := S8) ![h.val] S1.size (inbS1 h))).squeeze S_ squeezes_S1_S_).sem
/-- The semaphore at a head and distance of an 8 × 3 array. -/
def sem3 (A : DmaSems sig S8x3) (h : Fin 8) (r : Fin 3) : DmaSem sig :=
  ((A.slice (Rect.unit (s := S8x3) ![h.val, r.val] S1x1.size (inbS3 h r))).squeeze S_ squeezes_S1x1_S_).sem
/-- The send semaphores of the four communication phases. -/
def semS (k : Fin 4) : Fin 8 → Fin 3 → DmaSem sig := sem3 (![cc0_scratch8, cc0_scratch10, cc0_scratch12, cc0_scratch14] k)
/-- The receive semaphores of the four communication phases. -/
def semR (k : Fin 4) : Fin 8 → Fin 3 → DmaSem sig := sem3 (![cc0_scratch9, cc0_scratch11, cc0_scratch13, cc0_scratch15] k)

/-! ## The peers -/

/-- The number of the device a copy of phase `k` at distance `r + 1` goes to. -/
def devN (k : Fin 4) (r : Fin 3) (c : Dev nD) : Nat :=
  (![![k0_dev7, k0_dev8, k0_dev9], ![k0_dev31, k0_dev32, k0_dev33], ![k0_dev55, k0_dev56, k0_dev57], ![k0_dev79, k0_dev80, k0_dev81]] k r) c
/-- The device a copy goes to is one of the mesh. -/
theorem devN_lt (k : Fin 4) (r : Fin 3) (c : Dev nD) : devN k r c < nD := by revert k r c; decide +kernel
/-- That device. -/
def peerN (k : Fin 4) (r : Fin 3) (c : Dev nD) : Dev nD := ⟨devN k r c, devN_lt k r c⟩

/-! ## The stages -/

/-- The plane position as the body computes it. -/
def pW (d0 : Dev nD) : BitVec 32 :=
  let v2 := Scalar.remsi (Scalar.divsi (Dev.word d0) 1#32) 16#32
  let v4 := Scalar.select (Scalar.cmpi .eq 4#32 0#32) 1#32 4#32
  let v5 := Scalar.remsi v2 v4
  Scalar.select (Scalar.andi (Scalar.xori (Scalar.cmpi .slt v5 0#32) (Scalar.cmpi .slt v4 0#32)) (Scalar.cmpi .ne v5 0#32)) (Scalar.addi v5 v4) v5
/-- The position along z as the body computes it. -/
def zW (d0 : Dev nD) : BitVec 32 :=
  let v2 := Scalar.remsi (Scalar.divsi (Dev.word d0) 1#32) 16#32
  let v13 := Scalar.divsi v2 4#32
  let v18 : BitVec 32 := Scalar.subi (Scalar.extui (Scalar.cmpi .sgt v2 0#32)) (Scalar.extui (Scalar.cmpi .slt v2 0#32))
  let v23 : BitVec 32 := Scalar.subi (Scalar.extui (Scalar.cmpi .sgt 4#32 0#32)) (Scalar.extui (Scalar.cmpi .slt 4#32 0#32))
  Scalar.select (Scalar.andi (Scalar.cmpi .ne v18 v23) (Scalar.cmpi .ne (Scalar.remsi v2 4#32) 0#32)) (Scalar.subi v13 1#32) v13

abbrev Pg (α : Type) := Prog (TpuEff nD τ sig (Elt F) Λ₀ .tc) α

/-- The barrier semaphore. -/
abbrev semB : Sem sig := (SemArray.scalar (sig.barrier 0 rfl) : Sems sig S_).sem

/-- The barrier: a signal to each of the six peers, and the wait for theirs. -/
def barrierP (d0 : Dev nD) : Pg (F := F) PUnit := do
  semSignalWord (⟨k0_dev1 d0, k0_dev1_lt d0⟩ : Dev nD) semB 1#32
  semSignalWord (⟨k0_dev2 d0, k0_dev2_lt d0⟩ : Dev nD) semB 1#32
  semSignalWord (⟨k0_dev3 d0, k0_dev3_lt d0⟩ : Dev nD) semB 1#32
  semSignalWord (⟨k0_dev4 d0, k0_dev4_lt d0⟩ : Dev nD) semB 1#32
  semSignalWord (⟨k0_dev5 d0, k0_dev5_lt d0⟩ : Dev nD) semB 1#32
  semSignalWord (⟨k0_dev6 d0, k0_dev6_lt d0⟩ : Dev nD) semB 1#32
  semWaitWord semB 6#32

/-- The start of a head's load. -/
def loadP (h : Fin 8) : Pg (F := F) PUnit :=
  Prog.lift (.enqueueDma (sT h) (.here (sV h)) (.dma (semL h)) (View.wordExact_bits rfl) ((View.wordExact_bits rfl).reshape _ _) ⟨Or.inl rfl, trivial⟩)

/-- A quarter of the loaded head, rounded to bf16 and stored in its slot of `tb`. -/
def quarterP (h : Fin 8) (i : Fin 4) : Pg (F := F) (FVec F S512x128 .bf16) := do
  let v : Vec F S1x512x128 .f32 ← Prog.lift (.load mV (rVq h i).toLoadRect (View.loadsAt_vmem h_S1x512x128))
  let _ : Vec F S1x1x512x128 .bf16 ← Prog.lift (.load mB (rBs h i).toLoadRect (View.loadsAt_vmem h_S1x1x512x128))
  Prog.lift (.store mB (rBs h i) (k0_pay2 v) Finset.univ (View.stores_vmem h_S1x1x512x128 ((Memref.isWhole_whole _).storeExact_slice rfl _ (kBs h i)) (fun _ => rfl)) (.inl rfl))
  pure (k0_pay1 v)

/-- The send of a quarter to the plane peer at distance `r + 1`. -/
def send0 (d0 : Dev nD) (h : Fin 8) (r : Fin 3) : Pg (F := F) PUnit :=
  Prog.lift (.enqueueDma (sB h d0 r) (.remote (Dev.tc (peerN 0 r d0)) (sP h r) (.dma (semS 0 h r))) (.dma (semR 0 h r)) (((Memref.isWhole_whole _).wordExact_slice rfl _ (wB h d0 r)).reshape _ _) (((Memref.isWhole_whole _).wordExact_slice rfl _ (wPs h r)).reshape _ _) ⟨⟨rfl, Or.inl rfl⟩, trivial⟩)
def waitS0 (d0 : Dev nD) (h : Fin 8) (r : Fin 3) : Pg (F := F) PUnit :=
  Prog.lift (.waitDma2 (semS 0 h r) (sP h r) (sB h d0 r) (((Memref.isWhole_whole _).wordExact_slice rfl _ (wPs h r)).reshape _ _) (((Memref.isWhole_whole _).wordExact_slice rfl _ (wB h d0 r)).reshape _ _))
def waitR0 (d0 : Dev nD) (h : Fin 8) (r : Fin 3) : Pg (F := F) PUnit :=
  Prog.lift (.waitDma2 (semR 0 h r) (sB h d0 r) (sP h r) (((Memref.isWhole_whole _).wordExact_slice rfl _ (wB h d0 r)).reshape _ _) (((Memref.isWhole_whole _).wordExact_slice rfl _ (wPs h r)).reshape _ _))

/-- The send of a partial sum to the peer along z at distance `r + 1`. -/
def send1 (d0 : Dev nD) (h : Fin 8) (r : Fin 3) : Pg (F := F) PUnit :=
  Prog.lift (.enqueueDma (sR h d0 r) (.remote (Dev.tc (peerN 1 r d0)) (sZ h r) (.dma (semS 1 h r))) (.dma (semR 1 h r)) (((Memref.isWhole_whole _).wordExact_slice rfl _ (wR h d0 r)).reshape _ _) (((Memref.isWhole_whole _).wordExact_slice rfl _ (wZs h r)).reshape _ _) ⟨⟨rfl, Or.inl rfl⟩, trivial⟩)
def waitS1 (d0 : Dev nD) (h : Fin 8) (r : Fin 3) : Pg (F := F) PUnit :=
  Prog.lift (.waitDma2 (semS 1 h r) (sZ h r) (sR h d0 r) (((Memref.isWhole_whole _).wordExact_slice rfl _ (wZs h r)).reshape _ _) (((Memref.isWhole_whole _).wordExact_slice rfl _ (wR h d0 r)).reshape _ _))
def waitR1 (d0 : Dev nD) (h : Fin 8) (r : Fin 3) : Pg (F := F) PUnit :=
  Prog.lift (.waitDma2 (semR 1 h r) (sR h d0 r) (sZ h r) (((Memref.isWhole_whole _).wordExact_slice rfl _ (wR h d0 r)).reshape _ _) (((Memref.isWhole_whole _).wordExact_slice rfl _ (wZs h r)).reshape _ _))

/-- The send of the finished rows to the peer along z at distance `r + 1`. -/
def send2 (d0 : Dev nD) (h : Fin 8) (r : Fin 3) : Pg (F := F) PUnit :=
  Prog.lift (.enqueueDma (sY h) (.remote (Dev.tc (peerN 2 r d0)) (sQ h d0) (.dma (semS 2 h r))) (.dma (semR 2 h r)) (((Memref.isWhole_whole _).wordExact_slice rfl _ (wYs h)).reshape _ _) (((Memref.isWhole_whole _).wordExact_slice rfl _ (wQ h d0)).reshape _ _) ⟨⟨rfl, Or.inl rfl⟩, trivial⟩)
def waitS2 (d0 : Dev nD) (h : Fin 8) (r : Fin 3) : Pg (F := F) PUnit :=
  Prog.lift (.waitDma2 (semS 2 h r) (sQ h d0) (sY h) (((Memref.isWhole_whole _).wordExact_slice rfl _ (wQ h d0)).reshape _ _) (((Memref.isWhole_whole _).wordExact_slice rfl _ (wYs h)).reshape _ _))
def waitR2 (d0 : Dev nD) (h : Fin 8) (r : Fin 3) : Pg (F := F) PUnit :=
  Prog.lift (.waitDma2 (semR 2 h r) (sY h) (sQ h d0) (((Memref.isWhole_whole _).wordExact_slice rfl _ (wYs h)).reshape _ _) (((Memref.isWhole_whole _).wordExact_slice rfl _ (wQ h d0)).reshape _ _))

/-- The send of the gathered rows to the plane peer at distance `r + 1`. -/
def send3 (d0 : Dev nD) (h : Fin 8) (r : Fin 3) : Pg (F := F) PUnit :=
  Prog.lift (.enqueueDma (sQs h) (.remote (Dev.tc (peerN 3 r d0)) (sO h d0) (.dma (semS 3 h r))) (.dma (semR 3 h r)) (((Memref.isWhole_whole _).wordExact_slice rfl _ (wQs h)).reshape _ _) ((Memref.isWhole_whole _).wordExact_slice rfl _ (wO h d0)) ⟨⟨rfl, Or.inl rfl⟩, trivial⟩)
def waitS3 (d0 : Dev nD) (h : Fin 8) (r : Fin 3) : Pg (F := F) PUnit :=
  Prog.lift (.waitDma2 (semS 3 h r) (sO h d0) (sQs h) ((Memref.isWhole_whole _).wordExact_slice rfl _ (wO h d0)) (((Memref.isWhole_whole _).wordExact_slice rfl _ (wQs h)).reshape _ _))
def waitR3 (d0 : Dev nD) (h : Fin 8) (r : Fin 3) : Pg (F := F) PUnit :=
  Prog.lift (.waitDma2 (semR 3 h r) (sQs h) (sO h d0) (((Memref.isWhole_whole _).wordExact_slice rfl _ (wQs h)).reshape _ _) ((Memref.isWhole_whole _).wordExact_slice rfl _ (wO h d0)))

/-- Four quarters. -/
structure Quarters (F : FTy → Type) where
  q0 : FVec F S512x128 .bf16
  q1 : FVec F S512x128 .bf16
  q2 : FVec F S512x128 .bf16
  q3 : FVec F S512x128 .bf16

/-- First stage of a head: the load's end, the four quarters, the three sends within the plane. -/
def stage1 (d0 : Dev nD) (h : Fin 8) : Pg (F := F) (Quarters F) := do
  Prog.lift (.waitDma2 (semL h) (sT h) (sV h) (View.wordExact_bits rfl) ((View.wordExact_bits rfl).reshape _ _))
  let q0 ← quarterP h 0
  let q1 ← quarterP h 1
  let q2 ← quarterP h 2
  let q3 ← quarterP h 3
  send0 d0 h 0
  send0 d0 h 1
  send0 d0 h 2
  pure ⟨q0, q1, q2, q3⟩

/-- Rows `128 i` to `128 i + 127` of the plane sum. -/
def sliceR (r : FVec F S512x128 .bf16) : Fin 4 → FVec F S128x128 .bf16 :=
  ![extractStridedSlice S128x128 ![0, 0] r slices_S512x128_o0_0_S128x128, extractStridedSlice S128x128 ![128, 0] r slices_S512x128_o128_0_S128x128,
    extractStridedSlice S128x128 ![256, 0] r slices_S512x128_o256_0_S128x128, extractStridedSlice S128x128 ![384, 0] r slices_S512x128_o384_0_S128x128]

/-- A slice of the plane sum stored in its slot of `r_stage`. -/
def rstoreP (h : Fin 8) (r : FVec F S512x128 .bf16) (i : Fin 4) : Pg (F := F) PUnit := do
  let _ : Vec F S1x1x128x128 .bf16 ← Prog.lift (.load mR (rRs h i).toLoadRect (View.loadsAt_vmem h_S1x1x128x128))
  Prog.lift (.store mR (rRs h i) (shapeCast S1x1x128x128 (sliceR r i) shapeCasts_S128x128_S1x1x128x128) Finset.univ (View.stores_vmem h_S1x1x128x128 ((Memref.isWhole_whole _).storeExact_slice rfl _ (kRs h i)) (fun _ => rfl)) (.inl rfl))

/-- Second stage of a head: the plane sum, stored by slices and sent along z. -/
def stage2 (d0 : Dev nD) (h : Fin 8) (q : Quarters F) : Pg (F := F) (FVec F S128x128 .bf16) := do
  waitS0 d0 h 0
  waitR0 d0 h 0
  waitS0 d0 h 1
  waitR0 d0 h 1
  waitS0 d0 h 2
  waitR0 d0 h 2
  let w0 : Vec F S1x1x512x128 .bf16 ← Prog.lift (.load mP (rPs h 0).toLoadRect (View.loadsAt_vmem h_S1x1x512x128))
  let w1 : Vec F S1x1x512x128 .bf16 ← Prog.lift (.load mP (rPs h 1).toLoadRect (View.loadsAt_vmem h_S1x1x512x128))
  let w2 : Vec F S1x1x512x128 .bf16 ← Prog.lift (.load mP (rPs h 2).toLoadRect (View.loadsAt_vmem h_S1x1x512x128))
  rstoreP h (k0_pay66 (pW d0) q.q0 q.q1 q.q2 q.q3 w0 w1 w2) 0
  rstoreP h (k0_pay66 (pW d0) q.q0 q.q1 q.q2 q.q3 w0 w1 w2) 1
  rstoreP h (k0_pay66 (pW d0) q.q0 q.q1 q.q2 q.q3 w0 w1 w2) 2
  rstoreP h (k0_pay66 (pW d0) q.q0 q.q1 q.q2 q.q3 w0 w1 w2) 3
  send1 d0 h 0
  send1 d0 h 1
  send1 d0 h 2
  pure (k0_pay72 (zW d0) (k0_pay66 (pW d0) q.q0 q.q1 q.q2 q.q3 w0 w1 w2))

/-- Third stage of a head: the full sum, the pointwise function, the result's rows sent along z. -/
def stage3 (d0 : Dev nD) (h : Fin 8) (own : FVec F S128x128 .bf16) : Pg (F := F) PUnit := do
  waitS1 d0 h 0
  waitR1 d0 h 0
  waitS1 d0 h 1
  waitR1 d0 h 1
  waitS1 d0 h 2
  waitR1 d0 h 2
  let w0 : Vec F S1x1x128x128 .bf16 ← Prog.lift (.load mZ (rZs h 0).toLoadRect (View.loadsAt_vmem h_S1x1x128x128))
  let w1 : Vec F S1x1x128x128 .bf16 ← Prog.lift (.load mZ (rZs h 1).toLoadRect (View.loadsAt_vmem h_S1x1x128x128))
  let w2 : Vec F S1x1x128x128 .bf16 ← Prog.lift (.load mZ (rZs h 2).toLoadRect (View.loadsAt_vmem h_S1x1x128x128))
  let _ : Vec F S1x128x128 .bf16 ← Prog.lift (.load mY (rYs h).toLoadRect (View.loadsAt_vmem h_S1x128x128))
  Prog.lift (.store mY (rYs h) (shapeCast S1x128x128 (k0_pay125 own w0 w1 w2) shapeCasts_S128x128_S1x128x128) Finset.univ (View.stores_vmem h_S1x128x128 ((Memref.isWhole_whole _).storeExact_slice rfl _ (kYs h)) (fun _ => rfl)) (.inl rfl))
  send2 d0 h 0
  send2 d0 h 1
  send2 d0 h 2
  let _ : Vec F S1x128x128 .bf16 ← Prog.lift (.load mQ (rQ h d0).toLoadRect (View.loadsAt_vmem h_S1x128x128))
  Prog.lift (.store mQ (rQ h d0) (shapeCast S1x128x128 (k0_pay125 own w0 w1 w2) shapeCasts_S128x128_S1x128x128) Finset.univ (View.stores_vmem h_S1x128x128 ((Memref.isWhole_whole _).storeExact_slice rfl _ (kQ h d0)) (fun _ => rfl)) (.inl rfl))

/-- Fourth stage of a head: the rows gathered along z sent within the plane, and stored in the device's own result. -/
def stage4 (d0 : Dev nD) (h : Fin 8) : Pg (F := F) PUnit := do
  waitS2 d0 h 0
  waitR2 d0 h 0
  waitS2 d0 h 1
  waitR2 d0 h 1
  waitS2 d0 h 2
  waitR2 d0 h 2
  send3 d0 h 0
  send3 d0 h 1
  send3 d0 h 2
  let v : Vec F S1x512x128 .bf16 ← Prog.lift (.load mQ (rQs h).toLoadRect (View.loadsAt_vmem h_S1x512x128))
  let _ : Vec F S512x128 .bf16 ← Prog.lift (.load mO (rO h d0).toLoadRect (View.loadsAt_vmem h_S512x128))
  Prog.lift (.store mO (rO h d0) (k0_pay155 v) Finset.univ (View.stores_vmem h_S512x128 ((Memref.isWhole_whole _).storeExact_slice rfl _ (kO h d0)) (fun _ => rfl)) (.inl rfl))

/-- Last stage of a head: the end of the sends within the plane. -/
def stage5 (d0 : Dev nD) (h : Fin 8) : Pg (F := F) PUnit := do
  waitS3 d0 h 0
  waitR3 d0 h 0
  waitS3 d0 h 1
  waitR3 d0 h 1
  waitS3 d0 h 2
  waitR3 d0 h 2

/-- The whole body at device `d0`: the barrier, the loads, and the stages at the eight heads. -/
def bodyP (d0 : Dev nD) : Pg (F := F) PUnit := do
  barrierP d0
  loadP 0
  loadP 1
  loadP 2
  loadP 3
  loadP 4
  loadP 5
  loadP 6
  loadP 7
  let q0 ← stage1 d0 0
  let q1 ← stage1 d0 1
  let q2 ← stage1 d0 2
  let q3 ← stage1 d0 3
  let q4 ← stage1 d0 4
  let q5 ← stage1 d0 5
  let q6 ← stage1 d0 6
  let q7 ← stage1 d0 7
  let o0 ← stage2 d0 0 q0
  let o1 ← stage2 d0 1 q1
  let o2 ← stage2 d0 2 q2
  let o3 ← stage2 d0 3 q3
  let o4 ← stage2 d0 4 q4
  let o5 ← stage2 d0 5 q5
  let o6 ← stage2 d0 6 q6
  let o7 ← stage2 d0 7 q7
  stage3 d0 0 o0
  stage3 d0 1 o1
  stage3 d0 2 o2
  stage3 d0 3 o3
  stage3 d0 4 o4
  stage3 d0 5 o5
  stage3 d0 6 o6
  stage3 d0 7 o7
  stage4 d0 0
  stage4 d0 1
  stage4 d0 2
  stage4 d0 3
  stage4 d0 4
  stage4 d0 5
  stage4 d0 6
  stage4 d0 7
  stage5 d0 0
  stage5 d0 1
  stage5 d0 2
  stage5 d0 3
  stage5 d0 4
  stage5 d0 5
  stage5 d0 6
  stage5 d0 7

end Cert.KernelIdeal.Heads

end
-- ==== Proof.BodyEq.lean ====
module

public import proofs.«01_k».proof.Proof.Body

@[expose] public section

noncomputable section

namespace Cert.KernelIdeal.Heads

open Cert.KernelIdeal Cert.KernelIdeal.Gen
open Idealize.ShloMosaic Idealize.ShloMosaic.TcCoe
open Idealize.SL Idealize.SL.Sem

variable {F : FTy → Type} [FloatOps F]

set_option maxRecDepth 100000 in
/-- The printed body is the device's number followed by the stages over the heads. -/
theorem body_eq (t : Fin cfg0.N) : bodyAt0 (F := F) t = Prog.op .deviceId (fun d0 => bodyP d0) := by
  sl_kernel_rfl

end Cert.KernelIdeal.Heads

end
-- ==== Proof.Cells.lean ====
/-
# The cells of the protocol and the peers of a device

Device `c = 4 z + p` stands at plane position `p` and position `z` along z. A cell is a semaphore of a device: its
barrier, the load of a head, and for each communication phase `k`, head `h` and distance `r` a send and a receive
cell.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Heads

open Cert.KernelIdeal Cert.KernelIdeal.Gen
open Idealize.ShloMosaic Idealize.ShloMosaic.TcCoe
open Idealize.SL Idealize.SL.Sem

/-! ## Peers -/

/-- The plane peer at distance `r + 1`. -/
def pp (r : Fin 3) (c : Dev nD) : Dev nD :=
  ⟨c.val / 4 * 4 + (c.val % 4 + 1 + r.val) % 4, by have := c.isLt; show _ < 16; have : c.val < 16 := c.isLt; omega⟩
/-- The peer along z at distance `r + 1`. -/
def zz (r : Fin 3) (c : Dev nD) : Dev nD :=
  ⟨(c.val / 4 + 1 + r.val) % 4 * 4 + c.val % 4, by show _ < 16; omega⟩
/-- The distance of the way back. -/
def rv (r : Fin 3) : Fin 3 := ⟨2 - r.val, by omega⟩

/-- The way back of the way back is the way. -/
theorem rv_rv (r : Fin 3) : rv (rv r) = r := by revert r; decide
/-- Back and then forth within the plane is the device itself. -/
theorem pp_rv (r : Fin 3) (c : Dev nD) : pp r (pp (rv r) c) = c := by revert r c; decide +kernel
/-- Forth and then back within the plane is the device itself. -/
theorem rv_pp (r : Fin 3) (c : Dev nD) : pp (rv r) (pp r c) = c := by revert r c; decide +kernel
/-- Back and then forth along z is the device itself. -/
theorem zz_rv (r : Fin 3) (c : Dev nD) : zz r (zz (rv r) c) = c := by revert r c; decide +kernel
/-- Forth and then back along z is the device itself. -/
theorem rv_zz (r : Fin 3) (c : Dev nD) : zz (rv r) (zz r c) = c := by revert r c; decide +kernel

/-- The peer of phase `k` at distance `r + 1`: in the plane for phases 0 and 3, along z for phases 1 and 2. -/
def peer (k : Fin 4) (r : Fin 3) : Dev nD → Dev nD := if k = 0 ∨ k = 3 then pp r else zz r

/-- Back and then forth in any phase is the device itself. -/
theorem peer_rv (k : Fin 4) (r : Fin 3) (c : Dev nD) : peer k r (peer k (rv r) c) = c := by
  unfold peer; split
  · exact pp_rv r c
  · exact zz_rv r c
/-- Forth and then back in any phase is the device itself. -/
theorem rv_peer (k : Fin 4) (r : Fin 3) (c : Dev nD) : peer k (rv r) (peer k r c) = c := by
  unfold peer; split
  · exact rv_pp r c
  · exact rv_zz r c
/-- The device that the body computes for a copy is the peer. -/
theorem peerN_eq (k : Fin 4) (r : Fin 3) (c : Dev nD) : peerN k r c = peer k r c := by revert k r c; decide +kernel

/-- Going to the peer is a permutation of the devices. -/
def peerE (k : Fin 4) (r : Fin 3) : Dev nD ≃ Dev nD := ⟨peer k r, peer k (rv r), rv_peer k r, peer_rv k r⟩

/-- The device signalled at the barrier: along the plane or along z, at distance `r + 1`. -/
def tgt (x : Bool × Fin 3) : Dev nD → Dev nD := if x.1 then zz x.2 else pp x.2
/-- and the way back. -/
def bck (x : Bool × Fin 3) : Dev nD → Dev nD := tgt (x.1, rv x.2)
/-- Back and then to the device signalled is the device itself. -/
theorem tgt_bck (x : Bool × Fin 3) (c : Dev nD) : tgt x (bck x c) = c := by
  unfold bck tgt; split
  · exact zz_rv _ _
  · exact pp_rv _ _
/-- To the device signalled and then back is the device itself. -/
theorem bck_tgt (x : Bool × Fin 3) (c : Dev nD) : bck x (tgt x c) = c := by
  unfold bck tgt; split
  · exact rv_zz _ _
  · exact rv_pp _ _
def tgtE (x : Bool × Fin 3) : Dev nD ≃ Dev nD := ⟨tgt x, bck x, bck_tgt x, tgt_bck x⟩

/-- The device of the body's six barrier signals, in program order. -/
theorem sig_dev (c : Dev nD) :
    (⟨k0_dev1 c, k0_dev1_lt c⟩ : Dev nD) = tgt (false, 0) c ∧ (⟨k0_dev2 c, k0_dev2_lt c⟩ : Dev nD) = tgt (false, 1) c
      ∧ (⟨k0_dev3 c, k0_dev3_lt c⟩ : Dev nD) = tgt (false, 2) c ∧ (⟨k0_dev4 c, k0_dev4_lt c⟩ : Dev nD) = tgt (true, 0) c
      ∧ (⟨k0_dev5 c, k0_dev5_lt c⟩ : Dev nD) = tgt (true, 1) c ∧ (⟨k0_dev6 c, k0_dev6_lt c⟩ : Dev nD) = tgt (true, 2) c := by
  revert c; decide +kernel

/-! ## Cells -/

/-- The kernel's own semaphores: a load's, or (send `false`, receive `true`) of a phase, head and distance. -/
abbrev OI := Fin 8 ⊕ (Bool × Fin 4 × Fin 8 × Fin 3)
/-- With the barrier, the indices of a device's cells. -/
abbrev CI := Unit ⊕ OI

def osem : OI → SemLoc sig
  | .inl h => .dma (semL h)
  | .inr (false, k, h, r) => .dma (semS k h r)
  | .inr (true, k, h, r) => .dma (semR k h r)
def csem : CI → SemLoc sig
  | .inl _ => .reg semB
  | .inr i => osem i
def kcell (x : Dev nD × CI) : GSem nD τ sig := ((x.1 : Thread nD τ), csem x.2)

abbrev iL (h : Fin 8) : CI := .inr (.inl h)
abbrev iS (k : Fin 4) (h : Fin 8) (r : Fin 3) : CI := .inr (.inr (false, k, h, r))
abbrev iR (k : Fin 4) (h : Fin 8) (r : Fin 3) : CI := .inr (.inr (true, k, h, r))
abbrev cB (c : Dev nD) : GSem nD τ sig := kcell (c, .inl ())
abbrev cL (c : Dev nD) (h : Fin 8) : GSem nD τ sig := kcell (c, iL h)
abbrev cS (c : Dev nD) (k : Fin 4) (h : Fin 8) (r : Fin 3) : GSem nD τ sig := kcell (c, iS k h r)
abbrev cR (c : Dev nD) (k : Fin 4) (h : Fin 8) (r : Fin 3) : GSem nD τ sig := kcell (c, iR k h r)

/-- The number of a load's semaphore. -/
theorem semL_val (h : Fin 8) : (semL h).val = 1 + h.val := by revert h; decide +kernel
/-- The number of a send semaphore. -/
theorem semS_val (k : Fin 4) (h : Fin 8) (r : Fin 3) : (semS k h r).val = 9 + 48 * k.val + 3 * h.val + r.val := by
  revert k h r; decide +kernel
/-- The number of a receive semaphore. -/
theorem semR_val (k : Fin 4) (h : Fin 8) (r : Fin 3) : (semR k h r).val = 33 + 48 * k.val + 3 * h.val + r.val := by
  revert k h r; decide +kernel

/-- The number of an own semaphore. -/
def onum : OI → Nat
  | .inl h => 1 + h.val
  | .inr (false, k, h, r) => 9 + 48 * k.val + 3 * h.val + r.val
  | .inr (true, k, h, r) => 33 + 48 * k.val + 3 * h.val + r.val

/-- Each of the kernel's own semaphores is a copy semaphore of the number given by `onum`. -/
theorem osem_num : ∀ i : OI, ∃ s : DmaSem sig, osem i = .dma s ∧ s.val = onum i
  | .inl h => ⟨_, rfl, semL_val h⟩
  | .inr (false, k, h, r) => ⟨_, rfl, semS_val k h r⟩
  | .inr (true, k, h, r) => ⟨_, rfl, semR_val k h r⟩

/-- Different indices have different numbers. -/
theorem onum_inj : Function.Injective onum := by
  rintro (h | ⟨_ | _, k, h, r⟩) (h' | ⟨_ | _, k', h', r'⟩) e <;> simp only [onum] at e <;>
    first
    | (have : h = h' := Fin.ext (by omega)
       subst this; rfl)
    | (exfalso; omega)
    | (have hk : k = k' := Fin.ext (by omega)
       have hh : h = h' := Fin.ext (by omega)
       have hr : r = r' := Fin.ext (by omega)
       subst hk hh hr; rfl)

/-- so they name different semaphores, -/
theorem osem_inj : Function.Injective osem := fun i j e => by
  obtain ⟨s, hs, hn⟩ := osem_num i
  obtain ⟨s', hs', hn'⟩ := osem_num j
  rw [hs, hs'] at e
  have : s = s' := by injection e
  exact onum_inj (by rw [← hn, ← hn', this])

/-- the barrier's among them, -/
theorem csem_inj : Function.Injective csem := by
  rintro (⟨⟩ | i) (⟨⟩ | j) e
  · rfl
  · obtain ⟨s, hs, -⟩ := osem_num j
    have : (SemLoc.reg semB : SemLoc sig) = .dma s := e.trans hs
    cases this
  · obtain ⟨s, hs, -⟩ := osem_num i
    have : (SemLoc.dma s : SemLoc sig) = .reg semB := hs.symm.trans e
    cases this
  · exact congrArg Sum.inr (osem_inj e)

/-- and different cells over all devices. -/
theorem kcell_inj : Function.Injective kcell := by
  rintro ⟨c, i⟩ ⟨d, j⟩ e
  have h1 : c = d := congrArg (fun g : GSem nD τ sig => g.1.1) e
  have h2 : i = j := csem_inj (congrArg Prod.snd e)
  rw [h1, h2]

/-- The cell a semaphore is, if it is one. -/
def dec (g : GSem nD τ sig) : Option (Dev nD × CI) := Function.partialInv kcell g
/-- A cell's index is read off the cell. -/
theorem dec_kcell (x : Dev nD × CI) : dec (kcell x) = some x := Function.partialInv_left kcell_inj x

/-- The own semaphores are scoped, distinct, and none is a staging semaphore. -/
theorem ownSemFacts : Pipeline.OwnSemFacts cfg0.spec osem where
  isScoped i := by
    revert i; decide +kernel
  inj := osem_inj
  disj i w s e := by
    revert i w s; decide +kernel

/-- The units a copy of phase `k` credits. -/
def NN (k : Fin 4) : ℕ := (![(sP 0 0).view.dmaCredit, (sZ 0 0).view.dmaCredit, (sY 0).view.dmaCredit, (sO 0 0).view.dmaCredit] : Fin 4 → ℕ) k
/-- The units a load credits. -/
def NL : ℕ := (sV 0).view.dmaCredit
/-- The units of an own cell. -/
def NO : OI → ℕ
  | .inl _ => NL
  | .inr (_, k, _, _) => NN k
/-- A copy of a phase credits something. -/
theorem NN_pos (k : Fin 4) : 0 < NN k := by
  fin_cases k <;> exact View.dmaCredit_pos _ (by decide)
/-- So does a load. -/
theorem NL_pos : 0 < NL := View.dmaCredit_pos _ (by decide)
/-- So each own cell awaits something. -/
theorem NO_pos : ∀ i, 0 < NO i
  | .inl _ => NL_pos
  | .inr (_, k, _, _) => NN_pos k

end Cert.KernelIdeal.Heads

end
-- ==== Proof.Contents.lean ====
/-
# The contents of the buffers

Each buffer of a device holds, once written, the one contents stated here: the loaded columns `fV`, the rounded
quarters `fB`, the quarters received within the plane `fP`, the plane sums `fR`, the partial sums received along z
`fZ`, the finished rows `fY`, the rows gathered along z `fQ`, the result `fO`. The read equations say what each
slice named by a copy, a load or a store reads of them.
-/
module

public import proofs.«01_k».proof.Proof.Cells
public import Idealize.ShloMosaic.Lib.ValueIdxCore
public import Idealize.ShloMosaic.Lib.ValueIdxCoords
public import Idealize.ShloMosaic.Lib.ValueLayout

@[expose] public section

noncomputable section

namespace Cert.KernelIdeal.Heads

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Reading a slice -/

section Reads
variable {sp : Space} {e : EltTy} {Val : EltTy → Type}

/-- Where a slot of a rank-4 buffer lies in it. -/
theorem emb4 {n0 n1 a b : Nat} {off : Fin 4 → Nat} (h : Fin n0) (j : Fin n1) (hoff : off = ![h.val, j.val, 0, 0])
    (inb : ∀ x, off x + (⟨4, ![1, 1, a, b]⟩ : Shape).size x ≤ (⟨4, ![n0, n1, a, b]⟩ : Shape).size x) (x : (⟨4, ![1, 1, a, b]⟩ : Shape).Idx) :
    (Rect.unit (s := ⟨4, ![n0, n1, a, b]⟩) off (⟨4, ![1, 1, a, b]⟩ : Shape).size inb).emb x = ix4 h j (x 2) (x 3) := by
  subst hoff
  funext d
  match d with
  | ⟨0, _⟩ =>
    have : (x 0).val < 1 := (x 0).isLt
    exact Fin.ext (show h.val + 1 * (x 0).val = h.val by omega)
  | ⟨1, _⟩ =>
    have : (x 1).val < 1 := (x 1).isLt
    exact Fin.ext (show j.val + 1 * (x 1).val = j.val by omega)
  | ⟨2, _⟩ => exact Fin.ext (show 0 + 1 * (x 2).val = (x 2).val by omega)
  | ⟨3, _⟩ => exact Fin.ext (show 0 + 1 * (x 3).val = (x 3).val by omega)

/-- Where a band of rows of a rank-3 buffer lies in it. -/
theorem emb3 {n0 n a b : Nat} {off : Fin 3 → Nat} (h : Fin n0) (o : Nat) (hoff : off = ![h.val, o, 0])
    (inb : ∀ x, off x + (⟨3, ![1, a, b]⟩ : Shape).size x ≤ (⟨3, ![n0, n, b]⟩ : Shape).size x) (x : (⟨3, ![1, a, b]⟩ : Shape).Idx)
    (i : Fin n) (hi : i.val = o + (x 1).val) :
    (Rect.unit (s := ⟨3, ![n0, n, b]⟩) off (⟨3, ![1, a, b]⟩ : Shape).size inb).emb x = ix3 h i (x 2) := by
  subst hoff
  funext d
  match d with
  | ⟨0, _⟩ =>
    have : (x 0).val < 1 := (x 0).isLt
    exact Fin.ext (show h.val + 1 * (x 0).val = h.val by omega)
  | ⟨1, _⟩ => exact Fin.ext (show o + 1 * (x 1).val = i.val by omega)
  | ⟨2, _⟩ => exact Fin.ext (show 0 + 1 * (x 2).val = (x 2).val by omega)

/-- Where a rectangle of a matrix lies in it. -/
theorem emb2 {n0 n1 a b : Nat} {off : Fin 2 → Nat} (o0 o1 : Nat) (hoff : off = ![o0, o1])
    (inb : ∀ x, off x + (⟨2, ![a, b]⟩ : Shape).size x ≤ (⟨2, ![n0, n1]⟩ : Shape).size x) (x : (⟨2, ![a, b]⟩ : Shape).Idx)
    (i : Fin n0) (j : Fin n1) (hi : i.val = o0 + (x 0).val) (hj : j.val = o1 + (x 1).val) :
    (Rect.unit (s := ⟨2, ![n0, n1]⟩) off (⟨2, ![a, b]⟩ : Shape).size inb).emb x = ix2 i j := by
  subst hoff
  funext d
  match d with
  | ⟨0, _⟩ => exact Fin.ext (show o0 + 1 * (x 0).val = i.val by omega)
  | ⟨1, _⟩ => exact Fin.ext (show o1 + 1 * (x 1).val = j.val by omega)

/-- A squeezed slot of a rank-4 buffer. -/
theorem rd4 {n0 n1 a b : Nat} (M : Memref sig .tc sp ⟨4, ![n0, n1, a, b]⟩ e) (f : M.view.ty.Contents Val) {off : Fin 4 → Nat} (h : Fin n0)
    (j : Fin n1) (hoff : off = ![h.val, j.val, 0, 0])
    (inb : ∀ x, off x + (⟨4, ![1, 1, a, b]⟩ : Shape).size x ≤ (⟨4, ![n0, n1, a, b]⟩ : Shape).size x) (hr) (hq) (x : (⟨2, ![a, b]⟩ : Shape).Idx) :
    ((M.slice (Rect.unit off (⟨4, ![1, 1, a, b]⟩ : Shape).size inb) hr).squeeze ⟨2, ![a, b]⟩ hq).view.read Val f x
      = M.view.read Val f (ix4 h j (x 0) (x 1)) := by
  obtain ⟨u, v, rfl⟩ : ∃ u v, x = ix2 u v := ⟨_, _, eq_ix2 x⟩
  show M.view.read Val f ((Rect.unit (s := ⟨4, ![n0, n1, a, b]⟩) off (⟨4, ![1, 1, a, b]⟩ : Shape).size inb).emb (Shape.reshapeEquiv _ (ix2 u v))) = _
  rw [reshapeEquiv_ix2_11ab, emb4 h j hoff]
  rfl

/-- A squeezed band of rows of a rank-3 buffer. -/
theorem rd3 {n0 n a b : Nat} (M : Memref sig .tc sp ⟨3, ![n0, n, b]⟩ e) (f : M.view.ty.Contents Val) {off : Fin 3 → Nat} (h : Fin n0)
    (o : Nat) (hoff : off = ![h.val, o, 0])
    (inb : ∀ x, off x + (⟨3, ![1, a, b]⟩ : Shape).size x ≤ (⟨3, ![n0, n, b]⟩ : Shape).size x) (hr) (hq) (x : (⟨2, ![a, b]⟩ : Shape).Idx)
    (i : Fin n) (hi : i.val = o + (x 0).val) :
    ((M.slice (Rect.unit off (⟨3, ![1, a, b]⟩ : Shape).size inb) hr).squeeze ⟨2, ![a, b]⟩ hq).view.read Val f x
      = M.view.read Val f (ix3 h i (x 1)) := by
  obtain ⟨u, v, rfl⟩ : ∃ u v, x = ix2 u v := ⟨_, _, eq_ix2 x⟩
  show M.view.read Val f ((Rect.unit (s := ⟨3, ![n0, n, b]⟩) off (⟨3, ![1, a, b]⟩ : Shape).size inb).emb (Shape.reshapeEquiv _ (ix2 u v))) = _
  rw [reshapeEquiv_ix2_1ab, emb3 h o hoff inb _ i hi]
  rfl

end Reads

variable (m : (ℓ : Loc nD τ sig) → Buf (Elt F) ℓ)

/-! ## The contents -/

/-- The argument on device `c`. -/
def aT (c : Dev nD) : Vec F S2048x1024 .f32 := m ((c : Thread nD τ).loc main_arg0)

/-- The loaded columns, head by head. -/
def fV (c : Dev nD) : Vec F S8x2048x128 .f32 := fun i =>
  aT m c (ix2 (i 1) ⟨(i 0).val * 128 + (i 2).val, by
    have h0 : (i 0).val < 8 := (i 0).isLt
    have h2 : (i 2).val < 128 := (i 2).isLt
    omega⟩)
/-- A quarter of a head as loaded. -/
def vq (c : Dev nD) (h : Fin 8) (i : Fin 4) : Vec F S1x512x128 .f32 := mV.view.readAt (Elt F) (rVq h i).toLoadRect (fV m c)
/-- A quarter rounded to bf16. -/
def qq (c : Dev nD) (h : Fin 8) (i : Fin 4) : FVec F S512x128 .bf16 := k0_pay1 (vq m c h i)
def fB (c : Dev nD) : Vec F S8x4x512x128 .bf16 := fun i => k0_pay2 (vq m c (i 0) (i 1)) (ix4 0 0 (i 2) (i 3))

/-- The plane position and the position along z. -/
def pPos (c : Dev nD) : Fin 4 := ⟨c.val % 4, by omega⟩
def zPos (c : Dev nD) : Fin 4 := ⟨c.val / 4, by have h : c.val < 16 := c.isLt; omega⟩
/-- The device at a plane position and a position along z. -/
def devOf (z p : Fin 4) : Dev nD := ⟨4 * z.val + p.val, by show _ < 16; omega⟩

def fP (c : Dev nD) : Vec F S8x3x512x128 .bf16 := fun i => fB m (pp (rv (i 1)) c) (ix4 (i 0) (pPos c) (i 2) (i 3))
/-- The four quarters of a head. -/
def Qs (c : Dev nD) (h : Fin 8) : Quarters F := ⟨qq m c h 0, qq m c h 1, qq m c h 2, qq m c h 3⟩
/-- A quarter received within the plane, as loaded. -/
def wP (c : Dev nD) (h : Fin 8) (r : Fin 3) : Vec F S1x1x512x128 .bf16 := mP.view.readAt (Elt F) (rPs h r).toLoadRect (fP m c)
/-- The plane sum of a head. -/
def sumP (c : Dev nD) (h : Fin 8) : FVec F S512x128 .bf16 :=
  k0_pay66 (pW c) (qq m c h 0) (qq m c h 1) (qq m c h 2) (qq m c h 3) (wP m c h 0) (wP m c h 1) (wP m c h 2)
def fR (c : Dev nD) : Vec F S8x4x128x128 .bf16 := fun i => sliceR (sumP m c (i 0)) (i 1) (ix2 (i 2) (i 3))
def fZ (c : Dev nD) : Vec F S8x3x128x128 .bf16 := fun i => fR m (zz (rv (i 1)) c) (ix4 (i 0) (zPos c) (i 2) (i 3))
/-- The device's own rows of the plane sum. -/
def own (c : Dev nD) (h : Fin 8) : FVec F S128x128 .bf16 := k0_pay72 (zW c) (sumP m c h)
/-- A partial sum received along z, as loaded. -/
def wZ (c : Dev nD) (h : Fin 8) (r : Fin 3) : Vec F S1x1x128x128 .bf16 := mZ.view.readAt (Elt F) (rZs h r).toLoadRect (fZ m c)
/-- The finished rows of a head. -/
def yy (c : Dev nD) (h : Fin 8) : FVec F S128x128 .bf16 := k0_pay125 (own m c h) (wZ m c h 0) (wZ m c h 1) (wZ m c h 2)
def fY (c : Dev nD) : Vec F S8x128x128 .bf16 := fun i => yy m c (i 0) (ix2 (i 1) (i 2))
def fQ (c : Dev nD) : Vec F S8x512x128 .bf16 := fun i =>
  have h1 : (i 1).val < 512 := (i 1).isLt
  yy m (devOf ⟨(i 1).val / 128, by omega⟩ (pPos c)) (i 0) (ix2 ⟨(i 1).val % 128, by omega⟩ (i 2))
def fO (c : Dev nD) : Vec F S2048x1024 .bf16 := fun i =>
  have h0 : (i 0).val < 2048 := (i 0).isLt
  have h1 : (i 1).val < 1024 := (i 1).isLt
  fQ m (devOf (zPos c) ⟨(i 0).val / 512, by omega⟩) (ix3 ⟨(i 1).val / 128, by omega⟩ ⟨(i 0).val % 512, by omega⟩ ⟨(i 1).val % 128, by omega⟩)

/-! ## What the slices read of them -/

/-- A load copies a head's columns of the argument. -/
theorem E_V (c : Dev nD) (h : Fin 8) : (sV h).view.read (Elt F) (fV m c) = (sT h).view.read (Elt F) (aT m c) := by
  funext x
  have hx0 : (x 0).val < 2048 := (x 0).isLt
  have hx1 : (x 1).val < 128 := (x 1).isLt
  have e1 := rd3 (Val := Elt F) mV (fV m c) h 0 rfl (inbV h) (fun _ => rfl) squeezes_S1x2048x128_S2048x128 x ⟨(x 0).val, hx0⟩ (by simp)
  refine e1.trans ?_
  show aT m c _ = aT m c ((rT h).emb x)
  rw [emb2 0 (h.val * 128) rfl (inbT h) x ⟨(x 0).val, hx0⟩ ⟨h.val * 128 + (x 1).val, by omega⟩ (by simp) rfl]
  rfl

/-- A rounded quarter, as the body stores it. -/
theorem E_B (c : Dev nD) (h : Fin 8) (i : Fin 4) : (mB.access (rBs h i)).read (Elt F) (fB m c) = k0_pay2 (vq m c h i) := by
  funext x
  show fB m c ((rBs h i).emb x) = _
  rw [emb4 h i rfl]
  show k0_pay2 (vq m c h i) (ix4 0 0 (x 2) (x 3)) = _
  refine congrArg _ ?_
  obtain ⟨a, b, u, v, rfl⟩ : ∃ a b u v, x = ix4 a b u v := ⟨_, _, _, _, eq_ix4 x⟩
  rw [Subsingleton.elim a 0, Subsingleton.elim b 0]
  rfl

/-- A copy within the plane leaves on the peer what the sender's quarter holds. -/
theorem E_P (c : Dev nD) (h : Fin 8) (r : Fin 3) :
    (sP h r).view.read (Elt F) (fP m (pp r c)) = (sB h c r).view.read (Elt F) (fB m c) := by
  funext x
  refine (rd4 (Val := Elt F) mP (fP m (pp r c)) h r rfl (inbPs h r) (fun _ => rfl) squeezes_S1x1x512x128_S512x128 x).trans ?_
  refine Eq.trans ?_ (rd4 (Val := Elt F) mB (fB m c) h ⟨(c.val % 4 + 1 + r.val) % 4, by omega⟩ (offB_eq h c r) (offB_inb h c r) (fun _ => rfl)
    squeezes_S1x1x512x128_S512x128 x).symm
  show fB m (pp (rv r) (pp r c)) (ix4 h (pPos (pp r c)) (x 0) (x 1)) = fB m c (ix4 h _ (x 0) (x 1))
  rw [rv_pp, show pPos (pp r c) = ⟨(c.val % 4 + 1 + r.val) % 4, by omega⟩ from
    Fin.ext (show (c.val / 4 * 4 + (c.val % 4 + 1 + r.val) % 4) % 4 = _ by simp only; omega)]
  rfl

/-- A slot read of a matrix cast to rank 4. -/
theorem cast4 {a b : Nat} {α : Type} (v : (⟨2, ![a, b]⟩ : Shape).Idx → α) (hc) (x : (⟨4, ![1, 1, a, b]⟩ : Shape).Idx) :
    shapeCast (⟨4, ![1, 1, a, b]⟩ : Shape) v hc x = v (ix2 (x 2) (x 3)) := by
  obtain ⟨p, q, i, j, rfl⟩ : ∃ p q i j, x = ix4 p q i j := ⟨_, _, _, _, eq_ix4 x⟩
  refine shapeCast_apply v hc _ _ ?_
  rw [Shape.rowMajor_val_four, Shape.rowMajor_val_two]
  have hp : p.val = 0 := by omega
  have hq : q.val = 0 := by omega
  show i.val * b + j.val = ((p.val * 1 + q.val) * a + i.val) * b + j.val
  rw [hp, hq]; simp

/-- A band read of a matrix cast to rank 3. -/
theorem cast3 {a b : Nat} {α : Type} (v : (⟨2, ![a, b]⟩ : Shape).Idx → α) (hc) (x : (⟨3, ![1, a, b]⟩ : Shape).Idx) :
    shapeCast (⟨3, ![1, a, b]⟩ : Shape) v hc x = v (ix2 (x 1) (x 2)) := by
  obtain ⟨p, i, j, rfl⟩ : ∃ p i j, x = ix3 p i j := ⟨_, _, _, eq_ix3 x⟩
  refine shapeCast_apply v hc _ _ ?_
  rw [Shape.rowMajor_val_three, Shape.rowMajor_val_two]
  have hp : p.val = 0 := by omega
  show i.val * b + j.val = (p.val * a + i.val) * b + j.val
  rw [hp]; simp

/-- A rank-3 band cast to a matrix. -/
theorem cast2 {a b : Nat} {α : Type} (v : (⟨3, ![1, a, b]⟩ : Shape).Idx → α) (hc) (x : (⟨2, ![a, b]⟩ : Shape).Idx) :
    shapeCast (⟨2, ![a, b]⟩ : Shape) v hc x = v (ix3 0 (x 0) (x 1)) := by
  obtain ⟨i, j, rfl⟩ : ∃ i j, x = ix2 i j := ⟨_, _, eq_ix2 x⟩
  refine shapeCast_apply v hc _ _ ?_
  rw [Shape.rowMajor_val_three, Shape.rowMajor_val_two]
  show (0 * a + i.val) * b + j.val = i.val * b + j.val
  simp

/-- A slice of the plane sum, as the body stores it. -/
theorem E_R (c : Dev nD) (h : Fin 8) (i : Fin 4) :
    (mR.access (rRs h i)).read (Elt F) (fR m c) = shapeCast S1x1x128x128 (sliceR (sumP m c h) i) shapeCasts_S128x128_S1x1x128x128 := by
  funext x
  show fR m c ((rRs h i).emb x) = _
  rw [emb4 h i rfl]
  exact (cast4 _ _ x).symm

/-- A copy along z leaves on the peer what the sender's slice holds. -/
theorem E_Z (c : Dev nD) (h : Fin 8) (r : Fin 3) :
    (sZ h r).view.read (Elt F) (fZ m (zz r c)) = (sR h c r).view.read (Elt F) (fR m c) := by
  funext x
  refine (rd4 (Val := Elt F) mZ (fZ m (zz r c)) h r rfl (inbZs h r) (fun _ => rfl) squeezes_S1x1x128x128_S128x128 x).trans ?_
  refine Eq.trans ?_ (rd4 (Val := Elt F) mR (fR m c) h ⟨(c.val / 4 + 1 + r.val) % 4, by omega⟩ (offR_eq h c r) (offR_inb h c r) (fun _ => rfl)
    squeezes_S1x1x128x128_S128x128 x).symm
  show fR m (zz (rv r) (zz r c)) (ix4 h (zPos (zz r c)) (x 0) (x 1)) = fR m c (ix4 h _ (x 0) (x 1))
  rw [rv_zz, show zPos (zz r c) = ⟨(c.val / 4 + 1 + r.val) % 4, by omega⟩ from
    Fin.ext (show ((c.val / 4 + 1 + r.val) % 4 * 4 + c.val % 4) / 4 = _ by simp only; omega)]
  rfl

/-- The finished rows, as the body stores them. -/
theorem E_Y (c : Dev nD) (h : Fin 8) :
    (mY.access (rYs h)).read (Elt F) (fY m c) = shapeCast S1x128x128 (yy m c h) shapeCasts_S128x128_S1x128x128 := by
  funext x
  have hx : (x 1).val < 128 := (x 1).isLt
  show fY m c ((rYs h).emb x) = _
  rw [emb3 h 0 rfl (inbYs h) x ⟨(x 1).val, hx⟩ (by simp)]
  exact (cast3 _ _ x).symm

/-- A device is the one at its two positions. -/
theorem devOf_self (c : Dev nD) : devOf (zPos c) (pPos c) = c :=
  Fin.ext (show 4 * (c.val / 4) + c.val % 4 = c.val by omega)
/-- A peer along z has the device's position in the plane. -/
theorem devOf_zz (r : Fin 3) (c : Dev nD) : devOf (zPos c) (pPos (zz r c)) = c :=
  Fin.ext (show 4 * (c.val / 4) + ((c.val / 4 + 1 + r.val) % 4 * 4 + c.val % 4) % 4 = c.val by omega)
/-- A peer in the plane has the device's position along z. -/
theorem devOf_pp (r : Fin 3) (c : Dev nD) : devOf (zPos (pp r c)) (pPos c) = c :=
  Fin.ext (show 4 * ((c.val / 4 * 4 + (c.val % 4 + 1 + r.val) % 4) / 4) + c.val % 4 = c.val by omega)

/-- The gathered rows at a position along z. -/
theorem fQ_at (c d : Dev nD) (h : Fin 8) (z : Fin 4) (hd : devOf z (pPos c) = d) (i : Fin 512) (u v : Fin 128) (hi : i.val = z.val * 128 + u.val) :
    fQ m c (ix3 h i v) = yy m d h (ix2 u v) := by
  subst hd
  show yy m (devOf ⟨i.val / 128, _⟩ (pPos c)) h (ix2 ⟨i.val % 128, _⟩ v) = _
  rw [show (⟨i.val / 128, by omega⟩ : Fin 4) = z from Fin.ext (by simp only; omega), show (⟨i.val % 128, by omega⟩ : Fin 128) = u from Fin.ext (by simp only; omega)]

/-- The device's own rows among the gathered ones, as the body stores them. -/
theorem E_Qs (c : Dev nD) (h : Fin 8) :
    (mQ.access (rQ h c)).read (Elt F) (fQ m c) = shapeCast S1x128x128 (yy m c h) shapeCasts_S128x128_S1x128x128 := by
  funext x
  have hx : (x 1).val < 128 := (x 1).isLt
  have hc : c.val < 16 := c.isLt
  show fQ m c ((rQ h c).emb x) = _
  rw [emb3 h (c.val / 4 * 128) (offQ_eq h c) (offQ_inb h c) x ⟨c.val / 4 * 128 + (x 1).val, by omega⟩ rfl]
  exact (fQ_at m c c h (zPos c) (devOf_self c) _ ⟨(x 1).val, hx⟩ (x 2) rfl).trans (cast3 _ _ x).symm

/-- A copy of the finished rows leaves them at the sender's place in the peer's gathered rows. -/
theorem E_Q (c : Dev nD) (h : Fin 8) (r : Fin 3) :
    (sQ h c).view.read (Elt F) (fQ m (zz r c)) = (sY h).view.read (Elt F) (fY m c) := by
  funext x
  have hx : (x 0).val < 128 := (x 0).isLt
  have hc : c.val < 16 := c.isLt
  refine (rd3 (Val := Elt F) mQ (fQ m (zz r c)) h (c.val / 4 * 128) (offQ_eq h c) (offQ_inb h c) (fun _ => rfl) squeezes_S1x128x128_S128x128 x
    ⟨c.val / 4 * 128 + (x 0).val, by omega⟩ rfl).trans ?_
  refine Eq.trans ?_ (rd3 (Val := Elt F) mY (fY m c) h 0 rfl (inbYs h) (fun _ => rfl) squeezes_S1x128x128_S128x128 x ⟨(x 0).val, hx⟩ (by simp)).symm
  exact fQ_at m (zz r c) c h (zPos c) (devOf_zz r c) _ ⟨(x 0).val, hx⟩ (x 1) rfl

/-- The result at a plane position and a head. -/
theorem fO_at (c d : Dev nD) (h : Fin 8) (p : Fin 4) (hd : devOf (zPos c) p = d) (i : Fin 2048) (j : Fin 1024) (u : Fin 512) (v : Fin 128)
    (hi : i.val = p.val * 512 + u.val) (hj : j.val = h.val * 128 + v.val) :
    fO m c (ix2 i j) = fQ m d (ix3 h u v) := by
  subst hd
  show fQ m (devOf (zPos c) ⟨i.val / 512, _⟩) (ix3 ⟨j.val / 128, _⟩ ⟨i.val % 512, _⟩ ⟨j.val % 128, _⟩) = _
  rw [show (⟨i.val / 512, by omega⟩ : Fin 4) = p from Fin.ext (by simp only; omega), show (⟨i.val % 512, by omega⟩ : Fin 512) = u from Fin.ext (by simp only; omega),
    show (⟨j.val / 128, by omega⟩ : Fin 8) = h from Fin.ext (by simp only; omega), show (⟨j.val % 128, by omega⟩ : Fin 128) = v from Fin.ext (by simp only; omega)]

/-- Where the device's own quarter of a head lies in the result. -/
theorem rO_emb (h : Fin 8) (c : Dev nD) (x : S512x128.Idx) :
    (rO h c).emb x = ix2 ⟨c.val % 4 * 512 + (x 0).val, by have : (x 0).val < 512 := (x 0).isLt; omega⟩
      ⟨h.val * 128 + (x 1).val, by have : (x 1).val < 128 := (x 1).isLt; omega⟩ :=
  emb2 _ _ (offO_eq h c) (offO_inb h c) x _ _ rfl rfl

/-- The device's own quarter of the result, as the body stores it. -/
theorem E_Os (c : Dev nD) (h : Fin 8) :
    (mO.access (rO h c)).read (Elt F) (fO m c) = k0_pay155 (mQ.view.readAt (Elt F) (rQs h).toLoadRect (fQ m c)) := by
  funext x
  have hx : (x 0).val < 512 := (x 0).isLt
  show fO m c ((rO h c).emb x) = _
  rw [rO_emb]
  refine (fO_at m c c h (pPos c) (devOf_self c) _ _ ⟨(x 0).val, hx⟩ (x 1) rfl rfl).trans ?_
  unfold k0_pay155
  refine Eq.trans ?_ (cast2 _ _ x).symm
  show _ = fQ m c ((rQs h).emb (ix3 0 (x 0) (x 1)))
  rw [emb3 h 0 rfl (inbQs h) (ix3 0 (x 0) (x 1)) ⟨(x 0).val, hx⟩ (by simp)]
  rfl

/-- A copy of the gathered rows leaves them in the sender's quarter of the peer's result. -/
theorem E_O (c : Dev nD) (h : Fin 8) (r : Fin 3) :
    (sO h c).view.read (Elt F) (fO m (pp r c)) = (sQs h).view.read (Elt F) (fQ m c) := by
  funext x
  have hx : (x 0).val < 512 := (x 0).isLt
  refine Eq.trans ?_ (rd3 (Val := Elt F) mQ (fQ m c) h 0 rfl (inbQs h) (fun _ => rfl) squeezes_S1x512x128_S512x128 x ⟨(x 0).val, hx⟩ (by simp)).symm
  show fO m (pp r c) ((rO h c).emb x) = _
  rw [rO_emb]
  exact fO_at m (pp r c) c h (pPos c) (devOf_pp r c) _ _ ⟨(x 0).val, hx⟩ (x 1) rfl rfl

end Cert.KernelIdeal.Heads

end
-- ==== Proof.Sched.lean ====
/-
# The schedule

Who pays which cell, with what: a barrier cell is paid by the six peers, each handing over the slots of its buffers
this device writes; a load's cell by the load; a send cell by its copy with the slice sent; a receive cell by the
sender with the slot written.
-/
module

public import proofs.«01_k».proof.Proof.Contents

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a barrier cell: the axis (plane `false`, z `true`) and the distance of the signal. -/
abbrev DD : Type := Bool × Fin 3
/-- The one duty of a copy's cell. -/
abbrev d0 : DD := (false, 0)

abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The pieces of memory -/

/-- A slice's elements on a device, at a share. -/
def pc {sp : Space} {s : Shape} {e : EltTy} (M : Memref sig .tc sp s e) (c : Dev nD) (q : PosShare TreeShare)
    (f : Buf (Elt F) (M.view.loc (c : Thread nD τ))) : sProp 𝕄 := M.view.loc (c : Thread nD τ) ↦[M.view.set]{q} f
/-- The same, whole share, at some contents. -/
def ex {sp : Space} {s : Shape} {e : EltTy} (M : Memref sig .tc sp s e) (c : Dev nD) : sProp 𝕄 :=
  iprop(∃ f : Buf (Elt F) (M.view.loc (c : Thread nD τ)), pc M c fullShare f)

omit [FloatOps F] in
instance pc_storable {sp : Space} {s : Shape} {e : EltTy} (M : Memref sig .tc sp s e) (c : Dev nD) (q : PosShare TreeShare) (f) :
    BI.Storable (upEmb : UEmb _ 𝕄) (pc M c q f) := by unfold pc; infer_instance
omit [FloatOps F] in
set_option synthInstance.maxHeartbeats 400000 in
instance ex_storable {sp : Space} {s : Shape} {e : EltTy} (M : Memref sig .tc sp s e) (c : Dev nD) :
    BI.Storable (upEmb : UEmb _ 𝕄) (ex (F := F) M c) := by unfold ex; infer_instance

/-- The shares of the three copies sent from one slice; the fourth stays. -/
def sh (r : Fin 3) : PosShare TreeShare :=
  (![fullShare.left, fullShare.right.left, fullShare.right.right.left] : Fin 3 → PosShare TreeShare) r
def shRest : PosShare TreeShare := fullShare.right.right.right

/-- The slot device `c` writes on its peer of phase `k` at distance `r + 1`. -/
def dE (k : Fin 4) (c : Dev nD) (h : Fin 8) (r : Fin 3) : sProp 𝕄 :=
  match k with
  | 0 => ex (sP h r) (pp r c)
  | 1 => ex (sZ h r) (zz r c)
  | 2 => ex (sQ h c) (zz r c)
  | 3 => ex (sO h c) (pp r c)

/-- What the copy of phase `k` at distance `r + 1` reads. -/
def sPay (k : Fin 4) (c : Dev nD) (h : Fin 8) (r : Fin 3) : sProp 𝕄 :=
  match k with
  | 0 => pc (sB h c r) c fullShare (fB m c)
  | 1 => pc (sR h c r) c fullShare (fR m c)
  | 2 => pc (sY h) c (sh r) (fY m c)
  | 3 => pc (sQs h) c (sh r) (fQ m c)

/-- What a copy of phase `k` at distance `r + 1` leaves on device `c`. -/
def rPay (k : Fin 4) (c : Dev nD) (h : Fin 8) (r : Fin 3) : sProp 𝕄 :=
  match k with
  | 0 => pc (sP h r) c fullShare (fP m c)
  | 1 => pc (sZ h r) c fullShare (fZ m c)
  | 2 => pc (sQ h (zz (rv r) c)) c fullShare (fQ m c)
  | 3 => pc (sO h (pp (rv r) c)) c fullShare (fO m c)

/-- What the peer's signal hands over at the barrier: the slots of the peer this device writes. -/
def bPay (c : Dev nD) (d : DD) : sProp 𝕄 :=
  bigSep Finset.univ fun h : Fin 8 => if d.1 then iprop(dE 1 c h (rv d.2) ∗ dE 2 c h (rv d.2)) else iprop(dE 0 c h (rv d.2) ∗ dE 3 c h (rv d.2))

def lPay (c : Dev nD) (h : Fin 8) : sProp 𝕄 := pc (sV h) c fullShare (fV m c)

/-- What a cell's duty delivers. -/
def payOf (c : Dev nD) (i : CI) (d : DD) : sProp 𝕄 :=
  match i with
  | .inl _ => bPay c d
  | .inr (.inl h) => lPay m c h
  | .inr (.inr (false, k, h, r)) => sPay m k c h r
  | .inr (.inr (true, k, h, r)) => rPay m k c h r

instance dE_storable (k : Fin 4) (c : Dev nD) (h : Fin 8) (r : Fin 3) : BI.Storable (upEmb : UEmb _ 𝕄) (dE (F := F) k c h r) := by
  fin_cases k <;> (dsimp only [dE]; infer_instance)
instance sPay_storable (k : Fin 4) (c : Dev nD) (h : Fin 8) (r : Fin 3) : BI.Storable (upEmb : UEmb _ 𝕄) (sPay m k c h r) := by
  fin_cases k <;> (dsimp only [sPay]; infer_instance)
instance rPay_storable (k : Fin 4) (c : Dev nD) (h : Fin 8) (r : Fin 3) : BI.Storable (upEmb : UEmb _ 𝕄) (rPay m k c h r) := by
  fin_cases k <;> (dsimp only [rPay]; infer_instance)
instance bPay_storable (c : Dev nD) (d : DD) : BI.Storable (upEmb : UEmb _ 𝕄) (bPay (F := F) c d) := by
  have : ∀ h : Fin 8, BI.Storable (upEmb : UEmb _ 𝕄)
      (if d.1 then iprop(dE 1 c h (rv d.2) ∗ dE 2 c h (rv d.2)) else iprop(dE 0 c h (rv d.2) ∗ dE 3 c h (rv d.2)) : sProp 𝕄) := by
    intro h; split <;> infer_instance
  unfold bPay; infer_instance
instance payOf_storable (c : Dev nD) (d : DD) : ∀ i : CI, BI.Storable (upEmb : UEmb _ 𝕄) (payOf m c i d)
  | .inl _ => by dsimp only [payOf]; infer_instance
  | .inr (.inl h) => by dsimp only [payOf, lPay]; infer_instance
  | .inr (.inr (false, k, h, r)) => by dsimp only [payOf]; infer_instance
  | .inr (.inr (true, k, h, r)) => by dsimp only [payOf]; infer_instance

/-! ## The schedule -/

def dutiesOf : Option (Dev nD × CI) → Finset DD
  | some (_, .inl _) => Finset.univ
  | some (_, .inr _) => {d0}
  | none => ∅
def amountOf : Option (Dev nD × CI) → ℕ
  | some (_, .inr i) => NO i
  | _ => 1
def payloadOf : Option (Dev nD × CI) → DD → sProp 𝕄
  | some x => payOf m x.1 x.2
  | none => fun _ => iprop(emp)

def Rd : Rounds.Schedule (GSem nD τ sig) DD 𝕄 where
  duties g r := if r = 0 then dutiesOf (dec g) else ∅
  unitless _ := False
  amount g _ _ := amountOf (dec g)
  payload g _ d := payloadOf m (dec g) d
  amount_pos g _ _ _ := by
    rcases dec g with _ | ⟨c, _ | i⟩
    · exact Nat.one_pos
    · exact Nat.one_pos
    · exact NO_pos i

instance Rd_payload_storable (g : GSem nD τ sig) (r : ℕ) (d : DD) : BI.Storable (upEmb : UEmb _ 𝕄) ((Rd m).payload g r d) := by
  show BI.Storable upEmb (payloadOf m (dec g) d)
  rcases dec g with _ | x
  · show BI.Storable upEmb (iprop(emp) : sProp 𝕄); infer_instance
  · exact payOf_storable m x.1 d x.2

/-- The barrier's round has a duty for each of the six signals. -/
theorem duties_bar (c : Dev nD) : (Rd m).duties (cB c) 0 = Finset.univ := by
  show (if 0 = 0 then dutiesOf (dec (cB c)) else ∅) = _
  rw [if_pos rfl, dec_kcell]; rfl
/-- An own cell's round has one duty. -/
theorem duties_own (c : Dev nD) (i : OI) : (Rd m).duties (kcell (c, .inr i)) 0 = {d0} := by
  show (if 0 = 0 then dutiesOf (dec (kcell (c, .inr i))) else ∅) = _
  rw [if_pos rfl, dec_kcell]; rfl
/-- No cell has a later round. -/
theorem duties_later (g : GSem nD τ sig) : ∀ r, 1 ≤ r → (Rd m).duties g r = ∅ := fun r hr => if_neg (by omega)
/-- A signal at the barrier is of one unit. -/
theorem amount_bar (c : Dev nD) (d : DD) : (Rd m).amount (cB c) 0 d = 1 := by
  show amountOf (dec (cB c)) = _; rw [dec_kcell]; rfl
/-- A copy's duty is of the copy's credit. -/
theorem amount_own (c : Dev nD) (i : OI) (d : DD) : (Rd m).amount (kcell (c, .inr i)) 0 d = NO i := by
  show amountOf (dec (kcell (c, .inr i))) = _; rw [dec_kcell]; rfl
/-- A duty's payload is the one stated for its cell. -/
theorem payload_eq (c : Dev nD) (i : CI) (d : DD) : (Rd m).payload (kcell (c, i)) 0 d = payOf m c i d := by
  show payloadOf m (dec (kcell (c, i))) d = _; rw [dec_kcell]; rfl
/-- The barrier awaits six units. -/
theorem expect_bar (c : Dev nD) : (Rd m).expect (cB c) 0 = 6 := by
  unfold Schedule.expect Schedule.amountOf
  rw [duties_bar, Finset.sum_congr rfl fun d _ => amount_bar m c d, Finset.sum_const, Finset.card_univ]
  rfl
/-- An own cell awaits one copy's credit. -/
theorem expect_own (c : Dev nD) (i : OI) : (Rd m).expect (kcell (c, .inr i)) 0 = NO i := by
  unfold Schedule.expect Schedule.amountOf; rw [duties_own, Finset.sum_singleton, amount_own]
/-- A wait on an own cell hands over its payload. -/
theorem rest_own (c : Dev nD) (i : OI) :
    bigSep ((Rd m).duties (kcell (c, .inr i)) 0 \ ∅) (fun d => (Rd m).payload (kcell (c, .inr i)) 0 d) = payOf m c (.inr i) d0 := by
  rw [Finset.sdiff_empty, duties_own, bigSep_singleton, payload_eq]
/-- A wait at the barrier hands over the six payloads. -/
theorem rest_bar (c : Dev nD) :
    bigSep ((Rd m).duties (cB c) 0 \ ∅) (fun d => (Rd m).payload (cB c) 0 d) = bigSep Finset.univ fun d : DD => bPay c d := by
  rw [Finset.sdiff_empty, duties_bar]
  exact bigSep_congr fun d _ => payload_eq m c _ d

/-! ## What is owed, and the levels -/

/-- The place of a send in the order of the body: phase, head, distance. -/
def rank (x : Fin 4 × Fin 8 × Fin 3) : ℕ := 24 * x.1.val + 3 * x.2.1.val + x.2.2.val
/-- Different copies have different ranks in program order. -/
theorem rank_inj : Function.Injective rank := by
  rintro ⟨k, h, r⟩ ⟨k', h', r'⟩ e
  simp only [rank] at e
  have hk : k = k' := Fin.ext (by omega)
  have hh : h = h' := Fin.ext (by omega)
  have hr : r = r' := Fin.ext (by omega)
  rw [hk, hh, hr]

/-- The receive cell a send pays, with its units. -/
def owed1 (c : Dev nD) (x : Fin 4 × Fin 8 × Fin 3) : CellTallies nD τ sig Unit :=
  tallyAt (cR (peer x.1 x.2.2 c) x.1 x.2.1 x.2.2) () (NN x.1)
/-- What device `c` still owes receive cells from send `n` on. -/
def rem (c : Dev nD) (n : ℕ) : CellTallies nD τ sig Unit := ∑ x with n ≤ rank x, owed1 c x

/-- What is owed before a copy is what is owed after it and the copy's own credit. -/
theorem rem_step (c : Dev nD) (k : Fin 4) (h : Fin 8) (r : Fin 3) (n : ℕ) (hn : n = rank (k, h, r)) :
    rem c n = rem c (n + 1) + owed1 c (k, h, r) := by
  unfold rem
  have e : (Finset.univ.filter fun x : Fin 4 × Fin 8 × Fin 3 => n ≤ rank x)
      = insert (k, h, r) (Finset.univ.filter fun x => n + 1 ≤ rank x) := by
    ext x
    rw [Finset.mem_insert, Finset.mem_filter, Finset.mem_filter]
    constructor
    · rintro ⟨-, hx⟩
      by_cases hh : rank x = n
      · exact .inl (rank_inj (hh.trans hn))
      · exact .inr ⟨Finset.mem_univ _, by omega⟩
    · rintro (rfl | ⟨-, hx⟩)
      · exact ⟨Finset.mem_univ _, by omega⟩
      · exact ⟨Finset.mem_univ _, by omega⟩
  rw [e, Finset.sum_insert (by rw [Finset.mem_filter, ← hn]; omega), add_comm]

/-- After the 96 copies nothing is owed. -/
theorem rem_end (c : Dev nD) : rem c 96 = 0 := by
  unfold rem
  rw [Finset.filter_false_of_mem, Finset.sum_empty]
  rintro ⟨k, h, r⟩ -
  simp only [rank]; omega

/-- A barrier signal's unit. -/
def owedB (c : Dev nD) (d : DD) : CellTallies nD τ sig Unit := tallyAt (cB (tgt d c)) () 1
/-- What a device owes at the launch. -/
def O₀ (c : Dev nD) : CellTallies nD τ sig Unit :=
  rem c 0 + owedB c (true, 2) + owedB c (true, 1) + owedB c (true, 0) + owedB c (false, 2) + owedB c (false, 1) + owedB c (false, 0)

def L (g : GSem nD τ sig) : Finset Unit := if g.1.2 = .tc then {()} else ∅
def lvOf : Option (Dev nD × CI) → ℕ
  | some (_, .inl _) => 1
  | some (_, .inr (.inr (true, k, _, _))) => k.val + 2
  | _ => 0
/-- Barrier cells at 1, receive cells of phase `k` at `k + 2`, everything else at 0. -/
def lv (g : GSem nD τ sig) (_ : Unit) : ℕ := lvOf (dec g)

/-- Only the cores' cells have levels. -/
theorem L_of_ne (g : GSem nD τ sig) (h : g.1.2 ≠ .tc) : L g = ∅ := if_neg h
/-- Every cell of a core has one. -/
theorem L_tc (c : Dev nD) (sm : SemLoc sig) : () ∈ L ((c : Thread nD τ), sm) := by
  rw [show L ((c : Thread nD τ), sm) = {()} from if_pos rfl]; exact Finset.mem_singleton_self _
/-- A cell's level is that of its index. -/
theorem lv_kcell (c : Dev nD) (i : CI) : lv (kcell (c, i)) () = lvOf (some (c, i)) := by unfold lv; rw [dec_kcell]

/-- A single credit is at its own cell. -/
theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

/-- What is owed at a cell is the sum over the copies still to send. -/
theorem rem_apply (c : Dev nD) (n : ℕ) (g : GSem nD τ sig) (u : Unit) : rem c n g u = ∑ x with n ≤ rank x, owed1 c x g u := by
  unfold rem
  rw [Finset.sum_apply, Finsupp.finset_sum_apply]

/-- What is owed is owed to the arrival of a copy still to send. -/
theorem rem_pos {c : Dev nD} {n : ℕ} {g : GSem nD τ sig} {u : Unit} (h : 0 < rem c n g u) :
    ∃ x : Fin 4 × Fin 8 × Fin 3, n ≤ rank x ∧ g = cR (peer x.1 x.2.2 c) x.1 x.2.1 x.2.2 := by
  rw [rem_apply] at h
  obtain ⟨x, hx, hp⟩ := Finset.exists_ne_zero_of_sum_ne_zero (Nat.pos_iff_ne_zero.mp h)
  exact ⟨x, (Finset.mem_filter.mp hx).2, tally_pos (Nat.pos_of_ne_zero hp)⟩

/-- At the start a device owes its copies' arrivals and its signals. -/
theorem O₀_pos {c : Dev nD} {g : GSem nD τ sig} {u : Unit} (h : 0 < O₀ c g u) : 0 < rem c 0 g u ∨ ∃ d, g = cB (tgt d c) := by
  unfold O₀ at h
  simp only [Pi.add_apply, Finsupp.add_apply] at h
  by_contra hn
  rw [not_or, not_exists] at hn
  have hz : ∀ d, owedB c d g u = 0 := fun d => by
    by_contra h0
    exact hn.2 d (tally_pos (Nat.pos_of_ne_zero h0))
  rw [hz, hz, hz, hz, hz, hz] at h
  exact hn.1 (by omega)

omit [FloatOps F] in
/-- A wait at a level below everything owed. -/
theorem mayWait_rem (c : Dev nD) (sm : SemLoc sig) (n b : ℕ) (hb : lv ((c : Thread nD τ), sm) () ≤ b)
    (hn : ∀ x : Fin 4 × Fin 8 × Fin 3, n ≤ rank x → b < x.1.val + 2) :
    (levAts L lv : sProp 𝕄) ⊢ MayWait (c : Thread nD τ) sm () (rem c n) :=
  MayOwe.of_cut (L := L) (lev := lv) b (fun p hp => by rw [Finset.mem_singleton.mp hp]; exact L_tc c sm)
    (fun g u hg => by obtain ⟨x, -, rfl⟩ := rem_pos hg; exact L_tc _ _)
    (fun p hp => by rw [Finset.mem_singleton.mp hp]; exact hb)
    (fun g u hg => by obtain ⟨x, hx, rfl⟩ := rem_pos hg; rw [lv_kcell]; exact hn x hx)

omit [FloatOps F] in
/-- A staging wait, at the launch and at the end. -/
theorem mayWait_stage (c : Dev nD) (sm : SemLoc sig) (hs : lv ((c : Thread nD τ), sm) () = 0) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp]; exact L_tc c sm)
      (fun g u hg => ?_) (fun p hp => by rw [Finset.mem_singleton.mp hp]; exact hs.le) (fun g u hg => ?_)
    · rcases O₀_pos hg with h | ⟨d, rfl⟩
      · obtain ⟨x, -, rfl⟩ := rem_pos h; exact L_tc _ _
      · exact L_tc _ _
    · rcases O₀_pos hg with h | ⟨d, rfl⟩
      · obtain ⟨x, -, rfl⟩ := rem_pos h; rw [lv_kcell]; exact Nat.succ_pos _
      · rw [lv_kcell]; exact Nat.one_pos
  · rw [MayWait_zero]; iintro -; iempintro

/-! ## The persistent facts -/

instance : DecidableEq (Dev nD × CI) := instDecidableEqProd

/-- Every cell's invariant at the names `K`, and that every cell has reached its round. -/
def records (K : Dev nD × CI → ℕ) : sProp 𝕄 :=
  iprop((bigSep Finset.univ fun x : Dev nD × CI => cellInv ER (Rd m) (K x) (kcell x))
    ∗ bigSep Finset.univ fun x : Dev nD × CI => reached ER (kcell x) 0)
instance records_persistent (K : Dev nD × CI → ℕ) : BI.Persistent (records m K) := by unfold records; infer_instance

/-- With the level facts. -/
def ctx (K : Dev nD × CI → ℕ) : sProp 𝕄 := iprop(records m K ∗ levAts L lv)
instance ctx_persistent (K : Dev nD × CI → ℕ) : BI.Persistent (ctx m K) := by unfold ctx; infer_instance

/-- The cells' invariants give each one's. -/
theorem rec_inv (K : Dev nD × CI → ℕ) (x : Dev nD × CI) :
    (bigSep Finset.univ fun x : Dev nD × CI => (cellInv ER (Rd m) (K x) (kcell x) : sProp 𝕄)) ⊢ cellInv ER (Rd m) (K x) (kcell x) :=
  bigSep_elim (Finset.mem_univ x)
/-- The cells' records of having reached their round give each one's. -/
theorem rec_reached (x : Dev nD × CI) :
    (bigSep Finset.univ fun x : Dev nD × CI => (reached ER (kcell x) 0 : sProp 𝕄)) ⊢ reached ER (kcell x) 0 :=
  bigSep_elim (Finset.mem_univ x)
/-- The records give each cell's invariant -/
theorem rcd_inv (K : Dev nD × CI → ℕ) (x : Dev nD × CI) : records m K ⊢ cellInv ER (Rd m) (K x) (kcell x) := by
  unfold records
  iintro ⟨H, -⟩
  iapply (rec_inv m K x)
  iexact H
/-- and that it has reached its round. -/
theorem rcd_reached (K : Dev nD × CI → ℕ) (x : Dev nD × CI) : records m K ⊢ reached ER (kcell x) 0 := by
  unfold records
  iintro ⟨-, H⟩
  iapply (rec_reached (F := F) x)
  iexact H
/-- What a device owes, at some recorded waits. -/
def ow (c : Dev nD) (O : CellTallies nD τ sig Unit) : sProp 𝕄 := iprop(∃ W : Waits sig Unit, owes (c : Thread nD τ) O W)

/-- A program's weakest precondition on a device. -/
abbrev WP {α : Type} (c : Dev nD) (p : Pg (F := F) α) (Q : α → sProp 𝕄) : sProp 𝕄 :=
  wp frame (wpE (defs₀ (F := F)) 𝒱₀ (c : Thread nD τ) none) Set.univ p Q

/-- The position at the start of a cell. -/
abbrev at0 (c : Dev nD) (i : CI) : sProp 𝕄 := atPos ER (kcell (c, i)) 0 ∅ 0

/-- The level of an own cell. -/
theorem lv_own (c : Dev nD) (i : OI) : lv ((c : Thread nD τ), osem i) () = lvOf (some (c, .inr i)) := lv_kcell c (.inr i)

/-- What a wait on an own cell receives. -/
theorem rest_osem (c : Dev nD) (i : OI) :
    bigSep ((Rd m).duties ((c : Thread nD τ), osem i) 0 \ ∅) (fun d => (Rd m).payload ((c : Thread nD τ), osem i) 0 d) = payOf m c (.inr i) d0 :=
  rest_own m c i

/-- A wait on an own cell: its counter at zero, closed, and what its duty delivers. -/
theorem wait_own (K : Dev nD × CI → ℕ) (c : Dev nD) (i : OI) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (osem i) (NO i) Kt)
    (n : ℕ) (hn : ∀ x : Fin 4 × Fin 8 × Fin 3, n ≤ rank x → lvOf (some (c, .inr i)) < x.1.val + 2)
    {α : Type} {k : PUnit → Pg (F := F) α} {Q : α → sProp 𝕄} :
    iprop(ctx m K ∗ at0 c (.inr i) ∗ cred (tallyAt (kcell (c, .inr i)) () (NO i)) ∗ ow c (rem c n))
      ⊢ iprop(((semVal (kcell (c, .inr i)) 0 ∗ payOf m c (.inr i) d0 ∗ ow c (rem c n)) -∗ WP c (k ⟨⟩) Q) -∗ WP c (.op w k) Q) := by
  unfold ow ctx
  iintro ⟨⟨#Hrec, #Hlev⟩, Hat, Hcr, ⟨%W, HO⟩⟩ Hk
  ihave #HI := (rcd_inv m K (c, .inr i)) $$ Hrec
  iapply (Rounds.wp_wait_rest_token 𝒱₀ ER (Rd m) (c : Thread nD τ) none (κ := K (c, .inr i)) (sm := osem i) hw (Set.mem_univ _) () (O := rem c n) (W := W)
      (R := 0) (m := 0) (T := ∅) (by rw [Nat.zero_add]; exact (expect_own m c i).symm)) $$ [Hat Hcr HO]
  · isplitr; · iexact HI
    isplitl [Hcr]; · iexact Hcr
    isplitl [HO]; · iexact HO
    isplitr
    · iapply (mayWait_rem (F := F) c (osem i) n (lvOf (some (c, .inr i))) (le_of_eq (lv_own c i)) hn)
      iexact Hlev
    iexact Hat
  iintro ⟨HO, Hat, -, Hpay⟩
  ihave Hp := (Entails.of_eq (rest_osem m c i)) $$ Hpay
  imod (Rounds.cell_close ER (Rd m) (Set.mem_univ (K (c, .inr i))) (fun h => h) (R := 0 + 1) (duties_later m (kcell (c, .inr i)))) $$ [Hat] with Hz
  · isplitr; · iexact HI
    iexact Hat
  iapply Hk
  isplitl [Hz]; · iexact Hz
  isplitl [Hp]; · iexact Hp
  iexists _; iexact HO

end Cert.KernelIdeal.Heads

end
-- ==== Proof.Steps.lean ====
/-
# The steps of a head

A send, the waits of a send and of a receive, a quarter rounded and stored, a slice of the plane sum stored, each once
at a device `c`, a head `h` and a distance `r`.
-/
module

public import proofs.«01_k».proof.Proof.Sched

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

omit [FloatOps F] in
/-- What a write through a view leaves, when `g` reads as the vector written. -/
theorem pts_written {sp : Space} {s : Shape} {e : EltTy} (v : View sig .tc sp s e) (c : Dev nD) (q : PosShare TreeShare)
    (fd g : Buf (Elt F) (v.loc (c : Thread nD τ))) (X : s.Idx → Elt F e) (hg : v.read (Elt F) g = X) :
    (v.loc (c : Thread nD τ) ↦[v.set]{q} v.write (Elt F) fd X Finset.univ : sProp 𝕄) = v.loc (c : Thread nD τ) ↦[v.set]{q} g := by
  subst hg
  refine pointsTo_congr fun i hi => ?_
  rw [View.write_read_eq_piecewise]
  exact Finset.piecewise_eq_of_mem _ _ _ hi

/-- A send: from the tokens of its two duties, the slot written and the slice read, to the credit of its send cell. -/
theorem send_gen (c : Dev nD) (k : Fin 4) (h : Fin 8) (r : Fin 3) {s : Shape} {e : EltTy} {src dst : Memref sig .tc .vmem s e} (q : PosShare TreeShare)
    (fs : Buf (Elt F) (src.view.loc (c : Thread nD τ))) (n1 : Dev nD) (hn1 : n1 = peer k r c)
    (g : Buf (Elt F) (dst.view.loc (peer k r c : Thread nD τ)))
    (hS : sPay m k c h r = pc src c q fs) (hD : dE (F := F) k c h r = ex dst (peer k r c))
    (hR : rPay m k (peer k r c) h r = pc dst (peer k r c) fullShare g) (hread : dst.view.read (Elt F) g = src.view.read (Elt F) fs)
    (hN : dst.view.amount (.dma (semR k h r)) = NN k) (n : ℕ) (hn : n = rank (k, h, r))
    {hsc : (dst : Memref sig (Dev.tc n1 : Thread nD τ).2.kind .vmem s e).view.ref.isScScratch = false}
    {hsrc : src.view.WordExact} {hdst : dst.view.WordExact}
    {hsem : DmaTarget.Typed .vmem (.dma (semR k h r)) (.remote (Dev.tc n1 : Thread nD τ) (dst : Memref sig (Dev.tc n1 : Thread nD τ).2.kind .vmem s e) (.dma (semS k h r)) hsc)}
    {α : Type} {Q : α → sProp 𝕄} {kt : PUnit → Pg (F := F) α} :
    iprop(ctx m K ∗ dutyTok ER (cS c k h r) 0 d0 ∗ dutyTok ER (cR (peer k r c) k h r) 0 d0 ∗ dE k c h r ∗ sPay m k c h r ∗ ow c (rem c n))
      ⊢ iprop(((cred (tallyAt (cS c k h r) () (NN k)) ∗ ow c (rem c (n + 1))) -∗ WP c (kt ⟨⟩) Q)
          -∗ WP c (.op (.enqueueDma src (.remote (Dev.tc n1 : Thread nD τ) (dst : Memref sig (Dev.tc n1 : Thread nD τ).2.kind .vmem s e) (.dma (semS k h r)) hsc)
              (.dma (semR k h r)) hsrc hdst hsem) kt) Q) := by
  subst hn1
  unfold ow ctx
  rw [hS, hD]
  unfold ex pc
  iintro ⟨⟨#Hrec, #Hlev⟩, HtS, HtR, ⟨%fd, Hd⟩, Hs, ⟨%W, HO⟩⟩ Hk
  ihave #HIS := (rcd_inv m K (c, iS k h r)) $$ Hrec
  ihave #HIR := (rcd_inv m K (peer k r c, iR k h r)) $$ Hrec
  ihave #HrS := (rcd_reached m K (c, iS k h r)) $$ Hrec
  ihave #HrR := (rcd_reached m K (peer k r c, iR k h r)) $$ Hrec
  iapply (Rounds.wp_send_pointsTo 𝒱₀ ER (Rd m) (c : Thread nD τ) none (c' := (peer k r c : Thread nD τ)) (src := src) (dst := dst)
      (sS := .dma (semS k h r)) (sem := .dma (semR k h r)) (q := q) (fs := fs) (fd := fd) (κ₁ := K (c, iS k h r)) (κ₂ := K (peer k r c, iR k h r))
      (r₁ := 0) (r₂ := 0) (d₁ := d0) (d₂ := d0)
      (by show d0 ∈ (Rd m).duties (cS c k h r) 0; rw [duties_own]; exact Finset.mem_singleton_self _)
      (by show d0 ∈ (Rd m).duties (cR (peer k r c) k h r) 0; rw [duties_own]; exact Finset.mem_singleton_self _)
      () () (NN k) hN (amount_own m c (.inr (false, k, h, r)) d0) (amount_own m (peer k r c) (.inr (true, k, h, r)) d0) (rem c (n + 1))
      (rem_step c k h r n hn) (W := W)
      (by show _ ⊢ (Rd m).payload (cS c k h r) 0 d0
          rw [payload_eq]; show _ ⊢ sPay m k c h r; rw [hS]; exact BI.Entails.refl _)
      (by show _ ⊢ (Rd m).payload (cR (peer k r c) k h r) 0 d0
          rw [payload_eq]; show _ ⊢ rPay m k (peer k r c) h r
          rw [hR, pts_written (F := F) dst.view (peer k r c) fullShare fd g _ hread]; exact BI.Entails.refl _)) $$ [HtS HtR Hd Hs HO]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- What an arrival of phase 0 counts. -/
theorem amount0 (h : Fin 8) (r : Fin 3) : (sP h r).view.amount (.dma (semR 0 h r)) = NN 0 := rfl
/-- What an arrival of phase 1 counts. -/
theorem amount1 (h : Fin 8) (r : Fin 3) : (sZ h r).view.amount (.dma (semR 1 h r)) = NN 1 := rfl
/-- What an arrival of phase 2 counts. -/
theorem amount2 (c : Dev nD) (h : Fin 8) (r : Fin 3) : (sQ h c).view.amount (.dma (semR 2 h r)) = NN 2 := rfl
/-- What an arrival of phase 3 counts. -/
theorem amount3 (c : Dev nD) (h : Fin 8) (r : Fin 3) : (sO h c).view.amount (.dma (semR 3 h r)) = NN 3 := rfl
/-- What an arrival of phase 2 hands over: the sender's band of the peer's gathered rows. -/
theorem rPay2 (c : Dev nD) (h : Fin 8) (r : Fin 3) : rPay m 2 (zz r c) h r = pc (sQ h c) (zz r c) fullShare (fQ m (zz r c)) := by
  show pc (sQ h (zz (rv r) (zz r c))) (zz r c) fullShare (fQ m (zz r c)) = _
  rw [rv_zz]
/-- What an arrival of phase 3 hands over: the sender's quarter of the peer's result. -/
theorem rPay3 (c : Dev nD) (h : Fin 8) (r : Fin 3) : rPay m 3 (pp r c) h r = pc (sO h c) (pp r c) fullShare (fO m (pp r c)) := by
  show pc (sO h (pp (rv r) (pp r c))) (pp r c) fullShare (fO m (pp r c)) = _
  rw [rv_pp]

/-- A send of phase 0. -/
theorem wp_send0 (c : Dev nD) (h : Fin 8) (r : Fin 3) (n : ℕ) (hn : n = rank (0, h, r)) {α : Type} {Q : α → sProp 𝕄} {kt : PUnit → Pg (F := F) α} :
    iprop(ctx m K ∗ dutyTok ER (cS c 0 h r) 0 d0 ∗ dutyTok ER (cR (peer 0 r c) 0 h r) 0 d0 ∗ dE 0 c h r ∗ sPay m 0 c h r ∗ ow c (rem c n))
      ⊢ iprop(((cred (tallyAt (cS c 0 h r) () (NN 0)) ∗ ow c (rem c (n + 1))) -∗ WP c (kt ⟨⟩) Q) -∗ WP c (send0 c h r >>= kt) Q) := by
  simp only [send0, Prog.lift, Prog.bind_op, Prog.bind_ret]
  exact send_gen m K c 0 h r (src := sB h c r) (dst := sP h r) fullShare (fB m c) _ (peerN_eq 0 r c) (fP m (pp r c)) rfl rfl (rfl) (E_P m c h r) (amount0 h r) n hn

/-- A send of phase 1. -/
theorem wp_send1 (c : Dev nD) (h : Fin 8) (r : Fin 3) (n : ℕ) (hn : n = rank (1, h, r)) {α : Type} {Q : α → sProp 𝕄} {kt : PUnit → Pg (F := F) α} :
    iprop(ctx m K ∗ dutyTok ER (cS c 1 h r) 0 d0 ∗ dutyTok ER (cR (peer 1 r c) 1 h r) 0 d0 ∗ dE 1 c h r ∗ sPay m 1 c h r ∗ ow c (rem c n))
      ⊢ iprop(((cred (tallyAt (cS c 1 h r) () (NN 1)) ∗ ow c (rem c (n + 1))) -∗ WP c (kt ⟨⟩) Q) -∗ WP c (send1 c h r >>= kt) Q) := by
  simp only [send1, Prog.lift, Prog.bind_op, Prog.bind_ret]
  exact send_gen m K c 1 h r (src := sR h c r) (dst := sZ h r) fullShare (fR m c) _ (peerN_eq 1 r c) (fZ m (zz r c)) rfl rfl (rfl) (E_Z m c h r) (amount1 h r) n hn

/-- A send of phase 2. -/
theorem wp_send2 (c : Dev nD) (h : Fin 8) (r : Fin 3) (n : ℕ) (hn : n = rank (2, h, r)) {α : Type} {Q : α → sProp 𝕄} {kt : PUnit → Pg (F := F) α} :
    iprop(ctx m K ∗ dutyTok ER (cS c 2 h r) 0 d0 ∗ dutyTok ER (cR (peer 2 r c) 2 h r) 0 d0 ∗ dE 2 c h r ∗ sPay m 2 c h r ∗ ow c (rem c n))
      ⊢ iprop(((cred (tallyAt (cS c 2 h r) () (NN 2)) ∗ ow c (rem c (n + 1))) -∗ WP c (kt ⟨⟩) Q) -∗ WP c (send2 c h r >>= kt) Q) := by
  simp only [send2, Prog.lift, Prog.bind_op, Prog.bind_ret]
  exact send_gen m K c 2 h r (src := sY h) (dst := sQ h c) (sh r) (fY m c) _ (peerN_eq 2 r c) (fQ m (zz r c)) rfl rfl (rPay2 m c h r) (E_Q m c h r) (amount2 c h r) n hn

/-- A send of phase 3. -/
theorem wp_send3 (c : Dev nD) (h : Fin 8) (r : Fin 3) (n : ℕ) (hn : n = rank (3, h, r)) {α : Type} {Q : α → sProp 𝕄} {kt : PUnit → Pg (F := F) α} :
    iprop(ctx m K ∗ dutyTok ER (cS c 3 h r) 0 d0 ∗ dutyTok ER (cR (peer 3 r c) 3 h r) 0 d0 ∗ dE 3 c h r ∗ sPay m 3 c h r ∗ ow c (rem c n))
      ⊢ iprop(((cred (tallyAt (cS c 3 h r) () (NN 3)) ∗ ow c (rem c (n + 1))) -∗ WP c (kt ⟨⟩) Q) -∗ WP c (send3 c h r >>= kt) Q) := by
  simp only [send3, Prog.lift, Prog.bind_op, Prog.bind_ret]
  exact send_gen m K c 3 h r (src := sQs h) (dst := sO h c) (sh r) (fQ m c) _ (peerN_eq 3 r c) (fO m (pp r c)) rfl rfl (rPay3 m c h r) (E_O m c h r) (amount3 c h r) n hn

/-- The waits of a send and of a receive of one distance. -/
theorem wait_pair (c : Dev nD) (k : Fin 4) (h : Fin 8) (r : Fin 3) {w w' : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (semS k h r)) (NN k) Kt)
    (hw' : ∀ Kt : PUnit → sProp 𝕄, wpE (defs₀ (F := F)) 𝒱₀ (c : Thread nD τ) none Set.univ w' Kt = waitSpec (c : Thread nD τ) Set.univ (.dma (semR k h r)) (NN k) Kt)
    (n : ℕ) (hn : 24 * (k.val + 1) ≤ n) {α : Type} {kt : PUnit → Pg (F := F) α} {Q : α → sProp 𝕄} :
    iprop(ctx m K ∗ (at0 c (iS k h r) ∗ at0 c (iR k h r) ∗ cred (tallyAt (cR c k h r) () (NN k)) ∗ cred (tallyAt (cS c k h r) () (NN k))) ∗ ow c (rem c n))
      ⊢ iprop((((semVal (cS c k h r) 0 ∗ semVal (cR c k h r) 0) ∗ (sPay m k c h r ∗ rPay m k c h r) ∗ ow c (rem c n)) -∗ WP c (kt ⟨⟩) Q)
          -∗ WP c (.op w fun _ => .op w' kt) Q) := by
  have hk : ∀ x : Fin 4 × Fin 8 × Fin 3, n ≤ rank x → k.val + 2 < x.1.val + 2 := fun ⟨k', h', r'⟩ hx => by
    simp only [rank] at hx ⊢; omega
  iintro ⟨#Hctx, ⟨HaS, HaR, HcR, HcS⟩, HO⟩ Hk
  iapply (wait_own m K c (.inr (false, k, h, r)) hw n (fun x hx => lt_of_le_of_lt (Nat.zero_le _) (hk x hx))) $$ [HaS HcS HO]
  · isplitr; · iexact Hctx
    isplitl [HaS]; · iexact HaS
    isplitl [HcS]; · iexact HcS
    iexact HO
  iintro ⟨HzS, HpS, HO⟩
  iapply (wait_own m K c (.inr (true, k, h, r)) hw' n hk) $$ [HaR HcR HO]
  · isplitr; · iexact Hctx
    isplitl [HaR]; · iexact HaR
    isplitl [HcR]; · iexact HcR
    iexact HO
  iintro ⟨HzR, HpR, HO⟩
  ihave HpS := (show payOf m c (.inr (.inr (false, k, h, r))) d0 ⊢ sPay m k c h r from BI.Entails.refl _) $$ HpS
  ihave HpR := (show payOf m c (.inr (.inr (true, k, h, r))) d0 ⊢ rPay m k c h r from BI.Entails.refl _) $$ HpR
  iapply Hk
  isplitl [HzS HzR]
  · isplitl [HzS]; · iexact HzS
    iexact HzR
  isplitl [HpS HpR]
  · isplitl [HpS]; · iexact HpS
    iexact HpR
  iexact HO

end Cert.KernelIdeal.Heads

end
-- ==== Proof.Pieces.lean ====
/-
# The pieces of the buffers

Each buffer is cut into the slots the copies name: the slots' sets by absolute numbers, and the slices of the copies,
named relative to the device, as these slots.
-/
module

public import proofs.«01_k».proof.Proof.Steps

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Elements of a buffer on a device, at a share. -/
def bp (b : Ref sig .tc) (c : Dev nD) (S : Finset b.ty.Idx) (q : PosShare TreeShare) (f : Buf (Elt F) ((c : Thread nD τ).loc b)) : sProp 𝕄 :=
  (c : Thread nD τ).loc b ↦[S]{q} f
/-- The same, whole share, at some contents. -/
def bx (b : Ref sig .tc) (c : Dev nD) (S : Finset b.ty.Idx) : sProp 𝕄 :=
  iprop(∃ f : Buf (Elt F) ((c : Thread nD τ).loc b), bp b c S fullShare f)

omit [FloatOps F] in
/-- Assertions held side by side associate. -/
theorem sepA (P Q R : sProp 𝕄) : iprop((P ∗ Q) ∗ R) = iprop(P ∗ Q ∗ R) := equiv_iff.mp ⟨BI.sep_assoc, BI.sep_assoc'⟩

/-- The position `r + 1` steps after `p`, around. -/
def rot (p : Fin 4) (r : Fin 3) : Fin 4 := ⟨(p.val + 1 + r.val) % 4, by omega⟩

omit [FloatOps F] in
/-- Four things in turn from any of them on. -/
theorem four_rot (p : Fin 4) (Φ : Fin 4 → sProp 𝕄) :
    bigSep Finset.univ Φ = iprop(Φ p ∗ Φ (rot p 0) ∗ Φ (rot p 1) ∗ Φ (rot p 2)) := by
  rw [bigSep_univ_eq_bigSepL [p, rot p 0, rot p 1, rot p 2] (by revert p; decide) (by revert p; decide) Φ]; rfl
omit [FloatOps F] in
/-- The same, backwards around. -/
theorem four_tor (p : Fin 4) (Φ : Fin 4 → sProp 𝕄) :
    bigSep Finset.univ Φ = iprop(Φ p ∗ Φ (rot p (rv 0)) ∗ Φ (rot p (rv 1)) ∗ Φ (rot p (rv 2))) := by
  rw [bigSep_univ_eq_bigSepL [p, rot p (rv 0), rot p (rv 1), rot p (rv 2)] (by revert p; decide) (by revert p; decide) Φ]; rfl
omit [FloatOps F] in
/-- What is held at four places. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]; rfl
omit [FloatOps F] in
/-- What is held at three places. -/
theorem three (Φ : Fin 3 → sProp 𝕄) : bigSep Finset.univ Φ = iprop(Φ 0 ∗ Φ 1 ∗ Φ 2) := by
  rw [bigSep_univ_eq_bigSepL [0, 1, 2] (by decide) (by decide) Φ]; rfl

/-! ## The slots -/

/-- The rows of `q_send` of a position along z. -/
def tQ (h : Fin 8) (z : Fin 4) : Finset S8x512x128.Idx :=
  (Rect.unit (s := S8x512x128) ![h.val, z.val * 128, 0] S1x128x128.size (by revert h z; decide)).set
/-- The block of the result of a head and a plane position. -/
def tO (h : Fin 8) (p : Fin 4) : Finset S2048x1024.Idx :=
  (Rect.unit (s := S2048x1024) ![p.val * 512, h.val * 128] S512x128.size (by revert h p; decide)).set

/-- The elements of a load's target. -/
theorem set_sV (h : Fin 8) : (sV h).view.set = (rV h).set := (View.set_reshape _ _).trans (View.set_slice_whole _ _)
/-- The elements of a load's source. -/
theorem set_sT (h : Fin 8) : (sT h).view.set = (rT h).set := View.set_slice_whole _ _
/-- The elements of a slot received within the plane. -/
theorem set_sP (h : Fin 8) (r : Fin 3) : (sP h r).view.set = (rPs h r).set := (View.set_reshape _ _).trans (View.set_slice_whole _ _)
/-- The elements of a slot received along z. -/
theorem set_sZ (h : Fin 8) (r : Fin 3) : (sZ h r).view.set = (rZs h r).set := (View.set_reshape _ _).trans (View.set_slice_whole _ _)
/-- The elements of a head's finished rows. -/
theorem set_sY (h : Fin 8) : (sY h).view.set = (rYs h).set := (View.set_reshape _ _).trans (View.set_slice_whole _ _)
/-- The elements of a head's gathered rows. -/
theorem set_sQs (h : Fin 8) : (sQs h).view.set = (rQs h).set := (View.set_reshape _ _).trans (View.set_slice_whole _ _)
/-- Boxes of one shape at equal offsets have the same elements. -/
theorem unit_set_congr {s : Shape} {off off' size : Fin s.rank → ℕ} (e : off = off') (i) (i') :
    (Rect.unit (s := s) off size i).set = (Rect.unit (s := s) off' size i').set := by subst e; rfl
/-- The quarter sent is the one at the peer's position in the plane. -/
theorem set_sB (h : Fin 8) (c : Dev nD) (r : Fin 3) : (sB h c r).view.set = (rBs h (rot (pPos c) r)).set :=
  ((View.set_reshape _ _).trans (View.set_slice_whole _ _)).trans (unit_set_congr (offB_eq h c r) _ _)
/-- The slice sent is the one at the peer's position along z. -/
theorem set_sR (h : Fin 8) (c : Dev nD) (r : Fin 3) : (sR h c r).view.set = (rRs h (rot (zPos c) r)).set :=
  ((View.set_reshape _ _).trans (View.set_slice_whole _ _)).trans (unit_set_congr (offR_eq h c r) _ _)
/-- The device's own rows are the band at its position along z. -/
theorem set_rQ (h : Fin 8) (c : Dev nD) : (rQ h c).set = tQ h (zPos c) := unit_set_congr (offQ_eq h c) _ _
/-- So is the slice that a copy names. -/
theorem set_sQ (h : Fin 8) (c : Dev nD) : (sQ h c).view.set = tQ h (zPos c) :=
  ((View.set_reshape _ _).trans (View.set_slice_whole _ _)).trans (set_rQ h c)
/-- The device's own quarter is the one at its position in the plane. -/
theorem set_rO (h : Fin 8) (c : Dev nD) : (rO h c).set = tO h (pPos c) := unit_set_congr (offO_eq h c) _ _
/-- So is the slice that a copy names. -/
theorem set_sO (h : Fin 8) (c : Dev nD) : (sO h c).view.set = tO h (pPos c) := (View.set_slice_whole _ _).trans (set_rO h c)

section Slices
variable (c c' : Dev nD) (h : Fin 8) (r : Fin 3) (q : PosShare TreeShare)
/-- A load's target, by its elements. -/
theorem pc_V (f) : pc (F := F) (sV h) c q f = bp cc0_scratch0 c (rV h).set q f := by unfold pc bp; rw [set_sV]
/-- A load's source, by its elements. -/
theorem pc_T (f) : pc (F := F) (sT h) c q f = bp main_arg0 c (rT h).set q f := by unfold pc bp; rw [set_sT]
/-- The quarter sent, by its elements. -/
theorem pc_B (f) : pc (F := F) (sB h c' r) c q f = bp cc0_scratch1 c (rBs h (rot (pPos c') r)).set q f := by unfold pc bp; rw [set_sB]
/-- A slot received within the plane, by its elements. -/
theorem pc_P (f) : pc (F := F) (sP h r) c q f = bp cc0_scratch2 c (rPs h r).set q f := by unfold pc bp; rw [set_sP]
/-- The slice sent, by its elements. -/
theorem pc_R (f) : pc (F := F) (sR h c' r) c q f = bp cc0_scratch3 c (rRs h (rot (zPos c') r)).set q f := by unfold pc bp; rw [set_sR]
/-- A slot received along z, by its elements. -/
theorem pc_Z (f) : pc (F := F) (sZ h r) c q f = bp cc0_scratch4 c (rZs h r).set q f := by unfold pc bp; rw [set_sZ]
/-- A head's finished rows, by their elements. -/
theorem pc_Y (f) : pc (F := F) (sY h) c q f = bp cc0_scratch5 c (rYs h).set q f := by unfold pc bp; rw [set_sY]
/-- A device's band of the gathered rows, by its elements. -/
theorem pc_Q (f) : pc (F := F) (sQ h c') c q f = bp cc0_scratch6 c (tQ h (zPos c')) q f := by unfold pc bp; rw [set_sQ]
/-- A head's gathered rows, by their elements. -/
theorem pc_Qs (f) : pc (F := F) (sQs h) c q f = bp cc0_scratch6 c (rQs h).set q f := by unfold pc bp; rw [set_sQs]
/-- A device's quarter of the result, by its elements. -/
theorem pc_O (f) : pc (F := F) (sO h c') c q f = bp cc0_stg0_0 c (tO h (pPos c')) q f := by unfold pc bp; rw [set_sO]
/-- A load's target at some contents. -/
theorem ex_V : ex (F := F) (sV h) c = bx cc0_scratch0 c (rV h).set := by unfold ex bx; simp only [pc_V]
/-- A slot received within the plane at some contents. -/
theorem ex_P : ex (F := F) (sP h r) c = bx cc0_scratch2 c (rPs h r).set := by unfold ex bx; simp only [pc_P]
/-- A slot received along z at some contents. -/
theorem ex_Z : ex (F := F) (sZ h r) c = bx cc0_scratch4 c (rZs h r).set := by unfold ex bx; simp only [pc_Z]
/-- A device's band of the gathered rows at some contents. -/
theorem ex_Q : ex (F := F) (sQ h c') c = bx cc0_scratch6 c (tQ h (zPos c')) := by unfold ex bx; simp only [pc_Q]
/-- A device's quarter of the result at some contents. -/
theorem ex_O : ex (F := F) (sO h c') c = bx cc0_stg0_0 c (tO h (pPos c')) := by unfold ex bx; simp only [pc_O]
end Slices

/-! ## Shares -/

omit [FloatOps F] in
/-- A piece as the three shares that are sent and the one that stays. -/
theorem bp_shares (b : Ref sig .tc) (c : Dev nD) (S : Finset b.ty.Idx) (f : Buf (Elt F) ((c : Thread nD τ).loc b)) :
    bp b c S fullShare f = iprop(bp b c S (sh 0) f ∗ bp b c S (sh 1) f ∗ bp b c S (sh 2) f ∗ bp b c S shRest f) := by
  have st (q : PosShare TreeShare) : bp b c S q f = iprop(bp b c S q.left f ∗ bp b c S q.right f) :=
    have h : bp b c S q f ⊣⊢ iprop(bp b c S q.left f ∗ bp b c S q.right f) := pointsTo_share (PosShare.mem_left_op_right q)
    BI.Entails.antisymm h.1 h.2
  calc bp b c S fullShare f = iprop(bp b c S fullShare.left f ∗ bp b c S fullShare.right f) := st _
    _ = iprop(bp b c S fullShare.left f ∗ bp b c S fullShare.right.left f ∗ bp b c S fullShare.right.right f) := by rw [st fullShare.right]
    _ = _ := by rw [st fullShare.right.right]; rfl

/-! ## Loads and stores of slots -/

omit [FloatOps F] in
/-- The elements that a load of a rectangle touches. -/
theorem setOn_whole (b : Ref sig .tc) (r : Rect b.ty.shape) : (Memref.whole b : Memref sig .tc b.space b.ty.shape b.ty.elt).view.setOn r.toLoadRect.set = r.set :=
  (View.set_slice _ r).symm.trans (View.set_slice_whole b r)

omit [FloatOps F] in
/-- The elements that a store into a rectangle touches. -/
theorem setOn_access (b : Ref sig .tc) (r : Rect b.ty.shape) :
    ((Memref.whole b : Memref sig .tc b.space b.ty.shape b.ty.elt).access r).setOn Finset.univ = r.set := View.set_slice_whole b r

omit [FloatOps F] in
/-- Contents that read as the vector stored. -/
theorem bp_written (b : Ref sig .tc) (c : Dev nD) (r : Rect b.ty.shape) (f g : Buf (Elt F) ((c : Thread nD τ).loc b)) (X : r.shape.Idx → Elt F b.ty.elt)
    (hg : ((Memref.whole b : Memref sig .tc b.space b.ty.shape b.ty.elt).access r).read (Elt F) g = X) :
    ((c : Thread nD τ).loc b ↦[r.set]{fullShare} ((Memref.whole b : Memref sig .tc b.space b.ty.shape b.ty.elt).access r).write (Elt F) f X Finset.univ : sProp 𝕄)
      = ((c : Thread nD τ).loc b ↦[r.set]{fullShare} g : sProp 𝕄) := by
  rw [← View.set_slice_whole b r]
  exact pts_written (F := F) ((Memref.whole b : Memref sig .tc b.space b.ty.shape b.ty.elt).access r) c fullShare f g X hg

end Cert.KernelIdeal.Heads

end
-- ==== Proof.Stages.lean ====
/-
# The stages of a head

Each stage of a head at a device `c`, once: what it needs, what it leaves, what it returns.
-/
module

public import proofs.«01_k».proof.Proof.Pieces

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Bundles -/

/-- A thing at each of the three distances. -/
def tri (Φ : Fin 3 → sProp 𝕄) : sProp 𝕄 := iprop(Φ 0 ∗ Φ 1 ∗ Φ 2)

/-- Before a copy of phase `k`: its two cells at their start, the credit of its arrival, the two duties' tokens, the slot it writes. -/
def G (k : Fin 4) (c : Dev nD) (h : Fin 8) (r : Fin 3) : sProp 𝕄 :=
  iprop(at0 c (iS k h r) ∗ at0 c (iR k h r) ∗ cred (tallyAt (cR c k h r) () (NN k)) ∗ dutyTok ER (cS c k h r) 0 d0
    ∗ dutyTok ER (cR (peer k r c) k h r) 0 d0 ∗ dE k c h r)
/-- After the send and before the waits. -/
def W (k : Fin 4) (c : Dev nD) (h : Fin 8) (r : Fin 3) : sProp 𝕄 :=
  iprop(at0 c (iS k h r) ∗ at0 c (iR k h r) ∗ cred (tallyAt (cR c k h r) () (NN k)) ∗ cred (tallyAt (cS c k h r) () (NN k)))
/-- The two counters at zero, after the waits. -/
def Zr (k : Fin 4) (c : Dev nD) (h : Fin 8) (r : Fin 3) : sProp 𝕄 := iprop(semVal (cS c k h r) 0 ∗ semVal (cR c k h r) 0)

/-- A program that sends. -/
def SendOK (k : Fin 4) (c : Dev nD) (h : Fin 8) (r : Fin 3) (p : Pg (F := F) PUnit) : Prop :=
  ∀ (n : ℕ) (_ : n = rank (k, h, r)) {α : Type} {Q : α → sProp 𝕄} {kt : PUnit → Pg (F := F) α},
    iprop(ctx m K ∗ dutyTok ER (cS c k h r) 0 d0 ∗ dutyTok ER (cR (peer k r c) k h r) 0 d0 ∗ dE k c h r ∗ sPay m k c h r ∗ ow c (rem c n))
      ⊢ iprop(((cred (tallyAt (cS c k h r) () (NN k)) ∗ ow c (rem c (n + 1))) -∗ WP c (kt ⟨⟩) Q) -∗ WP c (p >>= kt) Q)

/-- Two programs that wait, for the send and for the arrival. -/
def WaitOK (k : Fin 4) (c : Dev nD) (h : Fin 8) (r : Fin 3) (p p' : Pg (F := F) PUnit) : Prop :=
  ∀ (n : ℕ) (_ : 24 * (k.val + 1) ≤ n) {α : Type} {Q : α → sProp 𝕄} {kt : PUnit → Pg (F := F) α},
    iprop(ctx m K ∗ W k c h r ∗ ow c (rem c n))
      ⊢ iprop(((Zr k c h r ∗ (sPay m k c h r ∗ rPay m k c h r) ∗ ow c (rem c n)) -∗ WP c (kt ⟨⟩) Q) -∗ WP c (p >>= fun _ => p' >>= kt) Q)

/-- The three sends of a head. -/
theorem sends3 (k : Fin 4) (c : Dev nD) (h : Fin 8) (p : Fin 3 → Pg (F := F) PUnit) (hp : ∀ r, SendOK m K k c h r (p r))
    (n : ℕ) (hn : n = rank (k, h, 0)) {α : Type} {Q : α → sProp 𝕄} {kt : PUnit → Pg (F := F) α} :
    iprop(ctx m K ∗ tri (G k c h) ∗ tri (sPay m k c h) ∗ ow c (rem c n))
      ⊢ iprop(((tri (W k c h) ∗ ow c (rem c (n + 3))) -∗ WP c (kt ⟨⟩) Q) -∗ WP c (p 0 >>= fun _ => p 1 >>= fun _ => p 2 >>= kt) Q) := by
  unfold tri G W
  iintro ⟨#Hctx, ⟨⟨Hs0, Hr0, Hc0, Ht0, Hu0, Hd0⟩, ⟨Hs1, Hr1, Hc1, Ht1, Hu1, Hd1⟩, ⟨Hs2, Hr2, Hc2, Ht2, Hu2, Hd2⟩⟩, ⟨Hp0, Hp1, Hp2⟩, HO⟩ Hk
  iapply (hp 0 n hn) $$ [Ht0 Hu0 Hd0 Hp0 HO]
  · isplitr; · iexact Hctx
    isplitl [Ht0]; · iexact Ht0
    isplitl [Hu0]; · iexact Hu0
    isplitl [Hd0]; · iexact Hd0
    isplitl [Hp0]; · iexact Hp0
    iexact HO
  iintro ⟨He0, HO⟩
  iapply (hp 1 (n + 1) (by subst hn; rfl)) $$ [Ht1 Hu1 Hd1 Hp1 HO]
  · isplitr; · iexact Hctx
    isplitl [Ht1]; · iexact Ht1
    isplitl [Hu1]; · iexact Hu1
    isplitl [Hd1]; · iexact Hd1
    isplitl [Hp1]; · iexact Hp1
    iexact HO
  iintro ⟨He1, HO⟩
  iapply (hp 2 (n + 1 + 1) (by subst hn; rfl)) $$ [Ht2 Hu2 Hd2 Hp2 HO]
  · isplitr; · iexact Hctx
    isplitl [Ht2]; · iexact Ht2
    isplitl [Hu2]; · iexact Hu2
    isplitl [Hd2]; · iexact Hd2
    isplitl [Hp2]; · iexact Hp2
    iexact HO
  iintro ⟨He2, HO⟩
  iapply Hk
  isplitr [HO]
  · isplitl [Hs0 Hr0 Hc0 He0]
    · isplitl [Hs0]; · iexact Hs0
      isplitl [Hr0]; · iexact Hr0
      isplitl [Hc0]; · iexact Hc0
      iexact He0
    isplitl [Hs1 Hr1 Hc1 He1]
    · isplitl [Hs1]; · iexact Hs1
      isplitl [Hr1]; · iexact Hr1
      isplitl [Hc1]; · iexact Hc1
      iexact He1
    isplitl [Hs2]; · iexact Hs2
    isplitl [Hr2]; · iexact Hr2
    isplitl [Hc2]; · iexact Hc2
    iexact He2
  iexact HO

/-- The six waits of a head. -/
theorem waits3 (k : Fin 4) (c : Dev nD) (h : Fin 8) (p p' : Fin 3 → Pg (F := F) PUnit) (hp : ∀ r, WaitOK m K k c h r (p r) (p' r))
    (n : ℕ) (hn : 24 * (k.val + 1) ≤ n) {α : Type} {Q : α → sProp 𝕄} {kt : PUnit → Pg (F := F) α} :
    iprop(ctx m K ∗ tri (W k c h) ∗ ow c (rem c n))
      ⊢ iprop(((tri (Zr k c h) ∗ tri (sPay m k c h) ∗ tri (rPay m k c h) ∗ ow c (rem c n)) -∗ WP c (kt ⟨⟩) Q)
        -∗ WP c (p 0 >>= fun _ => p' 0 >>= fun _ => p 1 >>= fun _ => p' 1 >>= fun _ => p 2 >>= fun _ => p' 2 >>= kt) Q) := by
  unfold tri
  iintro ⟨#Hctx, ⟨H0, H1, H2⟩, HO⟩ Hk
  iapply (hp 0 n hn) $$ [H0 HO]
  · isplitr; · iexact Hctx
    isplitl [H0]; · iexact H0
    iexact HO
  iintro ⟨Hz0, ⟨Hs0, Hr0⟩, HO⟩
  iapply (hp 1 n hn) $$ [H1 HO]
  · isplitr; · iexact Hctx
    isplitl [H1]; · iexact H1
    iexact HO
  iintro ⟨Hz1, ⟨Hs1, Hr1⟩, HO⟩
  iapply (hp 2 n hn) $$ [H2 HO]
  · isplitr; · iexact Hctx
    isplitl [H2]; · iexact H2
    iexact HO
  iintro ⟨Hz2, ⟨Hs2, Hr2⟩, HO⟩
  iapply Hk
  isplitl [Hz0 Hz1 Hz2]
  · isplitl [Hz0]; · iexact Hz0
    isplitl [Hz1]; · iexact Hz1
    iexact Hz2
  isplitl [Hs0 Hs1 Hs2]
  · isplitl [Hs0]; · iexact Hs0
    isplitl [Hs1]; · iexact Hs1
    iexact Hs2
  isplitr [HO]
  · isplitl [Hr0]; · iexact Hr0
    isplitl [Hr1]; · iexact Hr1
    iexact Hr2
  iexact HO

/-- What a copy of phase 0 credits at both ends. -/
theorem credit0 (c : Dev nD) (h : Fin 8) (r : Fin 3) : (sB h c r).view.dmaCredit = NN 0 ∧ (sP h r).view.dmaCredit = NN 0 := ⟨rfl, rfl⟩
/-- What a copy of phase 1 credits at both ends. -/
theorem credit1 (c : Dev nD) (h : Fin 8) (r : Fin 3) : (sR h c r).view.dmaCredit = NN 1 ∧ (sZ h r).view.dmaCredit = NN 1 := ⟨rfl, rfl⟩
/-- What a copy of phase 2 credits at both ends. -/
theorem credit2 (c : Dev nD) (h : Fin 8) (r : Fin 3) : (sY h).view.dmaCredit = NN 2 ∧ (sQ h c).view.dmaCredit = NN 2 := ⟨rfl, rfl⟩
/-- What a copy of phase 3 credits at both ends. -/
theorem credit3 (c : Dev nD) (h : Fin 8) (r : Fin 3) : (sQs h).view.dmaCredit = NN 3 ∧ (sO h c).view.dmaCredit = NN 3 := ⟨rfl, rfl⟩
/-- The two waits of a copy of phase 0. -/
theorem wait0 (c : Dev nD) (h : Fin 8) (r : Fin 3) : WaitOK m K 0 c h r (waitS0 c h r) (waitR0 c h r) := by
  intro n hn α Q kt
  unfold W Zr
  simp only [waitS0, waitR0, Prog.lift, Prog.bind_op, Prog.bind_ret]
  exact wait_pair m K c 0 h r (fun Kt => (wpE_waitDma2_eq 𝒱₀ _ none Set.univ Kt).trans (by rw [(credit0 c h r).1]))
    (fun Kt => (wpE_waitDma2_eq 𝒱₀ _ none Set.univ Kt).trans (by rw [(credit0 c h r).2])) n hn
/-- The two waits of a copy of phase 1. -/
theorem wait1 (c : Dev nD) (h : Fin 8) (r : Fin 3) : WaitOK m K 1 c h r (waitS1 c h r) (waitR1 c h r) := by
  intro n hn α Q kt
  unfold W Zr
  simp only [waitS1, waitR1, Prog.lift, Prog.bind_op, Prog.bind_ret]
  exact wait_pair m K c 1 h r (fun Kt => (wpE_waitDma2_eq 𝒱₀ _ none Set.univ Kt).trans (by rw [(credit1 c h r).1]))
    (fun Kt => (wpE_waitDma2_eq 𝒱₀ _ none Set.univ Kt).trans (by rw [(credit1 c h r).2])) n hn
/-- The two waits of a copy of phase 2. -/
theorem wait2 (c : Dev nD) (h : Fin 8) (r : Fin 3) : WaitOK m K 2 c h r (waitS2 c h r) (waitR2 c h r) := by
  intro n hn α Q kt
  unfold W Zr
  simp only [waitS2, waitR2, Prog.lift, Prog.bind_op, Prog.bind_ret]
  exact wait_pair m K c 2 h r (fun Kt => (wpE_waitDma2_eq 𝒱₀ _ none Set.univ Kt).trans (by rw [(credit2 c h r).1]))
    (fun Kt => (wpE_waitDma2_eq 𝒱₀ _ none Set.univ Kt).trans (by rw [(credit2 c h r).2])) n hn
/-- The two waits of a copy of phase 3. -/
theorem wait3 (c : Dev nD) (h : Fin 8) (r : Fin 3) : WaitOK m K 3 c h r (waitS3 c h r) (waitR3 c h r) := by
  intro n hn α Q kt
  unfold W Zr
  simp only [waitS3, waitR3, Prog.lift, Prog.bind_op, Prog.bind_ret]
  exact wait_pair m K c 3 h r (fun Kt => (wpE_waitDma2_eq 𝒱₀ _ none Set.univ Kt).trans (by rw [(credit3 c h r).1]))
    (fun Kt => (wpE_waitDma2_eq 𝒱₀ _ none Set.univ Kt).trans (by rw [(credit3 c h r).2])) n hn

/-! ## Quarters and slices -/

/-- A quarter of the loaded columns is in its head's piece. -/
theorem vq_sub (h : Fin 8) (i : Fin 4) : (rVq h i).set ⊆ (rV h).set := by
  intro x hx
  rw [Rect.mem_set_unit] at hx ⊢
  have hi := i.isLt
  intro a
  have := hx a
  fin_cases a <;> simp at this ⊢ <;> omega

/-- A quarter, rounded and stored. -/
theorem wp_quarter (c : Dev nD) (h : Fin 8) (i : Fin 4) {α : Type} {Q : α → sProp 𝕄} {kt : FVec F S512x128 .bf16 → Pg (F := F) α} :
    iprop(bp cc0_scratch0 c (rV h).set fullShare (fV m c) ∗ bx cc0_scratch1 c (rBs h i).set)
      ⊢ iprop(((bp cc0_scratch0 c (rV h).set fullShare (fV m c) ∗ bp cc0_scratch1 c (rBs h i).set fullShare (fB m c)) -∗ WP c (kt (qq m c h i)) Q)
        -∗ WP c (quarterP h i >>= kt) Q) := by
  simp only [quarterP, Prog.lift, Prog.bind_op, Prog.bind_ret, Prog.pure_eq_ret]
  unfold bx bp
  iintro ⟨HV, ⟨%f, HB⟩⟩ Hk
  iapply (wp_load 𝒱₀ (c : Thread nD τ) none Set.univ (m := mV) ((setOn_whole cc0_scratch0 (rVq h i)).trans_subset (vq_sub h i))) $$ HV
  iintro HV
  iapply (wp_load 𝒱₀ (c : Thread nD τ) none Set.univ (m := mB) (setOn_whole cc0_scratch1 (rBs h i)).subset) $$ HB
  iintro HB
  iapply (wp_store 𝒱₀ (c : Thread nD τ) none Set.univ (m := mB) (r := rBs h i) (Mk := Finset.univ) (S := (rBs h i).set) (setOn_access cc0_scratch1 (rBs h i)).subset) $$ HB
  iintro HB
  iapply Hk
  isplitl [HV]; · iexact HV
  iapply (Entails.of_eq (bp_written cc0_scratch1 c (rBs h i) f (fB m c) _ (E_B m c h i)))
  iexact HB

/-- A slice of the plane sum stored. -/
theorem wp_rstore (c : Dev nD) (h : Fin 8) (i : Fin 4) {α : Type} {Q : α → sProp 𝕄} {kt : PUnit → Pg (F := F) α} :
    bx cc0_scratch3 c (rRs h i).set
      ⊢ iprop((bp cc0_scratch3 c (rRs h i).set fullShare (fR m c) -∗ WP c (kt ⟨⟩) Q) -∗ WP c (rstoreP h (sumP m c h) i >>= kt) Q) := by
  simp only [rstoreP, Prog.lift, Prog.bind_op, Prog.bind_ret, Prog.pure_eq_ret]
  unfold bx bp
  iintro ⟨%f, HB⟩ Hk
  iapply (wp_load 𝒱₀ (c : Thread nD τ) none Set.univ (m := mR) (setOn_whole cc0_scratch3 (rRs h i)).subset) $$ HB
  iintro HB
  iapply (wp_store 𝒱₀ (c : Thread nD τ) none Set.univ (m := mR) (r := rRs h i) (Mk := Finset.univ) (S := (rRs h i).set) (setOn_access cc0_scratch3 (rRs h i)).subset) $$ HB
  iintro HB
  iapply Hk
  iapply (Entails.of_eq (bp_written cc0_scratch3 c (rRs h i) f (fR m c) _ (E_R m c h i)))
  iexact HB

/-! ## The states of a head -/

/-- What a head leaves after its first stage, and so on. -/
def E1 (c : Dev nD) (h : Fin 8) : sProp 𝕄 :=
  iprop(semVal (cL c h) 0 ∗ bp cc0_scratch0 c (rV h).set fullShare (fV m c) ∗ bp cc0_scratch1 c (rBs h (pPos c)).set fullShare (fB m c))
def E2 (c : Dev nD) (h : Fin 8) : sProp 𝕄 :=
  iprop(tri (Zr 0 c h) ∗ tri (sPay m 0 c h) ∗ tri (rPay m 0 c h) ∗ bp cc0_scratch3 c (rRs h (zPos c)).set fullShare (fR m c))
def E3 (c : Dev nD) (h : Fin 8) : sProp 𝕄 :=
  iprop(tri (Zr 1 c h) ∗ tri (sPay m 1 c h) ∗ tri (rPay m 1 c h) ∗ bp cc0_scratch5 c (rYs h).set shRest (fY m c))
def E4 (c : Dev nD) (h : Fin 8) : sProp 𝕄 :=
  iprop(tri (Zr 2 c h) ∗ tri (sPay m 2 c h) ∗ bp cc0_scratch6 c (rQs h).set shRest (fQ m c) ∗ bp cc0_stg0_0 c (tO h (pPos c)) fullShare (fO m c))
def E5 (c : Dev nD) (h : Fin 8) : sProp 𝕄 := iprop(tri (Zr 3 c h) ∗ tri (sPay m 3 c h) ∗ tri (rPay m 3 c h))

/-- What a later stage of a head still needs. -/
def N2 (c : Dev nD) (h : Fin 8) : sProp 𝕄 := iprop(tri (G (F := F) 1 c h) ∗ bigSep Finset.univ fun i : Fin 4 => bx cc0_scratch3 c (rRs h i).set)
def N3 (c : Dev nD) (h : Fin 8) : sProp 𝕄 := iprop(tri (G (F := F) 2 c h) ∗ bx cc0_scratch5 c (rYs h).set ∗ bx cc0_scratch6 c (tQ h (zPos c)))
def N4 (c : Dev nD) (h : Fin 8) : sProp 𝕄 := iprop(tri (G (F := F) 3 c h) ∗ bx cc0_stg0_0 c (tO h (pPos c)))

/-- A head before its stages, the load being under way. -/
def S0 (c : Dev nD) (h : Fin 8) : sProp 𝕄 :=
  iprop((at0 c (iL h) ∗ cred (tallyAt (cL c h) () NL) ∗ tri (G (F := F) 0 c h) ∗ bigSep Finset.univ fun i : Fin 4 => bx cc0_scratch1 c (rBs h i).set)
    ∗ N2 c h ∗ N3 c h ∗ N4 c h)
def S1 (c : Dev nD) (h : Fin 8) : sProp 𝕄 := iprop(tri (W (F := F) 0 c h) ∗ E1 m c h ∗ N2 c h ∗ N3 c h ∗ N4 c h)
def S2 (c : Dev nD) (h : Fin 8) : sProp 𝕄 := iprop(tri (W (F := F) 1 c h) ∗ (E1 m c h ∗ E2 m c h) ∗ N3 c h ∗ N4 c h)
def S3 (c : Dev nD) (h : Fin 8) : sProp 𝕄 :=
  iprop(tri (W (F := F) 2 c h) ∗ (E1 m c h ∗ E2 m c h ∗ E3 m c h) ∗ bp cc0_scratch6 c (tQ h (zPos c)) fullShare (fQ m c) ∗ N4 c h)
def S4 (c : Dev nD) (h : Fin 8) : sProp 𝕄 := iprop(tri (W (F := F) 3 c h) ∗ E1 m c h ∗ E2 m c h ∗ E3 m c h ∗ E4 m c h)
/-- A head at its end. -/
def S5 (c : Dev nD) (h : Fin 8) : sProp 𝕄 := iprop(E1 m c h ∗ E2 m c h ∗ E3 m c h ∗ E4 m c h ∗ E5 m c h)

/-- The slots of `tb`: the device's own and the three it sends. -/
theorem slotsB (c : Dev nD) (h : Fin 8) :
    bigSep Finset.univ (fun i : Fin 4 => bp cc0_scratch1 c (rBs h i).set fullShare (fB m c))
      = iprop(bp cc0_scratch1 c (rBs h (pPos c)).set fullShare (fB m c) ∗ tri (sPay m 0 c h)) := by
  rw [four_rot (pPos c), ← pc_B c c h 0, ← pc_B c c h 1, ← pc_B c c h 2]; rfl
/-- The four slices of a plane sum are the device's own and the three it sends. -/
theorem slotsR (c : Dev nD) (h : Fin 8) :
    bigSep Finset.univ (fun i : Fin 4 => bp cc0_scratch3 c (rRs h i).set fullShare (fR m c))
      = iprop(bp cc0_scratch3 c (rRs h (zPos c)).set fullShare (fR m c) ∗ tri (sPay m 1 c h)) := by
  rw [four_rot (zPos c), ← pc_R c c h 0, ← pc_R c c h 1, ← pc_R c c h 2]; rfl
/-- A load hands over its head's columns as loaded. -/
theorem lPay_eq (c : Dev nD) (h : Fin 8) : payOf m c (iL h) d0 = bp cc0_scratch0 c (rV h).set fullShare (fV m c) := pc_V c h fullShare (fV m c)

/-- What a load credits. -/
theorem creditL (h : Fin 8) : (sV h).view.dmaCredit = NL := rfl

/-- The load's wait, -/
theorem wp_waitL (c : Dev nD) (h : Fin 8) (n : ℕ) {α : Type} {Q : α → sProp 𝕄} {kt : PUnit → Pg (F := F) α} {hs hd} :
    iprop(ctx m K ∗ at0 c (iL h) ∗ cred (tallyAt (cL c h) () NL) ∗ ow c (rem c n))
      ⊢ iprop(((semVal (cL c h) 0 ∗ bp cc0_scratch0 c (rV h).set fullShare (fV m c) ∗ ow c (rem c n)) -∗ WP c (kt ⟨⟩) Q)
        -∗ WP c (.op (.waitDma2 (semL h) (sT h) (sV h) hs hd) kt) Q) := by
  rw [← lPay_eq m c h]
  exact wait_own m K c (.inl h) (fun Kt => (wpE_waitDma2_eq (src := sT h) (dst := sV h) (hsrc := hs) (hdst := hd) 𝒱₀ _ none Set.univ Kt).trans (by rw [creditL h]; rfl)) n (fun x _ => Nat.succ_pos _)

/-- The first stage. -/
theorem wp_stage1 (c : Dev nD) (h : Fin 8) (n : ℕ) (hn : n = rank (0, h, 0)) {α : Type} {Q : α → sProp 𝕄} {kt : Quarters F → Pg (F := F) α} :
    iprop(ctx m K ∗ S0 c h ∗ ow c (rem c n))
      ⊢ iprop(((S1 m c h ∗ ow c (rem c (n + 3))) -∗ WP c (kt (Qs m c h)) Q) -∗ WP c (stage1 c h >>= kt) Q) := by
  simp only [stage1, Prog.bind_assoc, Prog.lift, Prog.bind_op, Prog.bind_ret, Prog.pure_eq_ret]
  unfold S0 S1 E1
  rw [four (fun i => bx cc0_scratch1 c (rBs h i).set)]
  iintro ⟨#Hctx, ⟨⟨HaL, HcL, HG, HB0, HB1, HB2, HB3⟩, HN⟩, HO⟩ Hk
  iapply (wp_waitL m K c h n) $$ [HaL HcL HO]
  · isplitr; · iexact Hctx
    isplitl [HaL]; · iexact HaL
    isplitl [HcL]; · iexact HcL
    iexact HO
  iintro ⟨HzL, HV, HO⟩
  iapply (wp_quarter m c h 0) $$ [HV HB0]
  · isplitl [HV]; · iexact HV
    iexact HB0
  iintro ⟨HV, HB0⟩
  iapply (wp_quarter m c h 1) $$ [HV HB1]
  · isplitl [HV]; · iexact HV
    iexact HB1
  iintro ⟨HV, HB1⟩
  iapply (wp_quarter m c h 2) $$ [HV HB2]
  · isplitl [HV]; · iexact HV
    iexact HB2
  iintro ⟨HV, HB2⟩
  iapply (wp_quarter m c h 3) $$ [HV HB3]
  · isplitl [HV]; · iexact HV
    iexact HB3
  iintro ⟨HV, HB3⟩
  ihave HB := (Entails.of_eq ((four (fun i => bp cc0_scratch1 c (rBs h i).set fullShare (fB m c))).symm.trans (slotsB m c h))) $$ [HB0 HB1 HB2 HB3]
  · isplitl [HB0]; · iexact HB0
    isplitl [HB1]; · iexact HB1
    isplitl [HB2]; · iexact HB2
    iexact HB3
  icases HB with ⟨HB, HS⟩
  iapply (sends3 m K 0 c h (fun r => send0 c h r) (fun r n hn _ _ _ => wp_send0 m K c h r n hn) n hn) $$ [HG HS HO]
  · isplitr; · iexact Hctx
    isplitl [HG]; · iexact HG
    isplitl [HS]; · iexact HS
    iexact HO
  iintro ⟨HW, HO⟩
  iapply Hk
  isplitr [HO]
  · isplitl [HW]; · iexact HW
    isplitl [HzL HV HB]
    · isplitl [HzL]; · iexact HzL
      isplitl [HV]; · iexact HV
      iexact HB
    iexact HN
  iexact HO

/-- A stage's sends come after all those of the stages before. -/
theorem le_rank {n : ℕ} {j k : Fin 4} {h : Fin 8} (hn : n = rank (k, h, 0)) (hk : k.val = j.val + 1 := by rfl) : 24 * (j.val + 1) ≤ n := by
  subst hn; rw [← hk]; exact Nat.le_add_right_of_le (Nat.le_add_right _ _)

/-- The slots of the received quarters. -/
theorem slotsP (c : Dev nD) (h : Fin 8) : tri (rPay m 0 c h) = iprop(bp cc0_scratch2 c (rPs h 0).set fullShare (fP m c)
    ∗ bp cc0_scratch2 c (rPs h 1).set fullShare (fP m c) ∗ bp cc0_scratch2 c (rPs h 2).set fullShare (fP m c)) := by
  rw [← pc_P, ← pc_P, ← pc_P]; rfl
/-- The three arrivals along z are the three slots at the contents received. -/
theorem slotsZ (c : Dev nD) (h : Fin 8) : tri (rPay m 1 c h) = iprop(bp cc0_scratch4 c (rZs h 0).set fullShare (fZ m c)
    ∗ bp cc0_scratch4 c (rZs h 1).set fullShare (fZ m c) ∗ bp cc0_scratch4 c (rZs h 2).set fullShare (fZ m c)) := by
  rw [← pc_Z, ← pc_Z, ← pc_Z]; rfl
/-- The finished rows as the three shares sent and the one that stays. -/
theorem slotsY (c : Dev nD) (h : Fin 8) : bp cc0_scratch5 c (rYs h).set fullShare (fY m c)
    = iprop(tri (sPay m 2 c h) ∗ bp cc0_scratch5 c (rYs h).set shRest (fY m c)) := by
  rw [bp_shares, ← pc_Y c h (sh 0), ← pc_Y c h (sh 1), ← pc_Y c h (sh 2)]
  show iprop(sPay m 2 c h 0 ∗ sPay m 2 c h 1 ∗ sPay m 2 c h 2 ∗ _) = iprop((sPay m 2 c h 0 ∗ sPay m 2 c h 1 ∗ sPay m 2 c h 2) ∗ _)
  simp only [sepA]
/-- A head's gathered rows are the shares of its three copies and what is left. -/
theorem slotsQs (c : Dev nD) (h : Fin 8) : bp cc0_scratch6 c (rQs h).set fullShare (fQ m c)
    = iprop(tri (sPay m 3 c h) ∗ bp cc0_scratch6 c (rQs h).set shRest (fQ m c)) := by
  rw [bp_shares, ← pc_Qs c h (sh 0), ← pc_Qs c h (sh 1), ← pc_Qs c h (sh 2)]
  show iprop(sPay m 3 c h 0 ∗ sPay m 3 c h 1 ∗ sPay m 3 c h 2 ∗ _) = iprop((sPay m 3 c h 0 ∗ sPay m 3 c h 1 ∗ sPay m 3 c h 2) ∗ _)
  simp only [sepA]

/-- The second stage. -/
theorem wp_stage2 (c : Dev nD) (h : Fin 8) (n : ℕ) (hn : n = rank (1, h, 0)) {α : Type} {Q : α → sProp 𝕄} {kt : FVec F S128x128 .bf16 → Pg (F := F) α} :
    iprop(ctx m K ∗ S1 m c h ∗ ow c (rem c n))
      ⊢ iprop(((S2 m c h ∗ ow c (rem c (n + 3))) -∗ WP c (kt (own m c h)) Q) -∗ WP c (stage2 c h (Qs m c h) >>= kt) Q) := by
  simp only [stage2, Prog.bind_assoc, Prog.lift, Prog.bind_op, Prog.bind_ret, Prog.pure_eq_ret]
  unfold S1 S2 N2 E2
  rw [four (fun i => bx cc0_scratch3 c (rRs h i).set)]
  iintro ⟨#Hctx, ⟨HW, HE1, ⟨HG, HR0, HR1, HR2, HR3⟩, HN⟩, HO⟩ Hk
  iapply (waits3 m K 0 c h (fun r => waitS0 c h r) (fun r => waitR0 c h r) (fun r => wait0 m K c h r) n (le_rank hn)) $$ [HW HO]
  · isplitr; · iexact Hctx
    isplitl [HW]; · iexact HW
    iexact HO
  iintro ⟨Hz, HsP, HrP, HO⟩
  ihave HrP := (Entails.of_eq (slotsP m c h)) $$ HrP
  icases HrP with ⟨HP0, HP1, HP2⟩
  unfold bp
  iapply (wp_load 𝒱₀ (c : Thread nD τ) none Set.univ (m := mP) (setOn_whole cc0_scratch2 (rPs h 0)).subset) $$ HP0
  iintro HP0
  iapply (wp_load 𝒱₀ (c : Thread nD τ) none Set.univ (m := mP) (setOn_whole cc0_scratch2 (rPs h 1)).subset) $$ HP1
  iintro HP1
  iapply (wp_load 𝒱₀ (c : Thread nD τ) none Set.univ (m := mP) (setOn_whole cc0_scratch2 (rPs h 2)).subset) $$ HP2
  iintro HP2
  ihave HrP := (Entails.of_eq (slotsP m c h).symm) $$ [HP0 HP1 HP2]
  · unfold bp
    isplitl [HP0]; · iexact HP0
    isplitl [HP1]; · iexact HP1
    iexact HP2
  iapply (wp_rstore m c h 0) $$ HR0
  iintro HR0
  iapply (wp_rstore m c h 1) $$ HR1
  iintro HR1
  iapply (wp_rstore m c h 2) $$ HR2
  iintro HR2
  iapply (wp_rstore m c h 3) $$ HR3
  iintro HR3
  ihave HR := (Entails.of_eq ((four (fun i => bp cc0_scratch3 c (rRs h i).set fullShare (fR m c))).symm.trans (slotsR m c h))) $$ [HR0 HR1 HR2 HR3]
  · isplitl [HR0]; · iexact HR0
    isplitl [HR1]; · iexact HR1
    isplitl [HR2]; · iexact HR2
    iexact HR3
  icases HR with ⟨HR, HS⟩
  iapply (sends3 m K 1 c h (fun r => send1 c h r) (fun r n hn _ _ _ => wp_send1 m K c h r n hn) n hn) $$ [HG HS HO]
  · isplitr; · iexact Hctx
    isplitl [HG]; · iexact HG
    isplitl [HS]; · iexact HS
    iexact HO
  iintro ⟨HW, HO⟩
  unfold bp
  iapply Hk
  isplitr [HO]
  · isplitl [HW]; · iexact HW
    isplitr [HN]
    · isplitl [HE1]; · iexact HE1
      isplitl [Hz]; · iexact Hz
      isplitl [HsP]; · iexact HsP
      isplitl [HrP]; · iexact HrP
      iexact HR
    iexact HN
  iexact HO

/-- The rows of `q_send` of a head are those of the four positions along z. -/
theorem cutQ (h : Fin 8) : (Finset.univ.biUnion fun z : Fin 4 => tQ h z) = (rQs h).set := by
  ext x
  have h0 : (x 0).val < 8 := (x 0).isLt
  have h1 : (x 1).val < 512 := (x 1).isLt
  have h2 : (x 2).val < 128 := (x 2).isLt
  simp only [Finset.mem_biUnion, Finset.mem_univ, true_and, tQ, Rect.mem_set_unit]
  constructor
  · rintro ⟨z, hz⟩ a
    have := hz a; have hz' := z.isLt
    fin_cases a <;> simp at this ⊢ <;> omega
  · intro hx
    refine ⟨⟨(x 1).val / 128, by omega⟩, fun a => ?_⟩
    have := hx a
    fin_cases a <;> simp at this ⊢ <;> omega
/-- Bands at different positions have no element in common. -/
theorem disjQ (h : Fin 8) (z z' : Fin 4) (hz : z ≠ z') : Disjoint (tQ h z) (tQ h z') := by
  refine Rect.unit_disjoint 1 ?_
  have : z.val ≠ z'.val := fun e => hz (Fin.ext e)
  simp; omega

/-- The position along z of a peer along z. -/
theorem zPos_zz (r : Fin 3) (c : Dev nD) : zPos (zz r c) = rot (zPos c) r := by revert r c; decide +kernel
/-- The position in the plane of a peer in the plane. -/
theorem pPos_pp (r : Fin 3) (c : Dev nD) : pPos (pp r c) = rot (pPos c) r := by revert r c; decide +kernel

/-- The device's own rows and those received make the head's rows. -/
theorem slotsQ (c : Dev nD) (h : Fin 8) :
    iprop(bp cc0_scratch6 c (tQ h (zPos c)) fullShare (fQ m c) ∗ tri (rPay m 2 c h)) = bp cc0_scratch6 c (rQs h).set fullShare (fQ m c) := by
  have e : bp cc0_scratch6 c (rQs h).set fullShare (fQ m c) = bigSep Finset.univ fun z : Fin 4 => bp cc0_scratch6 c (tQ h z) fullShare (fQ m c) := by
    unfold bp; rw [← cutQ h]; exact pointsTo_biUnion Finset.univ _ (fun z _ z' _ hz => disjQ h z z' hz)
  have ez : ∀ (r : Fin 3), zPos (zz r c) = rot (zPos c) r := fun r => zPos_zz r c
  rw [e, four_tor (zPos c), ← ez, ← ez, ← ez, ← pc_Q c (zz (rv 0) c), ← pc_Q c (zz (rv 1) c), ← pc_Q c (zz (rv 2) c)]; rfl

/-- After its store the finished rows hold their contents. -/
theorem stored_Y (c : Dev nD) (h : Fin 8) (f : Buf (Elt F) ((c : Thread nD τ).loc cc0_scratch5)) :
    ((c : Thread nD τ).loc cc0_scratch5 ↦[(rYs h).set]{fullShare} (mY.access (rYs h)).write (Elt F) f (shapeCast S1x128x128
        (k0_pay125 (own m c h) (mZ.view.readAt (Elt F) (rZs h 0).toLoadRect (fZ m c)) (mZ.view.readAt (Elt F) (rZs h 1).toLoadRect (fZ m c))
          (mZ.view.readAt (Elt F) (rZs h 2).toLoadRect (fZ m c))) shapeCasts_S128x128_S1x128x128) Finset.univ : sProp 𝕄)
      = iprop(tri (sPay m 2 c h) ∗ ((c : Thread nD τ).loc cc0_scratch5 ↦[(rYs h).set]{shRest} fY m c)) :=
  (bp_written cc0_scratch5 c (rYs h) f (fY m c) _ (E_Y m c h)).trans (slotsY m c h)
/-- After its store the device's own band of the gathered rows holds its contents. -/
theorem stored_Q (c : Dev nD) (h : Fin 8) (f : Buf (Elt F) ((c : Thread nD τ).loc cc0_scratch6)) :
    ((c : Thread nD τ).loc cc0_scratch6 ↦[tQ h (zPos c)]{fullShare} (mQ.access (rQ h c)).write (Elt F) f (shapeCast S1x128x128
        (k0_pay125 (own m c h) (mZ.view.readAt (Elt F) (rZs h 0).toLoadRect (fZ m c)) (mZ.view.readAt (Elt F) (rZs h 1).toLoadRect (fZ m c))
          (mZ.view.readAt (Elt F) (rZs h 2).toLoadRect (fZ m c))) shapeCasts_S128x128_S1x128x128) Finset.univ : sProp 𝕄)
      = ((c : Thread nD τ).loc cc0_scratch6 ↦[tQ h (zPos c)]{fullShare} fQ m c : sProp 𝕄) := by
  rw [← set_rQ]
  exact bp_written cc0_scratch6 c (rQ h c) f (fQ m c) _ (E_Qs m c h)
/-- After its store the device's own quarter of the result holds its contents. -/
theorem stored_O (c : Dev nD) (h : Fin 8) (f : Buf (Elt F) ((c : Thread nD τ).loc cc0_stg0_0)) :
    ((c : Thread nD τ).loc cc0_stg0_0 ↦[tO h (pPos c)]{fullShare} (mO.access (rO h c)).write (Elt F) f (k0_pay155 (mQ.view.readAt (Elt F) (rQs h).toLoadRect (fQ m c))) Finset.univ : sProp 𝕄)
      = ((c : Thread nD τ).loc cc0_stg0_0 ↦[tO h (pPos c)]{fullShare} fO m c : sProp 𝕄) := by
  rw [← set_rO]
  exact bp_written cc0_stg0_0 c (rO h c) f (fO m c) _ (E_Os m c h)

/-- The third stage. -/
theorem wp_stage3 (c : Dev nD) (h : Fin 8) (n : ℕ) (hn : n = rank (2, h, 0)) {α : Type} {Q : α → sProp 𝕄} {kt : PUnit → Pg (F := F) α} :
    iprop(ctx m K ∗ S2 m c h ∗ ow c (rem c n))
      ⊢ iprop(((S3 m c h ∗ ow c (rem c (n + 3))) -∗ WP c (kt ⟨⟩) Q) -∗ WP c (stage3 c h (own m c h) >>= kt) Q) := by
  simp only [stage3, Prog.bind_assoc, Prog.lift, Prog.bind_op, Prog.bind_ret, Prog.pure_eq_ret]
  unfold S2 S3 N3 E3
  iintro ⟨#Hctx, ⟨HW, HE1, ⟨HG, HY, HQ⟩, HN⟩, HO⟩ Hk
  iapply (waits3 m K 1 c h (fun r => waitS1 c h r) (fun r => waitR1 c h r) (fun r => wait1 m K c h r) n (le_rank hn)) $$ [HW HO]
  · isplitr; · iexact Hctx
    isplitl [HW]; · iexact HW
    iexact HO
  iintro ⟨Hz, HsP, HrP, HO⟩
  ihave HrP := (Entails.of_eq (slotsZ m c h)) $$ HrP
  icases HrP with ⟨HP0, HP1, HP2⟩
  unfold bx bp
  icases HY with ⟨%fy, HY⟩
  icases HQ with ⟨%fq, HQ⟩
  iapply (wp_load 𝒱₀ (c : Thread nD τ) none Set.univ (m := mZ) (setOn_whole cc0_scratch4 (rZs h 0)).subset) $$ HP0
  iintro HP0
  iapply (wp_load 𝒱₀ (c : Thread nD τ) none Set.univ (m := mZ) (setOn_whole cc0_scratch4 (rZs h 1)).subset) $$ HP1
  iintro HP1
  iapply (wp_load 𝒱₀ (c : Thread nD τ) none Set.univ (m := mZ) (setOn_whole cc0_scratch4 (rZs h 2)).subset) $$ HP2
  iintro HP2
  ihave HrP := (Entails.of_eq (slotsZ m c h).symm) $$ [HP0 HP1 HP2]
  · unfold bp
    isplitl [HP0]; · iexact HP0
    isplitl [HP1]; · iexact HP1
    iexact HP2
  iapply (wp_load 𝒱₀ (c : Thread nD τ) none Set.univ (m := mY) (setOn_whole cc0_scratch5 (rYs h)).subset) $$ HY
  iintro HY
  iapply (wp_store 𝒱₀ (c : Thread nD τ) none Set.univ (m := mY) (r := rYs h) (Mk := Finset.univ) (S := (rYs h).set) (setOn_access cc0_scratch5 (rYs h)).subset) $$ HY
  iintro HY
  ihave HY := (Entails.of_eq (stored_Y m c h fy)) $$ HY
  icases HY with ⟨HS, HY⟩
  iapply (sends3 m K 2 c h (fun r => send2 c h r) (fun r n hn _ _ _ => wp_send2 m K c h r n hn) n hn) $$ [HG HS HO]
  · isplitr; · iexact Hctx
    isplitl [HG]; · iexact HG
    isplitl [HS]; · iexact HS
    iexact HO
  iintro ⟨HW, HO⟩
  iapply (wp_load 𝒱₀ (c : Thread nD τ) none Set.univ (m := mQ) ((setOn_whole cc0_scratch6 (rQ h c)).trans (set_rQ h c)).subset) $$ HQ
  iintro HQ
  iapply (wp_store 𝒱₀ (c : Thread nD τ) none Set.univ (m := mQ) (r := rQ h c) (Mk := Finset.univ) (S := tQ h (zPos c)) ((setOn_access cc0_scratch6 (rQ h c)).trans (set_rQ h c)).subset) $$ HQ
  iintro HQ
  iapply Hk
  isplitr [HO]
  · isplitl [HW]; · iexact HW
    isplitl [HE1 Hz HsP HrP HY]
    · icases HE1 with ⟨HE1, HE2⟩
      isplitl [HE1]; · iexact HE1
      isplitl [HE2]; · iexact HE2
      isplitl [Hz]; · iexact Hz
      isplitl [HsP]; · iexact HsP
      isplitl [HrP]; · iexact HrP
      iexact HY
    isplitl [HQ]
    · iapply (Entails.of_eq (stored_Q m c h fq))
      iexact HQ
    iexact HN
  iexact HO

/-- The fourth stage. -/
theorem wp_stage4 (c : Dev nD) (h : Fin 8) (n : ℕ) (hn : n = rank (3, h, 0)) {α : Type} {Q : α → sProp 𝕄} {kt : PUnit → Pg (F := F) α} :
    iprop(ctx m K ∗ S3 m c h ∗ ow c (rem c n))
      ⊢ iprop(((S4 m c h ∗ ow c (rem c (n + 3))) -∗ WP c (kt ⟨⟩) Q) -∗ WP c (stage4 c h >>= kt) Q) := by
  simp only [stage4, Prog.bind_assoc, Prog.lift, Prog.bind_op, Prog.bind_ret, Prog.pure_eq_ret]
  unfold S3 S4 N4 E4
  iintro ⟨#Hctx, ⟨HW, ⟨HE1, HE2, HE3⟩, HQ, HG, HOut⟩, HO⟩ Hk
  iapply (waits3 m K 2 c h (fun r => waitS2 c h r) (fun r => waitR2 c h r) (fun r => wait2 m K c h r) n (le_rank hn)) $$ [HW HO]
  · isplitr; · iexact Hctx
    isplitl [HW]; · iexact HW
    iexact HO
  iintro ⟨Hz, HsP, HrP, HO⟩
  ihave HQ := (Entails.of_eq ((slotsQ m c h).trans (slotsQs m c h))) $$ [HQ HrP]
  · isplitl [HQ]; · iexact HQ
    iexact HrP
  icases HQ with ⟨HS, HQ⟩
  iapply (sends3 m K 3 c h (fun r => send3 c h r) (fun r n hn _ _ _ => wp_send3 m K c h r n hn) n hn) $$ [HG HS HO]
  · isplitr; · iexact Hctx
    isplitl [HG]; · iexact HG
    isplitl [HS]; · iexact HS
    iexact HO
  iintro ⟨HW, HO⟩
  unfold bx bp
  icases HOut with ⟨%fo, HOut⟩
  iapply (wp_load 𝒱₀ (c : Thread nD τ) none Set.univ (m := mQ) (setOn_whole cc0_scratch6 (rQs h)).subset) $$ HQ
  iintro HQ
  iapply (wp_load 𝒱₀ (c : Thread nD τ) none Set.univ (m := mO) ((setOn_whole cc0_stg0_0 (rO h c)).trans (set_rO h c)).subset) $$ HOut
  iintro HOut
  iapply (wp_store 𝒱₀ (c : Thread nD τ) none Set.univ (m := mO) (r := rO h c) (Mk := Finset.univ) (S := tO h (pPos c)) ((setOn_access cc0_stg0_0 (rO h c)).trans (set_rO h c)).subset) $$ HOut
  iintro HOut
  iapply Hk
  isplitr [HO]
  · isplitl [HW]; · iexact HW
    isplitl [HE1]; · iexact HE1
    isplitl [HE2]; · iexact HE2
    isplitl [HE3]; · iexact HE3
    isplitl [Hz]; · iexact Hz
    isplitl [HsP]; · iexact HsP
    isplitl [HQ]; · iexact HQ
    iapply (Entails.of_eq (stored_O m c h fo))
    iexact HOut
  iexact HO

/-- The last stage. -/
theorem wp_stage5 (c : Dev nD) (h : Fin 8) {α : Type} {Q : α → sProp 𝕄} {kt : PUnit → Pg (F := F) α} :
    iprop(ctx m K ∗ S4 m c h ∗ ow c (rem c 96))
      ⊢ iprop(((S5 m c h ∗ ow c (rem c 96)) -∗ WP c (kt ⟨⟩) Q) -∗ WP c (stage5 c h >>= kt) Q) := by
  simp only [stage5, Prog.bind_assoc]
  unfold S4 S5 E5
  iintro ⟨#Hctx, ⟨HW, HE1, HE2, HE3, HE4⟩, HO⟩ Hk
  iapply (waits3 m K 3 c h (fun r => waitS3 c h r) (fun r => waitR3 c h r) (fun r => wait3 m K c h r) 96 (le_refl 96)) $$ [HW HO]
  · isplitr; · iexact Hctx
    isplitl [HW]; · iexact HW
    iexact HO
  iintro ⟨Hz, HsP, HrP, HO⟩
  iapply Hk
  isplitr [HO]
  · isplitl [HE1]; · iexact HE1
    isplitl [HE2]; · iexact HE2
    isplitl [HE3]; · iexact HE3
    isplitl [HE4]; · iexact HE4
    isplitl [Hz]; · iexact Hz
    isplitl [HsP]; · iexact HsP
    iexact HrP
  iexact HO

end Cert.KernelIdeal.Heads

end
-- ==== Proof.Enter.lean ====
/-
# The barrier and the loads

A signal, the barrier, the start of a head's load, and the run of the body from these through the five stages.
-/
module

public import proofs.«01_k».proof.Proof.Stages

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- What a barrier signal needs: the duty's token and what it hands over. -/
def sg (c : Dev nD) (d : DD) : sProp 𝕄 := iprop(dutyTok ER (cB (tgt d c)) 0 d ∗ bPay (F := F) (tgt d c) d)

/-- A barrier signal. -/
theorem wp_sig (c : Dev nD) (d : DD) (n1 : Dev nD) (hn1 : n1 = tgt d c) (O : CellTallies nD τ sig Unit)
    {α : Type} {Q : α → sProp 𝕄} {kt : PUnit → Pg (F := F) α} :
    iprop(ctx m K ∗ sg c d ∗ ow c (O + owedB c d))
      ⊢ iprop((ow c O -∗ WP c (kt ⟨⟩) Q) -∗ WP c (semSignalWord n1 semB 1#32 >>= kt) Q) := by
  subst hn1
  simp only [semSignalWord, Prog.bind_op, Prog.bind_ret]
  unfold ow ctx sg
  iintro ⟨⟨#Hrec, #Hlev⟩, ⟨Ht, Hp⟩, ⟨%W, HO⟩⟩ Hk
  ihave #HI := (rcd_inv m K (tgt d c, .inl ())) $$ Hrec
  ihave #Hr := (rcd_reached m K (tgt d c, .inl ())) $$ Hrec
  iapply (Rounds.wp_signal 𝒱₀ ER (Rd m) (c : Thread nD τ) none (dst := (tgt d c : Thread nD τ)) (sem := semB) (κ := K (tgt d c, .inl ())) (d := d) (r := 0)
      (by show d ∈ (Rd m).duties (cB (tgt d c)) 0; rw [duties_bar]; exact Finset.mem_univ _)
      (amount_bar m (tgt d c) d) () O rfl (W := W)) $$ [HO Ht Hp]
  · isplitr; · iexact HI
    isplitl [HO]; · iexact HO
    isplitl [Ht]; · iexact Ht
    isplitl [Hp]
    · iapply (show bPay (F := F) (tgt d c) d ⊢ (Rd m).payload ((tgt d c : Thread nD τ), .reg semB) 0 d from Entails.of_eq (payload_eq m (tgt d c) (.inl ()) d).symm)
      iexact Hp
    iexact Hr
  iintro HO
  iapply Hk
  iexists W; iexact HO

/-- The barrier's level is that of its index. -/
theorem lv_bar (c : Dev nD) : lv ((c : Thread nD τ), .reg semB) () = lvOf (some (c, .inl ())) := lv_kcell c (.inl ())
/-- What a wait at the barrier hands over is the six signals' payloads. -/
theorem rest_barS (c : Dev nD) :
    bigSep ((Rd m).duties ((c : Thread nD τ), .reg semB) 0 \ ∅) (fun d => (Rd m).payload ((c : Thread nD τ), .reg semB) 0 d) = bigSep Finset.univ fun d : DD => bPay c d :=
  rest_bar m c

omit [FloatOps F] in
/-- What is held for every signal is held for the six. -/
theorem six (Φ : DD → sProp 𝕄) : bigSep Finset.univ Φ = iprop(Φ (false, 0) ∗ Φ (false, 1) ∗ Φ (false, 2) ∗ Φ (true, 0) ∗ Φ (true, 1) ∗ Φ (true, 2)) := by
  rw [bigSep_univ_eq_bigSepL [((false, 0) : DD), (false, 1), (false, 2), (true, 0), (true, 1), (true, 2)] (by decide) (by decide) Φ]; rfl

/-- The barrier: six signals, and the wait for six. -/
theorem wp_barrier (c : Dev nD) {α : Type} {Q : α → sProp 𝕄} {kt : PUnit → Pg (F := F) α} :
    iprop(ctx m K ∗ at0 c (.inl ()) ∗ cred (tallyAt (cB c) () 6) ∗ bigSep Finset.univ (fun d : DD => sg c d) ∗ ow c (O₀ c))
      ⊢ iprop(((semVal (cB c) 0 ∗ bigSep Finset.univ (fun d : DD => bPay (F := F) c d) ∗ ow c (rem c 0)) -∗ WP c (kt ⟨⟩) Q) -∗ WP c (barrierP c >>= kt) Q) := by
  obtain ⟨e1, e2, e3, e4, e5, e6⟩ := sig_dev c
  simp only [barrierP, Prog.bind_assoc]
  rw [six (fun d : DD => sg c d)]
  unfold O₀
  iintro ⟨#Hctx, Hat, Hcr, ⟨H1, H2, H3, H4, H5, H6⟩, HO⟩ Hk
  iapply (wp_sig m K c (false, 0) _ e1 _) $$ [H1 HO]
  · isplitr; · iexact Hctx
    isplitl [H1]; · iexact H1
    iexact HO
  iintro HO
  iapply (wp_sig m K c (false, 1) _ e2 _) $$ [H2 HO]
  · isplitr; · iexact Hctx
    isplitl [H2]; · iexact H2
    iexact HO
  iintro HO
  iapply (wp_sig m K c (false, 2) _ e3 _) $$ [H3 HO]
  · isplitr; · iexact Hctx
    isplitl [H3]; · iexact H3
    iexact HO
  iintro HO
  iapply (wp_sig m K c (true, 0) _ e4 _) $$ [H4 HO]
  · isplitr; · iexact Hctx
    isplitl [H4]; · iexact H4
    iexact HO
  iintro HO
  iapply (wp_sig m K c (true, 1) _ e5 _) $$ [H5 HO]
  · isplitr; · iexact Hctx
    isplitl [H5]; · iexact H5
    iexact HO
  iintro HO
  iapply (wp_sig m K c (true, 2) _ e6 _) $$ [H6 HO]
  · isplitr; · iexact Hctx
    isplitl [H6]; · iexact H6
    iexact HO
  iintro HO
  simp only [semWaitWord, Prog.bind_op, Prog.bind_ret]
  unfold ow ctx
  icases Hctx with ⟨#Hrec, #Hlev⟩
  icases HO with ⟨%W, HO⟩
  ihave #HI := (rcd_inv m K (c, .inl ())) $$ Hrec
  iapply (Rounds.wp_wait_rest_token 𝒱₀ ER (Rd m) (c : Thread nD τ) none (κ := K (c, .inl ())) (sm := .reg semB) (wpE_semWait_eq 𝒱₀ (c : Thread nD τ) none Set.univ) (Set.mem_univ _) () (O := rem c 0) (W := W)
      (R := 0) (m := 0) (T := ∅) (by rw [Nat.zero_add]; exact (expect_bar m c).symm)) $$ [Hat Hcr HO]
  · isplitr; · iexact HI
    isplitl [Hcr]; · iexact Hcr
    isplitl [HO]; · iexact HO
    isplitr
    · iapply (mayWait_rem (F := F) c (.reg semB) 0 1 (le_of_eq (lv_bar c)) (fun x _ => Nat.le_add_left 2 x.1.val))
      iexact Hlev
    iexact Hat
  iintro ⟨HO, Hat, -, Hpay⟩
  ihave Hp := (Entails.of_eq (rest_barS m c)) $$ Hpay
  imod (Rounds.cell_close ER (Rd m) (Set.mem_univ (K (c, .inl ()))) (fun h => h) (R := 0 + 1) (duties_later m (cB c))) $$ [Hat] with Hz
  · isplitr; · iexact HI
    iexact Hat
  iapply Hk
  isplitl [Hz]; · iexact Hz
  isplitl [Hp]; · iexact Hp
  iexists _; iexact HO

/-- The start of a head's load. -/
theorem wp_loadP (c : Dev nD) (h : Fin 8) {α : Type} {Q : α → sProp 𝕄} {kt : PUnit → Pg (F := F) α} :
    iprop(ctx m K ∗ pc (sT h) c fullShare.left (aT m c) ∗ ex (sV h) c ∗ dutyTok ER (cL c h) 0 d0)
      ⊢ iprop((cred (tallyAt (cL c h) () NL) -∗ WP c (kt ⟨⟩) Q) -∗ WP c (loadP h >>= kt) Q) := by
  simp only [loadP, Prog.lift, Prog.bind_op, Prog.bind_ret]
  unfold ex pc ctx
  iintro ⟨⟨#Hrec, #Hlev⟩, HT, ⟨%f, HV⟩, Ht⟩ Hk
  ihave #HI := (rcd_inv m K (c, iL h)) $$ Hrec
  ihave #Hr := (rcd_reached m K (c, iL h)) $$ Hrec
  iapply (Rounds.wp_copy_pointsTo 𝒱₀ ER (Rd m) (c : Thread nD τ) none (src := sT h) (dst := sV h) (sem := .dma (semL h)) (q := fullShare.left) (fs := aT m c) (fd := f)
      (r := 0) (d := d0) (κ := K (c, iL h)) (by show d0 ∈ (Rd m).duties (cL c h) 0; rw [duties_own]; exact Finset.mem_singleton_self _)
      () NL (creditL h) (amount_own m c (.inl h) d0)
      (by show _ ⊢ (Rd m).payload (cL c h) 0 d0
          rw [payload_eq]; show _ ⊢ pc (sV h) c fullShare (fV m c)
          rw [pts_written (F := F) (sV h).view c fullShare f (fV m c) _ (E_V m c h)]; exact sep_elim_left)) $$ [HT HV Ht]
  · isplitr; · iexact HI
    isplitl [HT]; · iexact HT
    isplitl [HV]; · iexact HV
    isplitl [Ht]; · iexact Ht
    iexact Hr
  iexact Hk

end Cert.KernelIdeal.Heads

end
-- ==== Proof.Run.lean ====
/-
# The run of the body

The eight heads through a stage, once for all stages, and the body as the barrier, the loads and the five stages.
-/
module

public import proofs.«01_k».proof.Proof.Enter

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- A program `p` that takes a head from `X` to `Y`, sends from `n` to `n'`, and returns `v`. -/
def StepOK (c : Dev nD) {β : Type} (p : Pg (F := F) β) (v : β) (X Y : sProp 𝕄) (n n' : ℕ) : Prop :=
  ∀ {α : Type} {Q : α → sProp 𝕄} {kt : β → Pg (F := F) α},
    iprop(ctx m K ∗ X ∗ ow c (rem c n)) ⊢ iprop(((Y ∗ ow c (rem c n')) -∗ WP c (kt v) Q) -∗ WP c (p >>= kt) Q)

omit [FloatOps F] in
/-- What is held for every head is held for the eight. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]; rfl

/-- One step with the other heads framed. -/
theorem StepOK.step {c : Dev nD} {β : Type} {p : Pg (F := F) β} {v : β} {X Y : sProp 𝕄} {n n' : ℕ} (hp : StepOK m K c p v X Y n n') (R : sProp 𝕄)
    {α : Type} {Q : α → sProp 𝕄} {kt : β → Pg (F := F) α} (hk : iprop(ctx m K ∗ ow c (rem c n') ∗ Y ∗ R) ⊢ WP c (kt v) Q) :
    iprop(ctx m K ∗ ow c (rem c n) ∗ X ∗ R) ⊢ WP c (p >>= kt) Q := by
  iintro ⟨#Hctx, HO, HX, HR⟩
  iapply hp $$ [HX HO]
  · isplitr; · iexact Hctx
    isplitl [HX]; · iexact HX
    iexact HO
  iintro ⟨HY, HO⟩
  iapply hk
  isplitr; · iexact Hctx
  isplitl [HO]; · iexact HO
  isplitl [HY]; · iexact HY
  iexact HR

omit [FloatOps F] in
/-- The first of eight, done, goes last. -/
theorem turn (Y R : sProp 𝕄) : iprop(Y ∗ R) = iprop(R ∗ Y) := BI.Entails.antisymm BI.sep_comm BI.sep_comm

/-- The eight heads through a stage. -/
theorem eightfold {c : Dev nD} {β : Type} (p : Fin 8 → Pg (F := F) β) (v : Fin 8 → β) (X Y : Fin 8 → sProp 𝕄) (a s b : ℕ) (hb : a + s * 8 = b)
    (hp : ∀ h : Fin 8, StepOK m K c (p h) (v h) (X h) (Y h) (a + s * h.val) (a + s * (h.val + 1))) (R : sProp 𝕄)
    {α : Type} {Q : α → sProp 𝕄} {kt : β → β → β → β → β → β → β → β → Pg (F := F) α}
    (hk : iprop(ctx m K ∗ ow c (rem c b) ∗ bigSep Finset.univ Y ∗ R) ⊢ WP c (kt (v 0) (v 1) (v 2) (v 3) (v 4) (v 5) (v 6) (v 7)) Q) :
    iprop(ctx m K ∗ ow c (rem c a) ∗ bigSep Finset.univ X ∗ R)
      ⊢ WP c (p 0 >>= fun q0 => p 1 >>= fun q1 => p 2 >>= fun q2 => p 3 >>= fun q3 => p 4 >>= fun q4 => p 5 >>= fun q5 => p 6 >>= fun q6 => p 7 >>= fun q7 =>
          kt q0 q1 q2 q3 q4 q5 q6 q7) Q := by
  subst hb
  rw [eight Y] at hk; rw [eight X]
  simp only [sepA]
  refine StepOK.step m K (hp 0) _ ?_
  rw [turn (Y _)]; simp only [sepA]
  refine StepOK.step m K (hp 1) _ ?_
  rw [turn (Y _)]; simp only [sepA]
  refine StepOK.step m K (hp 2) _ ?_
  rw [turn (Y _)]; simp only [sepA]
  refine StepOK.step m K (hp 3) _ ?_
  rw [turn (Y _)]; simp only [sepA]
  refine StepOK.step m K (hp 4) _ ?_
  rw [turn (Y _)]; simp only [sepA]
  refine StepOK.step m K (hp 5) _ ?_
  rw [turn (Y _)]; simp only [sepA]
  refine StepOK.step m K (hp 6) _ ?_
  rw [turn (Y _)]; simp only [sepA]
  refine StepOK.step m K (hp 7) _ ?_
  rw [turn (Y 7)]; simp only [sepA]
  rw [turn _ R]at hk
  exact hk

/-! ## The body -/

/-- What a head's load takes. -/
def LP (c : Dev nD) (h : Fin 8) : sProp 𝕄 :=
  iprop(bp main_arg0 c (rT h).set fullShare.left (aT m c) ∗ bx cc0_scratch0 c (rV h).set ∗ dutyTok ER (cL c h) 0 d0)
/-- What a head waits for its load with, and shares out afterwards. -/
def N1 (c : Dev nD) (h : Fin 8) : sProp 𝕄 :=
  iprop(at0 c (iL h) ∗ tri (G (F := F) 0 c h) ∗ bigSep Finset.univ fun i : Fin 4 => bx cc0_scratch1 c (rBs h i).set)
/-- A head after the barrier. -/
def P0 (c : Dev nD) (h : Fin 8) : sProp 𝕄 := iprop(LP m c h ∗ N1 c h ∗ N2 c h ∗ N3 c h ∗ N4 c h)

/-- Starting a head's load takes it to its state with the load in flight, and sends nothing. -/
theorem step_load (c : Dev nD) (h : Fin 8) (n : ℕ) : StepOK m K c (loadP h) ⟨⟩ (P0 m c h) (S0 c h) n n := by
  intro α Q kt
  unfold P0 LP N1 S0
  iintro ⟨#Hctx, ⟨⟨HT, HV, Ht⟩, ⟨Ha, HG, HB⟩, HN⟩, HO⟩ Hk
  iapply (wp_loadP m K c h) $$ [HT HV Ht]
  · rw [pc_T, ex_V]
    isplitr; · iexact Hctx
    isplitl [HT]; · iexact HT
    isplitl [HV]; · iexact HV
    iexact Ht
  iintro Hcr
  iapply Hk
  isplitr [HO]
  · isplitr [HN]
    · isplitl [Ha]; · iexact Ha
      isplitl [Hcr]; · iexact Hcr
      isplitl [HG]; · iexact HG
      iexact HB
    iexact HN
  iexact HO

set_option maxRecDepth 8000 in
/-- The body, from the barrier to the last stage. -/
theorem wp_bodyP (c : Dev nD) (A : Fin 8 → sProp 𝕄) (hA : iprop(bigSep Finset.univ (fun d : DD => bPay (F := F) c d) ∗ bigSep Finset.univ A) ⊢ bigSep Finset.univ fun h => P0 m c h)
    {α : Type} {Q : α → sProp 𝕄} {kt : PUnit → Pg (F := F) α} :
    iprop(ctx m K ∗ (at0 c (.inl ()) ∗ cred (tallyAt (cB c) () 6) ∗ bigSep Finset.univ (fun d : DD => sg c d)) ∗ bigSep Finset.univ A ∗ ow c (O₀ c))
      ⊢ iprop(((semVal (cB c) 0 ∗ (bigSep Finset.univ fun h => S5 m c h) ∗ ow c 0) -∗ WP c (kt ⟨⟩) Q) -∗ WP c (bodyP c >>= kt) Q) := by
  simp only [bodyP, Prog.bind_assoc]
  iintro ⟨#Hctx, ⟨Hat, Hcr, Hsg⟩, HA, HO⟩ Hk
  iapply (wp_barrier m K c) $$ [Hat Hcr Hsg HO]
  · isplitr; · iexact Hctx
    isplitl [Hat]; · iexact Hat
    isplitl [Hcr]; · iexact Hcr
    isplitl [Hsg]; · iexact Hsg
    iexact HO
  iintro ⟨Hz, Hpay, HO⟩
  ihave HP := hA $$ [Hpay HA]
  · isplitl [Hpay]; · iexact Hpay
    iexact HA
  iapply (eightfold m K loadP (fun _ => ⟨⟩) (fun h => P0 m c h) (fun h => S0 c h) 0 0 0 rfl (fun h => step_load m K c h _)
    iprop(semVal (cB c) 0 ∗ ((semVal (cB c) 0 ∗ (bigSep Finset.univ fun h => S5 m c h) ∗ ow c 0) -∗ WP c (kt ⟨⟩) Q)) ?_) $$ [Hz HP HO Hk]
  · refine eightfold m K (stage1 c) (Qs m c) (fun h => S0 c h) (fun h => S1 m c h) 0 3 24 rfl (fun h => wp_stage1 m K c h _ (by simp only [rank]; omega)) _ ?_
    refine eightfold m K (fun h => stage2 c h (Qs m c h)) (fun h => own m c h) (fun h => S1 m c h) (fun h => S2 m c h) 24 3 48 rfl (fun h => wp_stage2 m K c h _ (by simp only [rank]; omega)) _ ?_
    refine eightfold m K (fun h => stage3 c h (own m c h)) (fun _ => ⟨⟩) (fun h => S2 m c h) (fun h => S3 m c h) 48 3 72 rfl (fun h => wp_stage3 m K c h _ (by simp only [rank]; omega)) _ ?_
    refine eightfold m K (stage4 c) (fun _ => ⟨⟩) (fun h => S3 m c h) (fun h => S4 m c h) 72 3 96 rfl (fun h => wp_stage4 m K c h _ (by simp only [rank]; omega)) _ ?_
    refine eightfold m K (stage5 c) (fun _ => ⟨⟩) (fun h => S4 m c h) (fun h => S5 m c h) 96 0 96 rfl (fun h => by rw [Nat.zero_mul, Nat.zero_mul]; exact wp_stage5 m K c h) _ ?_
    iintro ⟨-, HO, HS, Hz, Hk⟩
    iapply Hk
    isplitl [Hz]; · iexact Hz
    isplitl [HS]; · iexact HS
    rw [← rem_end c]; iexact HO
  · isplitr; · iexact Hctx
    isplitl [HO]; · iexact HO
    isplitl [HP]; · iexact HP
    isplitl [Hz]; · iexact Hz
    iexact Hk

end Cert.KernelIdeal.Heads

end
-- ==== Proof.Cut.lean ====
/-
# Buffers cut into slots

A whole buffer is its slots, each element lying in the slot an index of it names.
-/
module

public import proofs.«01_k».proof.Proof.Run

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A buffer whose elements each belong to one piece is its pieces, held side by side. -/
theorem cut_loc {J : Type} [Fintype J] (ℓ : Loc nD τ sig) (I : J → Finset (Idx ℓ)) (idx : Idx ℓ → J) (hI : ∀ x j, x ∈ I j ↔ idx x = j)
    (q : PosShare TreeShare) (f : Buf (Elt F) ℓ) :
    (ℓ ↦{q} f : sProp 𝕄) = bigSep Finset.univ fun j => (ℓ ↦[I j]{q} f : sProp 𝕄) := by
  rw [← pointsTo_biUnion Finset.univ I (fun j _ j' _ hj => Finset.disjoint_left.mpr fun x hx hx' => hj (((hI x j).mp hx).symm.trans ((hI x j').mp hx')))]
  congr 1
  ext x; simp only [Finset.mem_biUnion, Finset.mem_univ, true_and, true_iff]; exact ⟨idx x, (hI x _).mpr rfl⟩

omit [FloatOps F] in
/-- A buffer as its slots. -/
theorem cut {J : Type} [Fintype J] (b : Ref sig .tc) (c : Dev nD) (I : J → Finset b.ty.Idx) (idx : b.ty.Idx → J) (hI : ∀ x j, x ∈ I j ↔ idx x = j)
    (q : PosShare TreeShare) (f : Buf (Elt F) ((c : Thread nD τ).loc b)) :
    ((c : Thread nD τ).loc b ↦{q} f : sProp 𝕄) = bigSep Finset.univ fun j => bp b c (I j) q f :=
  cut_loc ((c : Thread nD τ).loc b) I idx hI q f

omit [FloatOps F] in
/-- A buffer at some contents gives its slots at some contents. -/
theorem cut_ex {J : Type} [Fintype J] (b : Ref sig .tc) (c : Dev nD) (I : J → Finset b.ty.Idx) (idx : b.ty.Idx → J) (hI : ∀ x j, x ∈ I j ↔ idx x = j) :
    iprop(∃ f : Buf (Elt F) ((c : Thread nD τ).loc b), (c : Thread nD τ).loc b ↦{fullShare} f) ⊢ (bigSep Finset.univ fun j => bx b c (I j) : sProp 𝕄) := by
  iintro ⟨%f, H⟩
  have e : ((c : Thread nD τ).loc b ↦{fullShare} f : sProp 𝕄) ⊢ bigSep Finset.univ fun j => bx b c (I j) := by
    rw [cut b c I idx hI]
    refine BI.bigSep_mono fun j _ => ?_
    have e' : bp b c (I j) fullShare f ⊢ (bx b c (I j) : sProp 𝕄) := by unfold bx; iintro H; iexists f; iexact H
    exact e'
  iapply e; iexact H

/-- An element of the loaded columns is in its head's piece. -/
theorem memV (x : cc0_scratch0.ty.Idx) (h : Fin 8) : x ∈ (rV h).set ↔ (⟨(x 0).val, (x 0).isLt⟩ : Fin 8) = h := by
  have h1 : (x 1).val < 2048 := (x 1).isLt
  have h2 : (x 2).val < 128 := (x 2).isLt
  rw [Rect.mem_set_unit, Fin.ext_iff]
  constructor
  · intro hx; have := hx 0; simp at *; omega
  · intro e a; simp at e; fin_cases a <;> simp <;> omega
/-- An element of the argument is in its head's columns. -/
theorem memT (x : main_arg0.ty.Idx) (h : Fin 8) : x ∈ (rT h).set ↔ (⟨(x 1).val / 128, by have : (x 1).val < 1024 := (x 1).isLt; omega⟩ : Fin 8) = h := by
  have h0 : (x 0).val < 2048 := (x 0).isLt
  rw [Rect.mem_set_unit, Fin.ext_iff]
  constructor
  · intro hx; have := hx 1; simp at *; omega
  · intro e a; simp at e; fin_cases a <;> simp <;> omega
/-- An element of the finished rows is in its head's piece. -/
theorem memY (x : cc0_scratch5.ty.Idx) (h : Fin 8) : x ∈ (rYs h).set ↔ (⟨(x 0).val, (x 0).isLt⟩ : Fin 8) = h := by
  have h1 : (x 1).val < 128 := (x 1).isLt
  have h2 : (x 2).val < 128 := (x 2).isLt
  rw [Rect.mem_set_unit, Fin.ext_iff]
  constructor
  · intro hx; have := hx 0; simp at *; omega
  · intro e a; simp at e; fin_cases a <;> simp <;> omega
/-- An element of the gathered rows is in its head's piece. -/
theorem memQs (x : cc0_scratch6.ty.Idx) (h : Fin 8) : x ∈ (rQs h).set ↔ (⟨(x 0).val, (x 0).isLt⟩ : Fin 8) = h := by
  have h1 : (x 1).val < 512 := (x 1).isLt
  have h2 : (x 2).val < 128 := (x 2).isLt
  rw [Rect.mem_set_unit, Fin.ext_iff]
  constructor
  · intro hx; have := hx 0; simp at *; omega
  · intro e a; simp at e; fin_cases a <;> simp <;> omega
/-- An element of the rounded quarters is in its head's and quarter's slot. -/
theorem memB (x : cc0_scratch1.ty.Idx) (j : Fin 8 × Fin 4) : x ∈ (rBs j.1 j.2).set ↔ ((⟨(x 0).val, (x 0).isLt⟩ : Fin 8), (⟨(x 1).val, (x 1).isLt⟩ : Fin 4)) = j := by
  have h2 : (x 2).val < 512 := (x 2).isLt
  have h3 : (x 3).val < 128 := (x 3).isLt
  rw [Rect.mem_set_unit, Prod.ext_iff, Fin.ext_iff, Fin.ext_iff]
  constructor
  · intro hx; have := hx 0; have := hx 1; simp at *; omega
  · intro e a; simp at e; fin_cases a <;> simp <;> omega
/-- An element received within the plane is in its head's and distance's slot. -/
theorem memP (x : cc0_scratch2.ty.Idx) (j : Fin 8 × Fin 3) : x ∈ (rPs j.1 j.2).set ↔ ((⟨(x 0).val, (x 0).isLt⟩ : Fin 8), (⟨(x 1).val, (x 1).isLt⟩ : Fin 3)) = j := by
  have h2 : (x 2).val < 512 := (x 2).isLt
  have h3 : (x 3).val < 128 := (x 3).isLt
  rw [Rect.mem_set_unit, Prod.ext_iff, Fin.ext_iff, Fin.ext_iff]
  constructor
  · intro hx; have := hx 0; have := hx 1; simp at *; omega
  · intro e a; simp at e; fin_cases a <;> simp <;> omega
/-- An element of the plane sums is in its head's and slice's slot. -/
theorem memR (x : cc0_scratch3.ty.Idx) (j : Fin 8 × Fin 4) : x ∈ (rRs j.1 j.2).set ↔ ((⟨(x 0).val, (x 0).isLt⟩ : Fin 8), (⟨(x 1).val, (x 1).isLt⟩ : Fin 4)) = j := by
  have h2 : (x 2).val < 128 := (x 2).isLt
  have h3 : (x 3).val < 128 := (x 3).isLt
  rw [Rect.mem_set_unit, Prod.ext_iff, Fin.ext_iff, Fin.ext_iff]
  constructor
  · intro hx; have := hx 0; have := hx 1; simp at *; omega
  · intro e a; simp at e; fin_cases a <;> simp <;> omega
/-- An element received along z is in its head's and distance's slot. -/
theorem memZ (x : cc0_scratch4.ty.Idx) (j : Fin 8 × Fin 3) : x ∈ (rZs j.1 j.2).set ↔ ((⟨(x 0).val, (x 0).isLt⟩ : Fin 8), (⟨(x 1).val, (x 1).isLt⟩ : Fin 3)) = j := by
  have h2 : (x 2).val < 128 := (x 2).isLt
  have h3 : (x 3).val < 128 := (x 3).isLt
  rw [Rect.mem_set_unit, Prod.ext_iff, Fin.ext_iff, Fin.ext_iff]
  constructor
  · intro hx; have := hx 0; have := hx 1; simp at *; omega
  · intro e a; simp at e; fin_cases a <;> simp <;> omega
/-- An element of the gathered rows is in its head's band of 128 rows. -/
theorem memQ (x : cc0_scratch6.ty.Idx) (j : Fin 8 × Fin 4) : x ∈ tQ j.1 j.2 ↔ ((⟨(x 0).val, (x 0).isLt⟩ : Fin 8), (⟨(x 1).val / 128, by have : (x 1).val < 512 := (x 1).isLt; omega⟩ : Fin 4)) = j := by
  have h2 : (x 2).val < 128 := (x 2).isLt
  unfold tQ; rw [Rect.mem_set_unit, Prod.ext_iff, Fin.ext_iff, Fin.ext_iff]
  constructor
  · intro hx; have := hx 0; have := hx 1; simp at *; omega
  · intro e a; simp at e; fin_cases a <;> simp <;> omega
/-- An element of the result is in its head's and quarter's piece. -/
theorem memO (x : cc0_stg0_0.ty.Idx) (j : Fin 8 × Fin 4) : x ∈ tO j.1 j.2 ↔ ((⟨(x 1).val / 128, by have : (x 1).val < 1024 := (x 1).isLt; omega⟩ : Fin 8), (⟨(x 0).val / 512, by have : (x 0).val < 2048 := (x 0).isLt; omega⟩ : Fin 4)) = j := by
  unfold tO; rw [Rect.mem_set_unit, Prod.ext_iff, Fin.ext_iff, Fin.ext_iff]
  constructor
  · intro hx; have := hx 0; have := hx 1; simp at *; omega
  · intro e a; simp at e; fin_cases a <;> simp <;> omega

end Cert.KernelIdeal.Heads

end
-- ==== Proof.Deal.lean ====
/-
# What a device brings to the run, by heads

The buffers, positions, tokens and credits of a device, dealt to its eight heads, and at the end the heads' slots and
counters put together again.
-/
module

public import proofs.«01_k».proof.Proof.Cut

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A copy: its phase, head and distance. -/
abbrev TX : Type := Fin 4 × Fin 8 × Fin 3

/-! ## Regrouping -/

omit [FloatOps F] in
instance sepComm : Std.Commutative (α := sProp 𝕄) BIBase.sep := ⟨turn⟩
omit [FloatOps F] in
instance sepAssoc : Std.Associative (α := sProp 𝕄) BIBase.sep := ⟨sepA⟩

omit [FloatOps F] in
/-- Equal assertions entail each other. -/
theorem entails_eq {P Q : sProp 𝕄} (e : P = Q) : P ⊢ Q := e ▸ BI.Entails.refl _
omit [FloatOps F] in
/-- Things of copies by heads. -/
theorem heads4 (Φ : TX → sProp 𝕄) : bigSep Finset.univ Φ
    = bigSep Finset.univ fun h : Fin 8 => iprop(tri (fun r => Φ (0, h, r)) ∗ tri (fun r => Φ (1, h, r)) ∗ tri (fun r => Φ (2, h, r)) ∗ tri (fun r => Φ (3, h, r))) := by
  rw [BI.bigSep_univ_prod]
  simp only [BI.bigSep_univ_prod]
  rw [Pipeline.bigSep_univ_comm]
  refine BI.bigSep_congr fun h _ => ?_
  rw [four]; simp only [three]; rfl
omit [FloatOps F] in
/-- Things of own semaphores: the loads', the sends', the arrivals'. -/
theorem split_OI (Φ : OI → sProp 𝕄) : bigSep Finset.univ Φ
    = iprop((bigSep Finset.univ fun h : Fin 8 => Φ (.inl h)) ∗ (bigSep Finset.univ fun x : TX => Φ (.inr (false, x))) ∗ bigSep Finset.univ fun x : TX => Φ (.inr (true, x))) := by
  rw [BI.bigSep_univ_sum, BI.bigSep_univ_prod (fun y : Bool × TX => Φ (.inr y)), bigSep_univ_eq_bigSepL [false, true] (by decide) (by decide)]; rfl
omit [FloatOps F] in
/-- What is held for every cell is held for the barrier and for the kernel's own cells. -/
theorem split_CI (Φ : CI → sProp 𝕄) : bigSep Finset.univ Φ
    = iprop(Φ (.inl ()) ∗ bigSep Finset.univ fun i : OI => Φ (.inr i)) := by
  rw [BI.bigSep_univ_sum, bigSep_univ_eq_bigSepL [()] (by decide) (by decide)]; rfl
omit [FloatOps F] in
/-- Things of signals by heads. -/
theorem by_head (A B : Fin 3 → Fin 8 → sProp 𝕄) :
    (bigSep Finset.univ fun d : DD => bigSep Finset.univ fun h : Fin 8 => if d.1 then B d.2 h else A d.2 h)
      = bigSep Finset.univ fun h : Fin 8 => iprop(tri (fun r => A r h) ∗ tri (fun r => B r h)) := by
  rw [Pipeline.bigSep_univ_comm]
  refine BI.bigSep_congr fun h _ => ?_
  rw [six]; unfold tri; simp only [sepA]; rfl
omit [FloatOps F] in
/-- Three things are the same three counted from the way back. -/
theorem tri_rv (Φ : Fin 3 → sProp 𝕄) : tri (fun r => Φ (rv r)) = tri Φ := by
  show iprop(Φ 2 ∗ Φ 1 ∗ Φ 0) = iprop(Φ 0 ∗ Φ 1 ∗ Φ 2); ac_rfl
omit [FloatOps F] in
/-- Pairs at three distances are two triples. -/
theorem tri_sep (Φ Ψ : Fin 3 → sProp 𝕄) : tri (fun r => iprop(Φ r ∗ Ψ r)) = iprop(tri Φ ∗ tri Ψ) := by
  unfold tri; dsimp only; ac_rfl

/-! ## What the barrier brings and what the device hands over -/

/-- What the six signals bring, by heads. -/
theorem got_eq (c : Dev nD) : (bigSep Finset.univ fun d : DD => bPay (F := F) c d)
    = bigSep Finset.univ fun h : Fin 8 => iprop(tri (dE 0 c h) ∗ tri (dE 1 c h) ∗ tri (dE 2 c h) ∗ tri (dE 3 c h)) := by
  unfold bPay
  rw [by_head (fun r h => iprop(dE 0 c h (rv r) ∗ dE 3 c h (rv r))) (fun r h => iprop(dE 1 c h (rv r) ∗ dE 2 c h (rv r)))]
  refine BI.bigSep_congr fun h _ => ?_
  rw [tri_sep, tri_sep, tri_rv (dE 0 c h), tri_rv (dE 1 c h), tri_rv (dE 2 c h), tri_rv (dE 3 c h)]
  ac_rfl

/-- The slots of this device its plane peers write. -/
def paidF (c : Dev nD) (h : Fin 8) (r : Fin 3) : sProp 𝕄 :=
  iprop(bx cc0_scratch2 c (rPs h (rv r)).set ∗ bx cc0_stg0_0 c (tO h (rot (pPos c) r)))
/-- The slots of this device its peers along z write. -/
def paidT (c : Dev nD) (h : Fin 8) (r : Fin 3) : sProp 𝕄 :=
  iprop(bx cc0_scratch4 c (rZs h (rv r)).set ∗ bx cc0_scratch6 c (tQ h (rot (zPos c) r)))

/-- What a peer in the plane writes on the device in phase 0: a slot received within the plane. -/
theorem dE_paid0 (c : Dev nD) (h : Fin 8) (r : Fin 3) : dE (F := F) 0 (pp r c) h (rv r) = bx cc0_scratch2 c (rPs h (rv r)).set := by
  rw [← ex_P]; show ex (sP h (rv r)) (pp (rv r) (pp r c)) = _; rw [rv_pp]
/-- In phase 3: the peer's quarter of the result. -/
theorem dE_paid3 (c : Dev nD) (h : Fin 8) (r : Fin 3) : dE (F := F) 3 (pp r c) h (rv r) = bx cc0_stg0_0 c (tO h (rot (pPos c) r)) := by
  show ex (sO h (pp r c)) (pp (rv r) (pp r c)) = _; rw [rv_pp, ex_O, pPos_pp]
/-- What a peer along z writes on the device in phase 1: a slot received along z. -/
theorem dE_paid1 (c : Dev nD) (h : Fin 8) (r : Fin 3) : dE (F := F) 1 (zz r c) h (rv r) = bx cc0_scratch4 c (rZs h (rv r)).set := by
  rw [← ex_Z]; show ex (sZ h (rv r)) (zz (rv r) (zz r c)) = _; rw [rv_zz]
/-- In phase 2: the peer's band of the gathered rows. -/
theorem dE_paid2 (c : Dev nD) (h : Fin 8) (r : Fin 3) : dE (F := F) 2 (zz r c) h (rv r) = bx cc0_scratch6 c (tQ h (rot (zPos c) r)) := by
  show ex (sQ h (zz r c)) (zz (rv r) (zz r c)) = _; rw [rv_zz, ex_Q, zPos_zz]

/-- What the device hands over with its six signals, by heads. -/
theorem paid_eq (c : Dev nD) : (bigSep Finset.univ fun d : DD => bPay (F := F) (tgt d c) d)
    = bigSep Finset.univ fun h : Fin 8 => iprop(tri (paidF c h) ∗ tri (paidT c h)) := by
  rw [← by_head (fun r h => paidF c h r) (fun r h => paidT c h r)]
  refine BI.bigSep_congr fun d _ => ?_
  obtain ⟨b, r⟩ := d
  cases b
  · show bigSep Finset.univ (fun h : Fin 8 => iprop(dE 0 (pp r c) h (rv r) ∗ dE 3 (pp r c) h (rv r))) = bigSep Finset.univ fun h : Fin 8 => paidF c h r
    simp only [dE_paid0, dE_paid3]; rfl
  · show bigSep Finset.univ (fun h : Fin 8 => iprop(dE 1 (zz r c) h (rv r) ∗ dE 2 (zz r c) h (rv r))) = bigSep Finset.univ fun h : Fin 8 => paidT c h r
    simp only [dE_paid1, dE_paid2]; rfl

/-! ## A head before the barrier -/

/-- A copy's cells, credit and tokens. -/
def Gm (k : Fin 4) (c : Dev nD) (h : Fin 8) (r : Fin 3) : sProp 𝕄 :=
  iprop(at0 c (iS k h r) ∗ at0 c (iR k h r) ∗ cred (tallyAt (cR c k h r) () (NN k)) ∗ dutyTok ER (cS c k h r) 0 d0
    ∗ dutyTok ER (cR (peer k r c) k h r) 0 d0)
/-- Before its three copies a phase holds their cells and tokens, and their landing places. -/
theorem tri_G (k : Fin 4) (c : Dev nD) (h : Fin 8) : tri (G (F := F) k c h) = iprop(tri (Gm k c h) ∗ tri (dE k c h)) := by
  rw [← tri_sep]; unfold G Gm tri; simp only [sepA]

/-- A head before the barrier. -/
def HA (c : Dev nD) (h : Fin 8) : sProp 𝕄 :=
  iprop(LP m c h ∗ (at0 c (iL h) ∗ tri (Gm (F := F) 0 c h) ∗ bigSep Finset.univ fun i : Fin 4 => bx cc0_scratch1 c (rBs h i).set)
    ∗ (tri (Gm (F := F) 1 c h) ∗ bigSep Finset.univ fun i : Fin 4 => bx cc0_scratch3 c (rRs h i).set)
    ∗ (tri (Gm (F := F) 2 c h) ∗ bx cc0_scratch5 c (rYs h).set ∗ bx cc0_scratch6 c (tQ h (zPos c)))
    ∗ (tri (Gm (F := F) 3 c h) ∗ bx cc0_stg0_0 c (tO h (pPos c))))

/-- With what the barrier brings the head may start. -/
theorem barrier_gives (c : Dev nD) : iprop(bigSep Finset.univ (fun d : DD => bPay (F := F) c d) ∗ bigSep Finset.univ (HA m c)) ⊢ bigSep Finset.univ fun h => P0 m c h := by
  rw [got_eq, ← BI.bigSep_sep']
  refine BI.bigSep_mono fun h _ => ?_
  refine entails_eq ?_
  unfold P0 HA N1 N2 N3 N4
  simp only [tri_G]
  ac_rfl

/-- The slots of a head. -/
def memH (c : Dev nD) (h : Fin 8) : sProp 𝕄 :=
  iprop(bp main_arg0 c (rT h).set fullShare.left (aT m c) ∗ bx cc0_scratch0 c (rV h).set ∗ (bigSep Finset.univ fun i : Fin 4 => bx cc0_scratch1 c (rBs h i).set)
    ∗ (bigSep Finset.univ fun i : Fin 3 => bx cc0_scratch2 c (rPs h i).set) ∗ (bigSep Finset.univ fun i : Fin 4 => bx cc0_scratch3 c (rRs h i).set)
    ∗ (bigSep Finset.univ fun i : Fin 3 => bx cc0_scratch4 c (rZs h i).set) ∗ bx cc0_scratch5 c (rYs h).set
    ∗ (bigSep Finset.univ fun z : Fin 4 => bx cc0_scratch6 c (tQ h z)) ∗ bigSep Finset.univ fun p : Fin 4 => bx cc0_stg0_0 c (tO h p))

/-- A head's parts are what it keeps and what it hands over. -/
theorem head_parts (c : Dev nD) (h : Fin 8) :
    iprop(memH m c h ∗ (at0 c (iL h) ∗ dutyTok ER (cL c h) 0 d0) ∗ (tri (Gm 0 c h) ∗ tri (Gm 1 c h) ∗ tri (Gm 2 c h) ∗ tri (Gm 3 c h)))
      = iprop(HA m c h ∗ (tri (paidF c h) ∗ tri (paidT c h))) := by
  have e2 : (bigSep Finset.univ fun i : Fin 3 => bx (F := F) cc0_scratch2 c (rPs h i).set) = tri fun r => bx cc0_scratch2 c (rPs h (rv r)).set := by
    rw [tri_rv (fun r => bx cc0_scratch2 c (rPs h r).set)]; exact three _
  have e4 : (bigSep Finset.univ fun i : Fin 3 => bx (F := F) cc0_scratch4 c (rZs h i).set) = tri fun r => bx cc0_scratch4 c (rZs h (rv r)).set := by
    rw [tri_rv (fun r => bx cc0_scratch4 c (rZs h r).set)]; exact three _
  have eF : tri (paidF (F := F) c h) = iprop(tri (fun r => bx cc0_scratch2 c (rPs h (rv r)).set) ∗ tri fun r => bx cc0_stg0_0 c (tO h (rot (pPos c) r))) := tri_sep _ _
  have eT : tri (paidT (F := F) c h) = iprop(tri (fun r => bx cc0_scratch4 c (rZs h (rv r)).set) ∗ tri fun r => bx cc0_scratch6 c (tQ h (rot (zPos c) r))) := tri_sep _ _
  have eO : (bigSep Finset.univ fun p : Fin 4 => bx (F := F) cc0_stg0_0 c (tO h p)) = iprop(bx cc0_stg0_0 c (tO h (pPos c)) ∗ tri fun r => bx cc0_stg0_0 c (tO h (rot (pPos c) r))) :=
    four_rot (pPos c) _
  have eQ : (bigSep Finset.univ fun z : Fin 4 => bx (F := F) cc0_scratch6 c (tQ h z)) = iprop(bx cc0_scratch6 c (tQ h (zPos c)) ∗ tri fun r => bx cc0_scratch6 c (tQ h (rot (zPos c) r))) :=
    four_rot (zPos c) _
  unfold memH HA LP
  rw [e2, e4, eF, eT, eO, eQ]
  ac_rfl

/-! ## A device -/

/-- The tokens of the duties a device pays. -/
def payToks (c : Dev nD) : sProp 𝕄 :=
  iprop((bigSep Finset.univ fun d : DD => dutyTok ER (cB (tgt d c)) 0 d) ∗ (bigSep Finset.univ fun h : Fin 8 => dutyTok ER (cL c h) 0 d0)
    ∗ (bigSep Finset.univ fun x : TX => dutyTok ER (cS c x.1 x.2.1 x.2.2) 0 d0) ∗ bigSep Finset.univ fun x : TX => dutyTok ER (cR (peer x.1 x.2.2 c) x.1 x.2.1 x.2.2) 0 d0)
/-- The credits of a device. -/
def creds (c : Dev nD) : sProp 𝕄 :=
  iprop(cred (tallyAt (cB c) () 6) ∗ bigSep Finset.univ fun x : TX => cred (tallyAt (cR c x.1 x.2.1 x.2.2) () (NN x.1)))

/-- All a device brings, dealt out. -/
theorem deal (c : Dev nD) :
    iprop((bigSep Finset.univ fun k : CI => at0 c k) ∗ payToks c ∗ creds c ∗ bigSep Finset.univ (memH m c))
      ⊢ iprop((at0 c (.inl ()) ∗ cred (tallyAt (cB c) () 6) ∗ bigSep Finset.univ (fun d : DD => sg c d)) ∗ bigSep Finset.univ (HA m c)) := by
  refine entails_eq ?_
  have eG : iprop((bigSep Finset.univ fun x : TX => at0 (F := F) c (iS x.1 x.2.1 x.2.2)) ∗ (bigSep Finset.univ fun x : TX => at0 c (iR x.1 x.2.1 x.2.2))
      ∗ (bigSep Finset.univ fun x : TX => cred (tallyAt (cR c x.1 x.2.1 x.2.2) () (NN x.1))) ∗ (bigSep Finset.univ fun x : TX => dutyTok ER (cS c x.1 x.2.1 x.2.2) 0 d0)
      ∗ bigSep Finset.univ fun x : TX => dutyTok ER (cR (peer x.1 x.2.2 c) x.1 x.2.1 x.2.2) 0 d0)
      = bigSep Finset.univ fun h : Fin 8 => iprop(tri (Gm 0 c h) ∗ tri (Gm 1 c h) ∗ tri (Gm 2 c h) ∗ tri (Gm 3 c h)) := by
    rw [← BI.bigSep_sep', ← BI.bigSep_sep', ← BI.bigSep_sep', ← BI.bigSep_sep', heads4]; rfl
  have eH : iprop(bigSep Finset.univ (memH m c) ∗ ((bigSep Finset.univ fun h : Fin 8 => at0 c (iL h)) ∗ bigSep Finset.univ fun h : Fin 8 => dutyTok ER (cL c h) 0 d0)
      ∗ bigSep Finset.univ fun h : Fin 8 => iprop(tri (Gm 0 c h) ∗ tri (Gm 1 c h) ∗ tri (Gm 2 c h) ∗ tri (Gm 3 c h)))
      = iprop(bigSep Finset.univ (HA m c) ∗ bigSep Finset.univ fun d : DD => bPay (F := F) (tgt d c) d) := by
    rw [paid_eq, ← BI.bigSep_sep', ← BI.bigSep_sep', ← BI.bigSep_sep', ← BI.bigSep_sep']
    exact BI.bigSep_congr fun h _ => head_parts m c h
  have eS : (bigSep Finset.univ fun d : DD => sg (F := F) c d) = iprop((bigSep Finset.univ fun d : DD => dutyTok ER (cB (tgt d c)) 0 d) ∗ bigSep Finset.univ fun d : DD => bPay (F := F) (tgt d c) d) :=
    BI.bigSep_sep' _ _ _
  rw [split_CI, split_OI, eS]
  unfold payToks creds
  have e3 : ∀ (a b cr d t2 x1 x2 x3 x4 x5 M HH PP GG : sProp 𝕄), iprop(x1 ∗ x2 ∗ x3 ∗ x4 ∗ x5) = GG → iprop(M ∗ (b ∗ t2) ∗ GG) = iprop(HH ∗ PP) →
      iprop((a ∗ b ∗ x1 ∗ x2) ∗ (d ∗ t2 ∗ x4 ∗ x5) ∗ (cr ∗ x3) ∗ M) = iprop((a ∗ cr ∗ d ∗ PP) ∗ HH) := by
    intro a b cr d t2 x1 x2 x3 x4 x5 M HH PP GG e1 e2
    calc _ = iprop(a ∗ cr ∗ d ∗ (M ∗ (b ∗ t2) ∗ (x1 ∗ x2 ∗ x3 ∗ x4 ∗ x5))) := by ac_rfl
      _ = iprop(a ∗ cr ∗ d ∗ (HH ∗ PP)) := by rw [e1, e2]
      _ = _ := by ac_rfl
  exact e3 _ _ _ _ _ _ _ _ _ _ _ _ _ _ eG eH

/-- The whole buffers, cut into the heads' slots. -/
theorem mem_heads (c : Dev nD) :
    iprop(((c : Thread nD τ).loc main_arg0 ↦{fullShare.left} aT m c)
      ∗ (∃ f : Buf (Elt F) ((c : Thread nD τ).loc cc0_scratch0), (c : Thread nD τ).loc cc0_scratch0 ↦{fullShare} f)
      ∗ (∃ f : Buf (Elt F) ((c : Thread nD τ).loc cc0_scratch1), (c : Thread nD τ).loc cc0_scratch1 ↦{fullShare} f)
      ∗ (∃ f : Buf (Elt F) ((c : Thread nD τ).loc cc0_scratch2), (c : Thread nD τ).loc cc0_scratch2 ↦{fullShare} f)
      ∗ (∃ f : Buf (Elt F) ((c : Thread nD τ).loc cc0_scratch3), (c : Thread nD τ).loc cc0_scratch3 ↦{fullShare} f)
      ∗ (∃ f : Buf (Elt F) ((c : Thread nD τ).loc cc0_scratch4), (c : Thread nD τ).loc cc0_scratch4 ↦{fullShare} f)
      ∗ (∃ f : Buf (Elt F) ((c : Thread nD τ).loc cc0_scratch5), (c : Thread nD τ).loc cc0_scratch5 ↦{fullShare} f)
      ∗ (∃ f : Buf (Elt F) ((c : Thread nD τ).loc cc0_scratch6), (c : Thread nD τ).loc cc0_scratch6 ↦{fullShare} f)
      ∗ (∃ f : Buf (Elt F) ((c : Thread nD τ).loc cc0_stg0_0), (c : Thread nD τ).loc cc0_stg0_0 ↦{fullShare} f))
      ⊢ bigSep Finset.univ (memH m c) := by
  unfold memH
  rw [BI.bigSep_sep', BI.bigSep_sep', BI.bigSep_sep', BI.bigSep_sep', BI.bigSep_sep', BI.bigSep_sep', BI.bigSep_sep', BI.bigSep_sep',
      ← BI.bigSep_univ_prod (fun j : Fin 8 × Fin 4 => bx cc0_scratch1 c (rBs j.1 j.2).set), ← BI.bigSep_univ_prod (fun j : Fin 8 × Fin 3 => bx cc0_scratch2 c (rPs j.1 j.2).set),
      ← BI.bigSep_univ_prod (fun j : Fin 8 × Fin 4 => bx cc0_scratch3 c (rRs j.1 j.2).set), ← BI.bigSep_univ_prod (fun j : Fin 8 × Fin 3 => bx cc0_scratch4 c (rZs j.1 j.2).set),
      ← BI.bigSep_univ_prod (fun j : Fin 8 × Fin 4 => bx cc0_scratch6 c (tQ j.1 j.2)), ← BI.bigSep_univ_prod (fun j : Fin 8 × Fin 4 => bx cc0_stg0_0 c (tO j.1 j.2)),
      ← cut main_arg0 c (fun h => (rT h).set) _ memT]
  iintro ⟨HT, H0, H1, H2, H3, H4, H5, H6, HO⟩
  isplitl [HT]; · iexact HT
  isplitl [H0]; · iapply (cut_ex cc0_scratch0 c (fun h => (rV h).set) _ memV); iexact H0
  isplitl [H1]; · iapply (cut_ex cc0_scratch1 c (fun j : Fin 8 × Fin 4 => (rBs j.1 j.2).set) _ memB); iexact H1
  isplitl [H2]; · iapply (cut_ex cc0_scratch2 c (fun j : Fin 8 × Fin 3 => (rPs j.1 j.2).set) _ memP); iexact H2
  isplitl [H3]; · iapply (cut_ex cc0_scratch3 c (fun j : Fin 8 × Fin 4 => (rRs j.1 j.2).set) _ memR); iexact H3
  isplitl [H4]; · iapply (cut_ex cc0_scratch4 c (fun j : Fin 8 × Fin 3 => (rZs j.1 j.2).set) _ memZ); iexact H4
  isplitl [H5]; · iapply (cut_ex cc0_scratch5 c (fun h => (rYs h).set) _ memY); iexact H5
  isplitl [H6]; · iapply (cut_ex cc0_scratch6 c (fun j : Fin 8 × Fin 4 => tQ j.1 j.2) _ memQ); iexact H6
  iapply (cut_ex cc0_stg0_0 c (fun j : Fin 8 × Fin 4 => tO j.1 j.2) _ memO); iexact HO

/-! ## The end -/

/-- A head's counters at zero. -/
def zeroH (c : Dev nD) (h : Fin 8) : sProp 𝕄 :=
  iprop(semVal (cL c h) 0 ∗ (tri (Zr 0 c h) ∗ tri (Zr 1 c h) ∗ tri (Zr 2 c h) ∗ tri (Zr 3 c h)))
/-- A head's slots at the end. -/
def endH (c : Dev nD) (h : Fin 8) : sProp 𝕄 :=
  iprop(bp cc0_scratch0 c (rV h).set fullShare (fV m c) ∗ (bigSep Finset.univ fun i : Fin 4 => bp cc0_scratch1 c (rBs h i).set fullShare (fB m c))
    ∗ (bigSep Finset.univ fun i : Fin 3 => bp cc0_scratch2 c (rPs h i).set fullShare (fP m c)) ∗ (bigSep Finset.univ fun i : Fin 4 => bp cc0_scratch3 c (rRs h i).set fullShare (fR m c))
    ∗ (bigSep Finset.univ fun i : Fin 3 => bp cc0_scratch4 c (rZs h i).set fullShare (fZ m c)) ∗ bp cc0_scratch5 c (rYs h).set fullShare (fY m c)
    ∗ bp cc0_scratch6 c (rQs h).set fullShare (fQ m c) ∗ bigSep Finset.univ fun p : Fin 4 => bp cc0_stg0_0 c (tO h p) fullShare (fO m c))

/-- The result's blocks: the device's own and the three received. -/
theorem slotsO (c : Dev nD) (h : Fin 8) : (bigSep Finset.univ fun p : Fin 4 => bp cc0_stg0_0 c (tO h p) fullShare (fO m c))
    = iprop(bp cc0_stg0_0 c (tO h (pPos c)) fullShare (fO m c) ∗ tri (rPay m 3 c h)) := by
  have ez : ∀ (r : Fin 3), pPos (pp r c) = rot (pPos c) r := fun r => pPos_pp r c
  rw [four_tor (pPos c), ← ez, ← ez, ← ez, ← pc_O c (pp (rv 0) c), ← pc_O c (pp (rv 1) c), ← pc_O c (pp (rv 2) c)]; rfl

/-- After its last wait a head holds its counters at zero and its slots. -/
theorem end_head (c : Dev nD) (h : Fin 8) : S5 m c h = iprop(zeroH c h ∗ endH m c h) := by
  have eP := (three (fun i : Fin 3 => bp cc0_scratch2 c (rPs h i).set fullShare (fP m c))).trans (slotsP m c h).symm
  have eZ := (three (fun i : Fin 3 => bp cc0_scratch4 c (rZs h i).set fullShare (fZ m c))).trans (slotsZ m c h).symm
  unfold S5 E1 E2 E3 E4 E5 zeroH endH
  rw [slotsB, slotsR, slotsO, slotsY, slotsQs, eP, eZ]
  ac_rfl

/-- The counters of all heads are the device's own counters. -/
theorem zeros (c : Dev nD) : bigSep Finset.univ (zeroH (F := F) c) = bigSep Finset.univ fun i : OI => semVal (kcell (c, .inr i)) 0 := by
  rw [split_OI]
  unfold zeroH
  rw [BI.bigSep_sep']
  refine congrArg (fun X => iprop(_ ∗ X)) ?_
  rw [← BI.bigSep_sep', heads4]; rfl

/-- The buffers at the end, whole. -/
def endMem (c : Dev nD) : sProp 𝕄 :=
  iprop(((c : Thread nD τ).loc cc0_scratch0 ↦{fullShare} fV m c) ∗ ((c : Thread nD τ).loc cc0_scratch1 ↦{fullShare} fB m c)
    ∗ ((c : Thread nD τ).loc cc0_scratch2 ↦{fullShare} fP m c) ∗ ((c : Thread nD τ).loc cc0_scratch3 ↦{fullShare} fR m c)
    ∗ ((c : Thread nD τ).loc cc0_scratch4 ↦{fullShare} fZ m c) ∗ ((c : Thread nD τ).loc cc0_scratch5 ↦{fullShare} fY m c)
    ∗ ((c : Thread nD τ).loc cc0_scratch6 ↦{fullShare} fQ m c) ∗ ((c : Thread nD τ).loc cc0_stg0_0 ↦{fullShare} fO m c))

/-- The slots of all heads are the whole buffers. -/
theorem end_mem (c : Dev nD) : bigSep Finset.univ (endH m c) = endMem m c := by
  unfold endH endMem
  rw [BI.bigSep_sep', BI.bigSep_sep', BI.bigSep_sep', BI.bigSep_sep', BI.bigSep_sep', BI.bigSep_sep', BI.bigSep_sep',
      ← BI.bigSep_univ_prod (fun j : Fin 8 × Fin 4 => bp cc0_scratch1 c (rBs j.1 j.2).set fullShare (fB m c)),
      ← BI.bigSep_univ_prod (fun j : Fin 8 × Fin 3 => bp cc0_scratch2 c (rPs j.1 j.2).set fullShare (fP m c)),
      ← BI.bigSep_univ_prod (fun j : Fin 8 × Fin 4 => bp cc0_scratch3 c (rRs j.1 j.2).set fullShare (fR m c)),
      ← BI.bigSep_univ_prod (fun j : Fin 8 × Fin 3 => bp cc0_scratch4 c (rZs j.1 j.2).set fullShare (fZ m c)),
      ← BI.bigSep_univ_prod (fun j : Fin 8 × Fin 4 => bp cc0_stg0_0 c (tO j.1 j.2) fullShare (fO m c)),
      ← cut cc0_scratch0 c (fun h => (rV h).set) _ memV, ← cut cc0_scratch1 c (fun j : Fin 8 × Fin 4 => (rBs j.1 j.2).set) _ memB,
      ← cut cc0_scratch2 c (fun j : Fin 8 × Fin 3 => (rPs j.1 j.2).set) _ memP, ← cut cc0_scratch3 c (fun j : Fin 8 × Fin 4 => (rRs j.1 j.2).set) _ memR,
      ← cut cc0_scratch4 c (fun j : Fin 8 × Fin 3 => (rZs j.1 j.2).set) _ memZ, ← cut cc0_scratch5 c (fun h => (rYs h).set) _ memY,
      ← cut cc0_scratch6 c (fun h => (rQs h).set) _ memQs, ← cut cc0_stg0_0 c (fun j : Fin 8 × Fin 4 => tO j.1 j.2) _ memO]

/-- All heads at their end: the counters zero and the buffers whole. -/
theorem end_all (c : Dev nD) : (bigSep Finset.univ fun h => S5 m c h)
    = iprop((bigSep Finset.univ fun i : OI => semVal (kcell (c, .inr i)) 0) ∗ endMem m c) := by
  simp only [end_head]
  rw [BI.bigSep_sep', zeros, end_mem]

end Cert.KernelIdeal.Heads

end
-- ==== Proof.Start.lean ====
/-
# The launch: invariants, tokens and credits

The cells' invariants are made from the counters at zero; the tokens minted with the cells are dealt to the devices
that pay them; the credit of the launch is what the cells of a device expect from the others.
-/
module

public import proofs.«01_k».proof.Proof.Deal

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

def runCells : Finset (GSem nD τ sig) := Finset.univ.map ⟨kcell, kcell_inj⟩

/-- The duties of a device's own cells. -/
abbrev TI : Type := DD ⊕ OI
def tokOf (x : Dev nD × TI) : GSem nD τ sig × ℕ × DD :=
  match x.2 with
  | .inl d => (cB x.1, 0, d)
  | .inr i => (kcell (x.1, .inr i), 0, d0)
/-- Different duties have different tokens. -/
theorem tokOf_inj : Function.Injective tokOf := by
  rintro ⟨c, d | i⟩ ⟨c', d' | i'⟩ e
  · have h1 := kcell_inj (congrArg Prod.fst e)
    have h2 : d = d' := congrArg (fun x => x.2.2) e
    have h3 : c = c' := congrArg Prod.fst h1
    rw [h2, h3]
  · have h1 := congrArg Prod.snd (kcell_inj (congrArg Prod.fst e)); cases h1
  · have h1 := congrArg Prod.snd (kcell_inj (congrArg Prod.fst e)); cases h1
  · have h1 := kcell_inj (congrArg Prod.fst e)
    have h2 : i = i' := Sum.inr.inj (congrArg Prod.snd h1)
    have h3 : c = c' := congrArg Prod.fst h1
    rw [h2, h3]
def runToks : Finset (GSem nD τ sig × ℕ × DD) := Finset.univ.map ⟨tokOf, tokOf_inj⟩

def u₀ : UU :=
  (initOf (Pipeline.cells cfgs cellOf_inj) (Pipeline.launchToks cfgs cellOf_inj), initOf runCells runToks)

/-- The tokens of a device's own cells. -/
def toks (c : Dev nD) : sProp 𝕄 :=
  iprop((bigSep Finset.univ fun d : DD => dutyTok ER (cB c) 0 d) ∗ bigSep Finset.univ fun i : OI => dutyTok ER (kcell (c, .inr i)) 0 d0)

/-- What the launch deals a device. -/
def Gd (c : Dev nD) : sProp 𝕄 :=
  iprop((bigSep Finset.univ fun k : CI => roundState ER (Rd m) (kcell (c, k)) 0)
    ∗ (bigSep Finset.univ fun k : CI => iprop(at0 c k ∗ reached ER (kcell (c, k)) 0)) ∗ toks c)

/-- The protocol's initial resources give every device its share. -/
theorem fund_run : BI.own (ER (initOf runCells runToks)) ⊢ (|==> bigSep Finset.univ (Gd m) : sProp 𝕄) := by
  have hX (Φ : GSem nD τ sig → sProp 𝕄) : bigSep runCells Φ = bigSep Finset.univ fun c : Dev nD => bigSep Finset.univ fun k : CI => Φ (kcell (c, k)) := by
    unfold runCells; rw [bigSep_map, bigSep_univ_prod]; rfl
  have hT : bigSep runToks (fun x => (dutyTok ER x.1 x.2.1 x.2.2 : sProp 𝕄)) = bigSep Finset.univ fun c : Dev nD => toks c := by
    unfold runToks; rw [bigSep_map, bigSep_univ_prod]
    exact bigSep_congr fun c _ => by unfold toks; rw [bigSep_univ_sum]; rfl
  iintro HX
  imod (Rounds.fund ER (Rd m) runCells runToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gd at0; simp only [bigSep_sep']
  isplitl [Hst']; · iexact Hst'
  isplitl [Hat' Hr']
  · isplitl [Hat'] <;> iassumption
  iexact Htok'

/-! ## The semaphores at zero -/

omit [FloatOps F] in
/-- The kernel's own counters at zero, by index. -/
theorem ownSems0_eq (c : Dev nD) : (Pipeline.ownSems0 (Ix := Unit) (Name := ℕ) (U := UU) (Lvl := ℕ) (Val := Elt F) (τ := τ) osem c : sProp 𝕄)
    = bigSep Finset.univ fun i : OI => semVal (kcell (c, .inr i)) 0 := rfl
omit [FloatOps F] in
/-- The one counter outside the kernel's scope is the barrier's. -/
theorem unscopedSems0_eq (c : Dev nD) : (unscopedSems0 c : sProp 𝕄) = semVal (cB c) 0 := by
  unfold unscopedSems0; rw [bigSep_eq_bigSepL_of_eq [SemLoc.reg semB] (by decide +kernel) (by decide +kernel)]; rfl
omit [FloatOps F] in
/-- All counters at zero, by index. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : CI => semVal (kcell (c, k)) 0 : sProp 𝕄) := by
  rw [ownSems0_eq, unscopedSems0_eq, split_CI, turn]

/-- The invariants of a device's cells. -/
theorem core_alloc (c : Dev nD) :
    iprop(Pipeline.ownSems0 (Ix := Unit) (Name := ℕ) (U := UU) (Lvl := ℕ) (Val := Elt F) (τ := τ) osem c ∗ unscopedSems0 c ∗ Gd m c)
      ⊢ |={Set.univ}=> iprop((bigSep Finset.univ fun k : CI => iprop(∃ κ : ℕ, cellInv ER (Rd m) κ (kcell (c, k))))
          ∗ (bigSep Finset.univ fun k : CI => iprop(at0 c k ∗ reached ER (kcell (c, k)) 0)) ∗ toks c) := by
  unfold Gd
  iintro ⟨Hos, Hus, Hst, Hat, Htok⟩
  ihave Hv := (entails_eq (sems0_eq (F := F) c)) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

omit [FloatOps F] in
/-- Things of devices and duties, each duty's moved to the device that pays it. -/
theorem around {J : Type} [Fintype J] (e : J → Dev nD ≃ Dev nD) (Φ : Dev nD → J → sProp 𝕄) :
    (bigSep Finset.univ fun c : Dev nD => bigSep Finset.univ fun j : J => Φ c j) = bigSep Finset.univ fun c : Dev nD => bigSep Finset.univ fun j : J => Φ (e j c) j := by
  rw [Pipeline.bigSep_univ_comm, Pipeline.bigSep_univ_comm (fun (c : Dev nD) (j : J) => Φ (e j c) j)]
  exact bigSep_congr fun j _ => bigSep_univ_equiv (e j) (fun c => Φ c j)

/-- The tokens of all devices' cells are the tokens of all devices' duties. -/
theorem toks_around : (bigSep Finset.univ fun c : Dev nD => (toks c : sProp 𝕄)) = bigSep Finset.univ fun c : Dev nD => payToks c := by
  have eO (c : Dev nD) : (bigSep Finset.univ fun i : OI => (dutyTok ER (kcell (c, .inr i)) 0 d0 : sProp 𝕄))
      = iprop((bigSep Finset.univ fun h : Fin 8 => dutyTok ER (cL c h) 0 d0) ∗ (bigSep Finset.univ fun x : TX => dutyTok ER (cS c x.1 x.2.1 x.2.2) 0 d0)
        ∗ bigSep Finset.univ fun x : TX => dutyTok ER (cR c x.1 x.2.1 x.2.2) 0 d0) := split_OI _
  unfold toks payToks
  simp only [eO]
  rw [bigSep_sep', bigSep_sep', bigSep_sep', bigSep_sep', bigSep_sep', bigSep_sep',
    around tgtE (fun c d => (dutyTok ER (cB c) 0 d : sProp 𝕄)),
    around (fun x : TX => peerE x.1 x.2.2) (fun c x => (dutyTok ER (cR c x.1 x.2.1 x.2.2) 0 d0 : sProp 𝕄))]
  rfl

/-- What a device keeps for its run. -/
def Gk (c : Dev nD) : sProp 𝕄 := iprop(∃ K, records m K ∗ (bigSep Finset.univ fun k : CI => at0 (F := F) c k) ∗ payToks c)

/-- Records, cells at their start and tokens are what a device enters with. -/
theorem gk_intro (K : Dev nD × CI → ℕ) (c : Dev nD) : iprop(records m K ∗ (bigSep Finset.univ fun k : CI => at0 (F := F) c k) ∗ payToks c) ⊢ Gk m c := by
  unfold Gk; iintro H; iexists K; iexact H

omit [FloatOps F] in
/-- A persistent fact may be used at every place. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What is given by cells is what is given by devices. -/
theorem regroup :
    (bigSep Finset.univ fun c : Dev nD => iprop((bigSep Finset.univ fun k : CI => iprop(∃ κ : ℕ, cellInv ER (Rd m) κ (kcell (c, k))))
          ∗ (bigSep Finset.univ fun k : CI => iprop(at0 (F := F) c k ∗ reached ER (kcell (c, k)) 0)) ∗ toks c) : sProp 𝕄)
      ⊢ bigSep Finset.univ (Gk m) := by
  rw [bigSep_sep', bigSep_sep', ← bigSep_univ_prod (fun x : Dev nD × CI => iprop(∃ κ : ℕ, cellInv ER (Rd m) κ (kcell x))),
    bigSep_congr (s := Finset.univ) (fun (c : Dev nD) _ => bigSep_sep' Finset.univ (fun k : CI => at0 (F := F) c k) (fun k => reached ER (kcell (c, k)) 0)),
    bigSep_sep', ← bigSep_univ_prod (fun x : Dev nD × CI => (reached ER (kcell x) 0 : sProp 𝕄)), toks_around]
  iintro ⟨HI, ⟨Hat, #HR⟩, Htok⟩
  ihave HK := (BI.bigSep_exists_pi Finset.univ (fun (x : Dev nD × CI) (κ : ℕ) => (cellInv ER (Rd m) κ (kcell x) : sProp 𝕄))) $$ HI
  icases HK with ⟨%K, #HI⟩
  iapply (bigSep_with (R := records m K) fun c _ => gk_intro m K c)
  isplitr
  · unfold records; isplitl; · iexact HI
    iexact HR
  · rw [bigSep_sep']
    isplitl [Hat]; · iexact Hat
    iexact Htok

/-- All devices' semaphores at once make the invariants. -/
theorem glob : (bigSep Finset.univ fun c => iprop(Pipeline.ownSems0 (Ix := Unit) (Name := ℕ) (U := UU) (Lvl := ℕ) (Val := Elt F) (τ := τ) osem c ∗ unscopedSems0 c ∗ Gd m c) : sProp 𝕄)
    ⊢ |={Set.univ}=> bigSep Finset.univ (Gk m) :=
  ((bigSep_mono fun c _ => core_alloc m c).trans (bigSep_fupd _ _)).trans (BI.fupd_mono (regroup m))

/-! ## The launch credit -/

/-- Cells of different indices are different. -/
theorem kcell_ne {x y : Dev nD × CI} (h : x.2 ≠ y.2) : kcell x ≠ kcell y := fun e => h (congrArg Prod.snd (kcell_inj e))

/-- What a signal owes at a device's barrier. -/
theorem owedB_bar (d c : Dev nD) (x : DD) : owedB d x (cB c) () = if d = bck x c then 1 else 0 := by
  unfold owedB
  rw [tallyAt_apply]
  by_cases h : d = bck x c
  · rw [if_pos h, if_pos ⟨by rw [h, tgt_bck], rfl⟩]
  · rw [if_neg h, if_neg]
    rintro ⟨e, -⟩
    have : c = tgt x d := congrArg Prod.fst (kcell_inj e)
    exact h (by rw [this, bck_tgt])
/-- A signal owes nothing at an own cell. -/
theorem owedB_own (d c : Dev nD) (x : DD) (i : OI) : owedB d x (kcell (c, .inr i)) () = 0 := by
  unfold owedB; rw [tallyAt_apply, if_neg]; rintro ⟨e, -⟩; exact kcell_ne (by simp) e
/-- The copies owe nothing at a barrier. -/
theorem rem_bar (d c : Dev nD) : rem d 0 (cB c) () = 0 := by
  rw [rem_apply]
  refine Finset.sum_eq_zero fun x _ => ?_
  unfold owed1; rw [tallyAt_apply, if_neg]; rintro ⟨e, -⟩; exact kcell_ne (by simp) e
/-- What the copies owe at a receive cell: the credit of the one copy that arrives there. -/
theorem rem_recv (d c : Dev nD) (x : TX) : rem d 0 (cR c x.1 x.2.1 x.2.2) () = if d = peer x.1 (rv x.2.2) c then NN x.1 else 0 := by
  rw [rem_apply, Finset.sum_eq_single x]
  · unfold owed1
    rw [tallyAt_apply]
    by_cases h : d = peer x.1 (rv x.2.2) c
    · rw [if_pos h, if_pos ⟨by rw [h, peer_rv], rfl⟩]
    · rw [if_neg h, if_neg]
      rintro ⟨e, -⟩
      have : c = peer x.1 x.2.2 d := congrArg Prod.fst (kcell_inj e)
      exact h (by rw [this, rv_peer])
  · intro y _ hy
    unfold owed1; rw [tallyAt_apply, if_neg]
    rintro ⟨e, -⟩
    have h2 := congrArg Prod.snd (kcell_inj e)
    simp only [Sum.inr.injEq, Prod.mk.injEq, true_and] at h2
    exact hy (Prod.ext h2.1.symm (Prod.ext h2.2.1.symm h2.2.2.symm))
  · intro h; exact absurd (Finset.mem_filter.mpr ⟨Finset.mem_univ x, Nat.zero_le _⟩) h

omit [FloatOps F] in
/-- The launch credits a barrier with six units. -/
theorem launch_bar (c : Dev nD) : tallyOn (cB c) (launchCredit (Pipeline.owing O₀) 0 (cB c)) = (tallyAt (cB c) () 6 : CellTallies nD τ sig Unit) := by
  unfold tallyAt; refine congrArg _ (Finsupp.ext fun u => ?_); cases u
  have h1 (x : DD) : (∑ d : Dev nD, owedB d x (cB c) ()) = 1 := by
    rw [Finset.sum_congr rfl fun d _ => owedB_bar d c x, Finset.sum_ite_eq' Finset.univ (bck x c) fun _ => 1, if_pos (Finset.mem_univ _)]
  have h0 : (∑ d : Dev nD, rem d 0 (cB c) ()) = 0 := Finset.sum_eq_zero fun d _ => rem_bar d c
  rw [Pipeline.launchCredit_owing, Finsupp.single_eq_same]
  unfold O₀
  simp only [Pi.add_apply, Finsupp.add_apply, Finset.sum_add_distrib, h0, h1]

omit [FloatOps F] in
/-- The launch credits a receive cell with the credit of its copy. -/
theorem launch_recv (c : Dev nD) (x : TX) :
    tallyOn (cR c x.1 x.2.1 x.2.2) (launchCredit (Pipeline.owing O₀) 0 (cR c x.1 x.2.1 x.2.2)) = (tallyAt (cR c x.1 x.2.1 x.2.2) () (NN x.1) : CellTallies nD τ sig Unit) := by
  unfold tallyAt; refine congrArg _ (Finsupp.ext fun u => ?_); cases u
  rw [Pipeline.launchCredit_owing, Finsupp.single_eq_same]
  unfold O₀
  simp only [Pi.add_apply, Finsupp.add_apply, owedB_own, add_zero, rem_recv]
  rw [Finset.sum_ite_eq' Finset.univ (peer x.1 (rv x.2.2) c) fun _ => NN x.1, if_pos (Finset.mem_univ _)]

/-- The semaphores the others pay. -/
def jcell : Unit ⊕ TX → CI
  | .inl _ => .inl ()
  | .inr x => iR x.1 x.2.1 x.2.2
/-- Different indices of the credits have different cells -/
theorem jcell_inj : Function.Injective jcell := by
  rintro (⟨⟩ | x) (⟨⟩ | y) e
  · rfl
  · cases e
  · cases e
  · simp only [jcell, iR, Sum.inr.injEq, Prod.mk.injEq, true_and] at e
    exact congrArg Sum.inr (Prod.ext e.1 (Prod.ext e.2.1 e.2.2))
def jsem (x : Unit ⊕ TX) : SemLoc sig := csem (jcell x)
/-- and different semaphores. -/
theorem jsem_inj : Function.Injective jsem := csem_inj.comp jcell_inj

/-- The launch credits of a device are those its waits need. -/
theorem creds_intro (c : Dev nD) : (Pipeline.launchCred O₀ c : sProp 𝕄) ⊢ creds c := by
  unfold Pipeline.launchCred creds
  refine (BI.bigSep_subset (Finset.subset_univ (Finset.univ.map ⟨jsem, jsem_inj⟩))).trans ?_
  rw [bigSep_map, bigSep_univ_sum, bigSep_univ_eq_bigSepL [()] (by decide) (by decide)]
  refine entails_eq ?_
  rw [← launch_bar c]
  simp only [← launch_recv c]
  rfl

end Cert.KernelIdeal.Heads

end
-- ==== Proof.Go.lean ====
/-
# The run of the program

The body's obligation at its one point, for any device, and the run from the launch to the final state.
-/
module

public import proofs.«01_k».proof.Proof.BodyEq
public import proofs.«01_k».proof.Proof.Start
public import Idealize.ShloMosaic.Lib.Pipeline.CollectiveSegs

@[expose] public section

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- A device's argument array. -/
def argAt (c : Dev nD) (q : PosShare TreeShare) : sProp 𝕄 := iprop((c : Thread nD τ).loc main_arg0 ↦{q} aT m c)

/-- The argument is held in two halves. -/
theorem arg_halves (c : Dev nD) : (argAt m c fullShare : sProp 𝕄) ⊢ iprop(argAt m c fullShare.left ∗ argAt m c fullShare.right) := by
  unfold argAt
  have h : (((c : Thread nD τ).loc main_arg0 ↦{fullShare} aT m c) : sProp 𝕄) ⊣⊢ iprop(((c : Thread nD τ).loc main_arg0 ↦{fullShare.left} aT m c) ∗ ((c : Thread nD τ).loc main_arg0 ↦{fullShare.right} aT m c)) :=
    pointsTo_share (PosShare.mem_left_op_right fullShare)
  exact h.1

/-- What a device starts from, its scratch apart. -/
def start (c : Dev nD) : sProp 𝕄 :=
  iprop((∃ K, ctx m K ∗ (bigSep Finset.univ fun k : CI => at0 (F := F) c k) ∗ payToks c) ∗ creds c ∗ argAt m c fullShare.left)

/-- The scratch buffers at some contents. -/
def scr (c : Dev nD) : sProp 𝕄 := Pipeline.scopedRest cfg0.spec c

def Φ₀ (c : Dev nD) : sProp 𝕄 := iprop(start m c ∗ scr c)
def Φ₁ (c : Dev nD) : sProp 𝕄 := iprop(semVal (cB c) 0 ∗ (bigSep Finset.univ fun i : OI => semVal (kcell (c, .inr i)) 0) ∗ scr c)

def dats (_ : Fin 1) (c : Dev nD) : Dat τ (Elt F) Unit ℕ UU ℕ cfg0 c where
  A w := m ((cfg0.win w).arr.view.loc (c : Thread nD τ))
  after w _ := match w with
    | ⟨0, _⟩ => fO m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- Owning a whole buffer is holding it at these contents. -/
theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The output's staging buffer at contents `X`. -/
def stgO (c : Dev nD) (X : Vec F S2048x1024 .bf16) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t0_0.castSucc ∗ (∃ d, stgO c ((dats m 0 c).before (0 : Fin 1) t0_0 d)))
def bodyPost (c : Dev nD) : sProp 𝕄 :=
  iprop(Φ₁ c ∗ (dats m 0 c).owesAt () t0_0.succ ∗ stgO c (fO m c))

/-- At the start the device owes all that it will signal and send. -/
theorem owes_start (c : Dev nD) : (dats m 0 c).owesAt () t0_0.castSucc ⊢ ow c (O₀ c) := by
  unfold Dat.owesAt Pipeline.owesWithin ow
  rw [show (dats m 0 c).owed t0_0.castSucc = O₀ c from rfl]
  iintro ⟨%W, %hW, HO⟩
  iexists W; iexact HO
/-- At the end it owes nothing. -/
theorem owes_end (c : Dev nD) : (ow c 0 : sProp 𝕄) ⊢ (dats m 0 c).owesAt () t0_0.succ := by
  unfold Dat.owesAt Pipeline.owesWithin ow
  rw [show (dats m 0 c).owed t0_0.succ = 0 from rfl]
  iintro ⟨%W, HO⟩
  iexists W
  isplitr; · ipureintro; exact fun _ _ => Or.inl trivial
  iexact HO

/-- Scratch, staging buffer and argument, cut along the heads. -/
theorem mem_start (c : Dev nD) (X : Vec F S2048x1024 .bf16) : iprop(argAt m c fullShare.left ∗ scr c ∗ stgO c X) ⊢ bigSep Finset.univ (memH m c) := by
  unfold scr stgO argAt
  rw [scopedRest0_eq]
  iintro ⟨Ha, ⟨H0, H1, H2, H3, H4, H5, H6⟩, ⟨%g, %hg, Hg⟩⟩
  iapply (mem_heads m c)
  isplitl [Ha]; · iexact Ha
  isplitl [H0]; · iexact H0
  isplitl [H1]; · iexact H1
  isplitl [H2]; · iexact H2
  isplitl [H3]; · iexact H3
  isplitl [H4]; · iexact H4
  isplitl [H5]; · iexact H5
  isplitl [H6]; · iexact H6
  iexists g; iexact Hg

/-- The buffers at the end are scratch of some contents and the result. -/
theorem mem_end (c : Dev nD) : endMem m c ⊢ iprop(scr c ∗ stgO c (fO m c)) := by
  unfold scr stgO endMem
  rw [scopedRest0_eq]
  iintro ⟨H0, H1, H2, H3, H4, H5, H6, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  · iexists _
    isplitr; · ipureintro; rfl
    iexact Hg

/-- A program that returns at once. -/
theorem ret_intro (c : Dev nD) {α : Type} (a : α) (Q : α → sProp 𝕄) : Q a ⊢ WP (F := F) c (.ret a) Q := le_wp_ret _ _ _ _ _

/-- The body is sound: from what a device holds before it to what it holds after. -/
theorem sound_body (c : Dev nD) : bodyPre m c ⊢ WP c (bodyP c >>= fun x => .ret x) (fun _ => bodyPost m c) := by
  unfold bodyPre Φ₀ start
  iintro ⟨⟨⟨⟨%K, #Hctx, Hat, Htok⟩, Hcr, Ha⟩, Hscr⟩, Ho, ⟨%d, Hg⟩⟩
  ihave HO := (owes_start m c) $$ Ho
  ihave Hm := (mem_start m c ((dats m 0 c).before (0 : Fin 1) t0_0 d)) $$ [Ha Hscr Hg]
  · isplitl [Ha]; · iexact Ha
    isplitl [Hscr] <;> iassumption
  ihave Hd := (deal m c) $$ [Hat Htok Hcr Hm]
  · isplitl [Hat]; · iexact Hat
    isplitl [Htok]; · iexact Htok
    isplitl [Hcr] <;> iassumption
  icases Hd with ⟨Hb, HA⟩
  iapply (wp_bodyP m K c (HA m c) (barrier_gives m c)) $$ [Hb HA HO]
  · isplitr; · iexact Hctx
    isplitl [Hb]; · iexact Hb
    isplitl [HA] <;> iassumption
  iintro ⟨HB, HS, HO⟩
  ihave He := (entails_eq (end_all m c)) $$ HS
  icases He with ⟨Hz, Hm⟩
  ihave He := (mem_end m c) $$ Hm
  icases He with ⟨Hscr, Hg⟩
  ihave Ho := (owes_end m c) $$ HO
  iapply (ret_intro (F := F) c ⟨⟩ fun _ => bodyPost m c)
  unfold bodyPost Φ₁
  isplitr [Ho Hg]
  · isplitl [HB]; · iexact HB
    isplitl [Hz] <;> iassumption
  isplitl [Ho] <;> iassumption

set_option maxRecDepth 100000 in
/-- The body's obligation on a device. -/
theorem body_obligation (c : Dev nD) : BodyObligation (dats (F := F) m 0 c) (defs₀ (F := F)) 𝒱₀ () Set.univ := fun t => by
  rw [fin_N0 t]
  rw [bigSep_W0, bigSep_W0]
  simp only [whole_owned]
  show bodyPre m c ⊢ wp frame (wpE (defs₀ (F := F)) 𝒱₀ c none) Set.univ (bodyAt0 t0_0) (fun _ => bodyPost m c)
  rw [body_eq, wp_deviceId]
  have h := sound_body m c
  rw [show (bodyP (F := F) c >>= fun x => .ret x) = bodyP c from Prog.bind_pure _] at h
  exact h

/-! ## The launch's sides -/

/-- The windows are held whole. -/
theorem share_eq (c : Dev nD) (w : Fin cfg0.W) : (dats m 0 c).share w = fullShare := by unfold Dat.share; split <;> rfl

/-- The launch gives a device what its body starts from, and the argument's second half. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Gk m c)
      ⊢ |={Set.univ}=> iprop(start m c ∗ argAt m c fullShare.right) := by
  rw [Pipeline.unscopedRestP_none, unscopedRest0_eq]
  iintro ⟨Ha, #Hlev, Hcr, -, HG⟩
  ihave Hc := (creds_intro (F := F) c) $$ Hcr
  ihave Ha' := (arg_halves m c) $$ [Ha]
  · unfold argAt aT; iexact Ha
  icases Ha' with ⟨Hl, Hr⟩
  imodintro
  unfold start Gk
  isplitr [Hr]
  · isplitl [HG]
    · icases HG with ⟨%K, #Hrec, H1, H2⟩
      iexists K
      isplitr
      · unfold ctx; isplitr; · iexact Hrec
        iexact Hlev
      isplitl [H1] <;> iassumption
    isplitl [Hc] <;> iassumption
  · iexact Hr

/-- With the scratch this is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scr
  iintro ⟨Hs, -, Hr⟩
  isplitl [Hs] <;> iassumption

/-- What the body leaves has every counter at zero and the scratch. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq]
  unfold Φ₁ scr
  exact .rfl

/-- The staging semaphores are on level 0. -/
theorem stage_level (c : Dev nD) (w : Fin cfg0.W) (s : Fin (cfg0.spec w).nbuf) : lv ((c : Thread nD τ), .dma ((cfg0.spec w).sem s)) () = 0 := by
  have h : dec ((c : Thread nD τ), .dma ((cfg0.spec w).sem s)) = none := by
    refine dif_neg ?_
    rintro ⟨⟨c', i⟩, e⟩
    have e2 : csem i = .dma ((cfg0.spec w).sem s) := congrArg Prod.snd e
    rcases i with _ | i
    · cases e2
    · exact ownSemFacts.disj i w s e2
  unfold lv; rw [h]; rfl

/-- A wait on a staging semaphore is allowed. -/
theorem waits (c : Dev nD) : (levAts L lv : sProp 𝕄) ⊢ Pipeline.cellsWaits cfgs (dats m) () 0 c :=
  Pipeline.cellsWaits_intro cfgs (dats m) () 0 c fun w s t =>
    mayWait_stage c _ (stage_level c w s) _ (by
      rcases t with ⟨_ | _, ht⟩
      · exact Or.inl rfl
      · exact Or.inr rfl)

/-- The argument's half, kept aside during the run, tells what the argument holds at the end. -/
theorem read_arg (c : Dev nD) (s' : Phys nD τ sig (Elt F)) :
    (iprop(argAt m c fullShare.right ∗ SI s') : sProp 𝕄) ⊢ iprop(⌜s'.mem.mem ((c : Thread nD τ).loc main_arg0) = aT m c⌝ ∗ SI s') := by
  have h := pointsTo_read_all (Ix := Unit) (Name := ℕ) (U := UU) (Lvl := ℕ) (Val := Elt F) {()} (fun _ : Unit => (c : Thread nD τ).loc main_arg0) (fun _ => aT m c) s' fullShare.right
  rw [bigSep_singleton] at h
  unfold argAt
  refine h.trans ?_
  iintro ⟨%h, H⟩
  isplitr; · ipureintro; exact h () (Finset.mem_singleton_self _)
  iexact H

/-! ## The run -/

/-- A device's result array at the end. -/
def finalA (c : Dev nD) (w : Fin cfg0.W) : Buf (Elt F) ((cfg0.win w).arr.view.loc (c : Thread nD τ)) := (dats m 0 c).arrAt w cfg0.N

/-- What the run leaves: every device's result array as computed, its argument as it was. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = m ((c : Thread nD τ).loc main_arg0)

set_option maxRecDepth 100000 in
/-- On the sixteen devices, for any float values, from any memory with the counters at zero: every fair execution ends, with each
    device's result array at the contents computed, its argument unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Gd m) (G' := Gk m) (u₀ := u₀)
    (hu₀ := by
      unfold u₀
      iintro Hu
      ihave H := (ownU_pair _ _) $$ Hu
      icases H with ⟨HP, HX⟩
      imod (fund_run m) $$ HX with HG
      imodintro
      isplitl [HP] <;> iassumption)
    (hglob := glob m)
    (hA := fun _ _ => rfl) (hpf := fun _ k => k.elim0)
    (X := start m) (Y := fun c => unscopedSems0 c) (Z := fun c => argAt m c fullShare.right)
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨Hu, Ha, HSI⟩
      ihave H := (read_arg m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨ha, hs⟩
      iexact HSI)
    (hQ := fun _ h hs => ⟨fun c => ⟨fun w => (h c).1 w, (h c).2.2.1⟩, sem_eq_zero hs fun c => (h c).2.2.2⟩)

end Cert.KernelIdeal.Heads

end
-- ==== Proof.Frames.lean ====
/-
# The runs of the three programs

The kernel's run, at the words and at the reals, leaves the argument and the counters as they were; so does the
reference's.
-/
module

public import proofs.«01_k».proof.Defs
public import proofs.«01_k».proof.Proof.Go
public import proofs.«01_k».proof.Proof.Gen.Kernel
public import Idealize.ShloMosaic.Lib.Tactic
public import proofs.«01_k».proof.Proof.Gen.ReferenceIdeal.Run

@[expose] public section

noncomputable section

namespace Cert.Proof

open Idealize.ShloMosaic Idealize.SL.Sem

/-- The two printed programs are one text. -/
theorem text_eq : Cert.Kernel.defs (F := Bits) = Cert.KernelIdeal.defs (F := Bits) := by sl_kernel_rfl

/-- The kernel at the words. -/
theorem frame_kernel : Cert.quiescent_Kernel := by
  intro m ρ _
  rw [text_eq]
  exact (θ_run Cert.KernelIdeal.defs _ _).mono (fun _ h => ⟨fun c => (h.1 c).2, h.2⟩) (Cert.KernelIdeal.Heads.run_main (F := Bits) m ρ)

/-- The kernel at the reals. -/
theorem frame_kernelIdeal : Cert.quiescent_KernelIdeal := fun m ρ _ =>
  (θ_run Cert.KernelIdeal.defs _ _).mono (fun _ h => ⟨fun c => (h.1 c).2, h.2⟩) (Cert.KernelIdeal.Heads.run_main (F := Ideal) m ρ)

/-- The reference at the reals; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Values.lean ====
/-
# The values at the reals

At the reals a rounding changes nothing, so every buffer of the kernel is read down to the devices' arguments: the plane
sums are sums over the four devices of a plane, the sums along z over all sixteen devices, and the result on every
device is one function of the sum of the sixteen arguments.
-/
module

public import proofs.«01_k».proof.Proof.Go
public import Idealize.ShloMosaic.PureOps.Ideal
public import Idealize.ShloMosaic.Lib.Pipeline.Value
public import Mathlib.Algebra.BigOperators.Fin

@[expose] public section

noncomputable section

namespace Cert.KernelIdeal.Heads

open Cert.KernelIdeal Cert.KernelIdeal.Gen
open Idealize.ShloMosaic Idealize.ShloMosaic.TcCoe Idealize.ShloMosaic.ValueIdx

/-! ## Sums over the positions and over the devices -/

/-- The devices are the pairs of a position along z and a position in the plane. -/
def posE : Fin 4 × Fin 4 ≃ Dev nD where
  toFun x := devOf x.1 x.2
  invFun d := (zPos d, pPos d)
  left_inv := by decide +kernel
  right_inv := devOf_self

/-- A sum over the positions is a sum over the devices. -/
theorem sum_dev (A : Dev nD → EReal) : (∑ z : Fin 4, ∑ p : Fin 4, A (devOf z p)) = ∑ d : Dev nD, A d := by
  rw [← Fintype.sum_prod_type']
  exact Fintype.sum_equiv posE _ _ fun _ => rfl

/-- Four terms taken round from any start are the sum of the four. -/
theorem round4 (g : Fin 4 → EReal) (p : Fin 4) : g p + g (p + 3) + g (p + 2) + g (p + 1) = ∑ k : Fin 4, g k := by
  rw [Fin.sum_univ_four]
  match p with
  | 0 => show g 0 + g 3 + g 2 + g 1 = _; ac_rfl
  | 1 => show g 1 + g 0 + g 3 + g 2 = _; ac_rfl
  | 2 => show g 2 + g 1 + g 0 + g 3 = _; ac_rfl
  | 3 => show g 3 + g 2 + g 1 + g 0 = _; ac_rfl

/-- A peer in the plane, by its two positions. -/
theorem pp_devOf (r : Fin 3) (c : Dev nD) : pp (rv r) c = devOf (zPos c) (pPos c + ![3, 2, 1] r) := by
  revert r c; decide +kernel
/-- A peer along z, by its two positions. -/
theorem zz_devOf (r : Fin 3) (c : Dev nD) : zz (rv r) c = devOf (zPos c + ![3, 2, 1] r) (pPos c) := by
  revert r c; decide +kernel
/-- The position along z of the device at two positions -/
theorem zPos_devOf (z p : Fin 4) : zPos (devOf z p) = z := by revert z p; decide
/-- and its position in the plane. -/
theorem pPos_devOf (z p : Fin 4) : pPos (devOf z p) = p := by revert z p; decide

/-- The word that the body computes for the position in the plane. -/
theorem pW_eq (c : Dev nD) : pW c = BitVec.ofNat 32 (pPos c).val := by revert c; decide +kernel
/-- The word that the body computes for the position along z. -/
theorem zW_eq (c : Dev nD) : zW c = BitVec.ofNat 32 (zPos c).val := by revert c; decide +kernel

/-! ## The body's values at an index -/

/-- A slot cast to a matrix. -/
theorem cast42 {a b : Nat} {α : Type} (v : (⟨4, ![1, 1, a, b]⟩ : Shape).Idx → α) (hc) (i : Fin a) (j : Fin b) :
    shapeCast (⟨2, ![a, b]⟩ : Shape) v hc (ix2 i j) = v (ix4 0 0 i j) := by
  refine shapeCast_apply v hc _ _ ?_
  rw [Shape.rowMajor_val_four, Shape.rowMajor_val_two]
  show ((0 * 1 + 0) * a + i.val) * b + j.val = i.val * b + j.val
  simp

/-- The plane sum: the quarter at the device's position and the three received. -/
theorem pay66_at (p : Fin 4) (q : Fin 4 → FVec Ideal S512x128 .bf16) (a b d : Vec Ideal S1x1x512x128 .bf16) (u : Fin 512) (v : Fin 128) :
    k0_pay66 (F := Ideal) (BitVec.ofNat 32 p.val) (q 0) (q 1) (q 2) (q 3) a b d (ix2 u v)
      = ((q p (ix2 u v) + a (ix4 0 0 u v) + b (ix4 0 0 u v) + d (ix4 0 0 u v) : EReal)) := by
  rw [← cast42 a shapeCasts_S1x1x512x128_S512x128 u v, ← cast42 b shapeCasts_S1x1x512x128_S512x128 u v,
    ← cast42 d shapeCasts_S1x1x512x128_S512x128 u v]
  match p with
  | 0 => rfl
  | 1 => rfl
  | 2 => rfl
  | 3 => rfl

/-- A slice of the plane sum. -/
theorem slice_at (s : FVec Ideal S512x128 .bf16) (k : Fin 4) (u v : Fin 128) (w : Fin 512) (hw : w.val = k.val * 128 + u.val) :
    sliceR s k (ix2 u v) = s (ix2 w v) := by
  have e : ∀ (o : Nat) (h : (S512x128 : Shape).Slices ![o, 0] S128x128) (ho : k.val * 128 = o),
      extractStridedSlice S128x128 ![o, 0] s h (ix2 u v) = s (ix2 w v) := by
    intro o h ho
    refine congrArg s (funext fun x => ?_)
    match x with
    | ⟨0, _⟩ => exact Fin.ext (show o + u.val = w.val by omega)
    | ⟨1, _⟩ => exact Fin.ext (show 0 + v.val = v.val by omega)
  match k with
  | 0 => exact e 0 slices_S512x128_o0_0_S128x128 rfl
  | 1 => exact e 128 slices_S512x128_o128_0_S128x128 rfl
  | 2 => exact e 256 slices_S512x128_o256_0_S128x128 rfl
  | 3 => exact e 384 slices_S512x128_o384_0_S128x128 rfl

/-- The device's own slice. -/
theorem pay72_at (k : Fin 4) (s : FVec Ideal S512x128 .bf16) : k0_pay72 (F := Ideal) (BitVec.ofNat 32 k.val) s = sliceR s k := by
  match k with
  | 0 => rfl
  | 1 => rfl
  | 2 => rfl
  | 3 => rfl

/-- The function the kernel applies to a finished sum. -/
def act (s : EReal) : EReal :=
  Ideal.tanh s * s * s + max s (Ideal.ofBits .f32 0x00000000#32) * max s (Ideal.ofBits .f32 0x00000000#32) * max s (Ideal.ofBits .f32 0x00000000#32)

/-- The finished rows: the function of the own slice and the three received. -/
theorem pay125_at (s : FVec Ideal S128x128 .bf16) (a b d : Vec Ideal S1x1x128x128 .bf16) (u v : Fin 128) :
    k0_pay125 (F := Ideal) s a b d (ix2 u v)
      = act ((s (ix2 u v) + a (ix4 0 0 u v) + b (ix4 0 0 u v) + d (ix4 0 0 u v) : EReal)) := by
  rw [← cast42 a shapeCasts_S1x1x128x128_S128x128 u v, ← cast42 b shapeCasts_S1x1x128x128_S128x128 u v,
    ← cast42 d shapeCasts_S1x1x128x128_S128x128 u v]
  rfl

/-! ## The buffers down to the arguments -/

variable (m : (ℓ : Loc nD τ sig) → Buf (Elt Ideal) ℓ)

/-- The column of a head. -/
def col (h : Fin 8) (v : Fin 128) : Fin 1024 := ⟨h.val * 128 + v.val, by omega⟩
/-- The row of a quarter. -/
def row (p : Fin 4) (u : Fin 512) : Fin 2048 := ⟨p.val * 512 + u.val, by omega⟩
/-- The row of a slice of a quarter. -/
def sub (z : Fin 4) (u : Fin 128) : Fin 512 := ⟨z.val * 128 + u.val, by omega⟩

/-- A loaded quarter at an index. -/
theorem vq_at (c : Dev nD) (h : Fin 8) (i : Fin 4) (u : Fin 512) (v : Fin 128) :
    vq m c h i (ix3 0 u v) = aT m c (ix2 (row i u) (col h v)) := by
  show fV m c ((rVq h i).emb (ix3 0 u v)) = _
  have e : (rVq h i).emb (ix3 0 u v) = ix3 h (row i u) v :=
    emb3 h (i.val * 512) (by revert h i; decide +kernel) (by revert h i; decide +kernel) (ix3 0 u v) (row i u) rfl
  rw [e]
  rfl

/-- A quarter at the reals is the argument's rows and columns, unrounded. -/
theorem qq_at (c : Dev nD) (h : Fin 8) (i : Fin 4) (u : Fin 512) (v : Fin 128) :
    qq m c h i (ix2 u v) = aT m c (ix2 (row i u) (col h v)) := by
  refine Eq.trans ?_ (vq_at m c h i u v)
  exact cast2 (vq m c h i) shapeCasts_S1x512x128_S512x128 (ix2 u v)

/-- So is its slot among the quarters to send. -/
theorem fB_at (c : Dev nD) (h : Fin 8) (i : Fin 4) (u : Fin 512) (v : Fin 128) :
    fB m c (ix4 h i u v) = aT m c (ix2 (row i u) (col h v)) := by
  refine Eq.trans ?_ (qq_at m c h i u v)
  exact cast4 (qq m c h i) shapeCasts_S512x128_S1x1x512x128 (ix4 0 0 u v)

/-- A quarter received is the sender's, at the receiver's position. -/
theorem wP_at (c : Dev nD) (h : Fin 8) (r : Fin 3) (u : Fin 512) (v : Fin 128) :
    wP m c h r (ix4 0 0 u v) = aT m (pp (rv r) c) (ix2 (row (pPos c) u) (col h v)) := by
  show fP m c ((rPs h r).emb (ix4 0 0 u v)) = _
  have e : (rPs h r).emb (ix4 0 0 u v) = ix4 h r u v := emb4 h r rfl _ _
  rw [e]
  exact fB_at m (pp (rv r) c) h (pPos c) u v

/-- The plane sum of a head is the sum over the plane. -/
theorem sumP_at (c : Dev nD) (h : Fin 8) (u : Fin 512) (v : Fin 128) :
    sumP m c h (ix2 u v) = ∑ p : Fin 4, (aT m (devOf (zPos c) p) (ix2 (row (pPos c) u) (col h v)) : EReal) := by
  unfold sumP
  rw [pW_eq]
  refine (pay66_at (pPos c) (qq m c h) (wP m c h 0) (wP m c h 1) (wP m c h 2) u v).trans ?_
  rw [qq_at, wP_at, wP_at, wP_at, pp_devOf, pp_devOf, pp_devOf]
  refine Eq.trans ?_ (round4 (fun p => aT m (devOf (zPos c) p) (ix2 (row (pPos c) u) (col h v))) (pPos c))
  show _ = aT m (devOf (zPos c) (pPos c)) _ + _ + _ + _
  rw [devOf_self]
  rfl

/-- A stored slice at an index of the plane sum. -/
theorem fR_at (c : Dev nD) (h : Fin 8) (z : Fin 4) (u v : Fin 128) :
    fR m c (ix4 h z u v) = sumP m c h (ix2 (sub z u) v) := slice_at (sumP m c h) z u v (sub z u) rfl

/-- The own slice at an index of the plane sum. -/
theorem own_at (c : Dev nD) (h : Fin 8) (u v : Fin 128) : own m c h (ix2 u v) = sumP m c h (ix2 (sub (zPos c) u) v) := by
  unfold own
  rw [zW_eq, pay72_at]
  exact slice_at (sumP m c h) (zPos c) u v _ rfl

/-- A slice received is the sender's plane sum, at the receiver's rows. -/
theorem wZ_at (c : Dev nD) (h : Fin 8) (r : Fin 3) (u v : Fin 128) :
    wZ m c h r (ix4 0 0 u v) = sumP m (zz (rv r) c) h (ix2 (sub (zPos c) u) v) := by
  show fZ m c ((rZs h r).emb (ix4 0 0 u v)) = _
  have e : (rZs h r).emb (ix4 0 0 u v) = ix4 h r u v := emb4 h r rfl _ _
  rw [e]
  exact fR_at m (zz (rv r) c) h (zPos c) u v

/-- The finished rows of a head are the function of the sum over all the devices. -/
theorem yy_at (c : Dev nD) (h : Fin 8) (u v : Fin 128) :
    yy m c h (ix2 u v) = act (∑ d : Dev nD, (aT m d (ix2 (row (pPos c) (sub (zPos c) u)) (col h v)) : EReal)) := by
  refine (pay125_at (own m c h) (wZ m c h 0) (wZ m c h 1) (wZ m c h 2) u v).trans (congrArg act ?_)
  rw [own_at, wZ_at, wZ_at, wZ_at, zz_devOf, zz_devOf, zz_devOf, ← sum_dev]
  rw [← round4 (fun z => ∑ p : Fin 4, aT m (devOf z p) (ix2 (row (pPos c) (sub (zPos c) u)) (col h v))) (zPos c)]
  rw [sumP_at, sumP_at, sumP_at, sumP_at]
  simp only [zPos_devOf, pPos_devOf]
  rfl

/-- The result on every device is the function of the sum of the sixteen arguments. -/
theorem fO_val (c : Dev nD) (i : Fin 2048) (j : Fin 1024) :
    fO m c (ix2 i j) = act (∑ d : Dev nD, (aT m d (ix2 i j) : EReal)) := by
  have e := fO_at m c _ ⟨j.val / 128, by omega⟩ ⟨i.val / 512, by omega⟩ rfl i j ⟨i.val % 512, by omega⟩ ⟨j.val % 128, by omega⟩
    (by simp only; omega) (by simp only; omega)
  refine e.trans ?_
  refine (fQ_at m (devOf (zPos c) ⟨i.val / 512, by omega⟩) _ ⟨j.val / 128, by omega⟩ ⟨i.val % 512 / 128, by omega⟩ rfl ⟨i.val % 512, by omega⟩
    ⟨i.val % 128, by omega⟩ ⟨j.val % 128, by omega⟩ (by simp only; omega)).trans ?_
  rw [yy_at]
  simp only [zPos_devOf, pPos_devOf]
  have hr : row ⟨i.val / 512, by omega⟩ (sub ⟨i.val % 512 / 128, by omega⟩ ⟨i.val % 128, by omega⟩) = i :=
    Fin.ext (show i.val / 512 * 512 + (i.val % 512 / 128 * 128 + i.val % 128) = i.val by omega)
  have hc : col ⟨j.val / 128, by omega⟩ ⟨j.val % 128, by omega⟩ = j := Fin.ext (show j.val / 128 * 128 + j.val % 128 = j.val by omega)
  rw [hr, hc]

/-! ## The result array at the end -/

/-- The one block of the result, read in an array of any contents, is the contents. -/
theorem out_block (G : S2048x1024.Idx → Elt Ideal .bf16) (t : Fin cfg0.N) :
    (cfg0.win 0).cut (cfg0.grid.coords t) G = ((cfg0.win 0).blk t).view.read (Elt Ideal) G := by
  obtain rfl := fin_N0 t
  funext x
  refine congrArg G (funext fun a => ?_)
  match a with
  | ⟨0, _⟩ => exact Fin.ext (show (x 0).val = 0 * 2048 + 1 * (x 0).val by omega)
  | ⟨1, _⟩ => exact Fin.ext (show (x 1).val = 0 * 1024 + 1 * (x 1).val by omega)

/-- The result array at the end holds the result: its one block is the whole array. -/
theorem finalA_out (c : Dev nD) : finalA m c 0 = fO m c := by
  unfold finalA
  refine (dats m 0 c).arrAt_eq_of_cover 0 (fO m c) (fun t _ => ?_) fun i => ⟨t0_0, flush0_0 _, ?_⟩
  · unfold Pipeline.Dat.flushed
    exact out_block (fO m c) t
  · show i ∈ ((View.whole main_v1).slice (win0_0.rect t0_0)).set
    rw [View.set_slice_whole, Rect.mem_set_unit]
    intro a
    match a with
    | ⟨0, _⟩ => exact ⟨show 0 * 2048 ≤ (i 0).val by omega, show (i 0).val < 0 * 2048 + 2048 from by have : (i 0).val < 2048 := (i 0).isLt; omega⟩
    | ⟨1, _⟩ => exact ⟨show 0 * 1024 ≤ (i 1).val by omega, show (i 1).val < 0 * 1024 + 1024 from by have : (i 1).val < 1024 := (i 1).isLt; omega⟩

end Cert.KernelIdeal.Heads

end
-- ==== Proof.Algebraic.lean ====
/-
# The kernel computes the reference

At the reals the reference is the same function of the sum of the sixteen row blocks, and the blocks are the devices'
arguments.
-/
module

public import proofs.«01_k».proof.Proof.Values
public import proofs.«01_k».proof.Proof.Frames
public import Idealize.ShloMosaic.Lib.IdealHost

@[expose] public section

noncomputable section

namespace Cert.Proof

open Idealize.ShloMosaic Idealize.ShloMosaic.TcCoe Idealize.ShloMosaic.ValueIdx Idealize.SL.Sem
open Cert.ReferenceIdeal Cert.ReferenceIdeal.Gen

/-- The row of the whole array at a row of a block. -/
def wholeRow (d : Fin 16) (i : Fin 2048) : Fin 32768 := ⟨d.val * 2048 + i.val, by omega⟩

/-- The sum the reference takes. -/
abbrev refSum (x : FVec Ideal S32768x1024 .f32) : FVec Ideal S2048x1024 .f32 :=
  Host.reduceAdd (shapeCast S16x2048x1024 x shapeCasts_S32768x1024_S16x2048x1024) (constant S_ .f32 0x00000000#32) reducesTo_S16x2048x1024_S2048x1024_d0 h_S_

/-- It is the sum of the sixteen row blocks. -/
theorem refSum_at (x : FVec Ideal S32768x1024 .f32) (i : Fin 2048) (j : Fin 1024) :
    refSum x (ix2 i j) = ∑ d : Fin 16, (x (ix2 (wholeRow d i) j) : EReal) := by
  have hred : Shape.Reduces S16x2048x1024 [0] S2048x1024 := by decide
  refine (hostReduceAdd_apply _ _ _ _ _).trans ?_
  refine (Ideal.hostReduceAdd_single reducesTo_S16x2048x1024_S2048x1024_d0 hred _ _ _).trans ?_
  rw [show (constant (F := Ideal) S_ .f32 0x00000000#32 (Shape.Idx.first h_S_) : EReal) = 0 from Ideal.ofBits_zero_f32, zero_add]
  refine Finset.sum_congr rfl fun d _ => ?_
  refine shapeCast_apply x _ _ _ ?_
  rw [show hred.lift (ix2 i j) d = (ix3 d i j : S16x2048x1024.Idx) from funext fun a => by
    match a with
    | ⟨0, _⟩ => rfl
    | ⟨1, _⟩ => rfl
    | ⟨2, _⟩ => rfl]
  rw [Shape.rowMajor_val_three, Shape.rowMajor_val_two]
  rfl

/-- The reference's result. -/
abbrev refOut (x : FVec Ideal S32768x1024 .f32) : FVec Ideal S2048x1024 .bf16 :=
  truncf .bf16 (addf (mulf (mulf (Host.tanh (refSum x)) (refSum x)) (refSum x))
    (mulf (mulf (maximumf (refSum x) (broadcastInDim S2048x1024 ![] bcast_S_S2048x1024 (constant S_ .f32 0x00000000#32)))
      (maximumf (refSum x) (broadcastInDim S2048x1024 ![] bcast_S_S2048x1024 (constant S_ .f32 0x00000000#32))))
      (maximumf (refSum x) (broadcastInDim S2048x1024 ![] bcast_S_S2048x1024 (constant S_ .f32 0x00000000#32))))) bitsLt_bf16_f32

/-- It is the kernel's function of that sum. -/
theorem refOut_at (x : FVec Ideal S32768x1024 .f32) (i : Fin 2048) (j : Fin 1024) :
    refOut x (ix2 i j) = Cert.KernelIdeal.Heads.act (∑ d : Fin 16, (x (ix2 (wholeRow d i) j) : EReal)) := by
  rw [← refSum_at]
  rfl

/-- The kernel's result on a device is the reference's, when the devices hold the row blocks of its argument. -/
theorem result_eq (m : (ℓ : Loc Cert.KernelIdeal.nD Cert.KernelIdeal.τ Cert.KernelIdeal.sig) → Buf (Elt Ideal) ℓ)
    (x : FVec Ideal S32768x1024 .f32)
    (hx : ∀ c : Dev Cert.KernelIdeal.nD, Cert.KernelIdeal.Heads.aT m c = Layout.block ⟨2, ![2048, 1024]⟩ ⟨2, ![32768, 1024]⟩ 0 16 c x)
    (c : Dev Cert.KernelIdeal.nD) : Cert.KernelIdeal.Heads.fO m c = refOut x := by
  funext y
  obtain ⟨i, j, rfl⟩ : ∃ i j, y = ix2 i j := ⟨_, _, eq_ix2 y⟩
  rw [Cert.KernelIdeal.Heads.fO_val, refOut_at]
  refine congrArg _ (Finset.sum_congr rfl fun d _ => ?_)
  rw [hx d]
  refine congrArg x (funext fun a => ?_)
  match a with
  | ⟨0, _⟩ => rfl
  | ⟨1, _⟩ => rfl

/-- The kernel and the reference compute the same at the reals, the result on every device. -/
theorem algebraic : Cert.algebraic_KernelIdeal_ReferenceIdeal := by
  intro m g m' g' _ hx
  refine ⟨refOut (m' (((0 : Dev nD).tc : Thread nD τ).loc main_arg0)), ?_, ?_⟩
  · exact (θ_run Cert.KernelIdeal.defs _ _).mono (fun r h c =>
      ⟨((h.1 c).1 0).trans ((Cert.KernelIdeal.Heads.finalA_out m c).trans (result_eq m _ hx c)), (h.1 c).2⟩)
      (Cert.KernelIdeal.Heads.run_main (F := Ideal) m g)
  · exact (θ_run Cert.ReferenceIdeal.defs _ _).mono (fun r h => h 0) (Cert.ReferenceIdeal.Value.run (F := Ideal) m' g')

end Cert.Proof

end
-- ==== Proof.lean ====
/-
# The certificate's claims
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

/-- Everything claimed. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
